-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_GatedProject (m : (ℓ : Loc Cert.GatedProject.nD Cert.GatedProject.τ Cert.GatedProject.sig) → Buf (Elt Bits) ℓ) : Prop :=
  True

def Pre_GatedProjectIdeal (m : (ℓ : Loc Cert.GatedProjectIdeal.nD Cert.GatedProjectIdeal.τ Cert.GatedProjectIdeal.sig) → Buf (Elt Ideal) ℓ) : Prop :=
  True

def Pre_GatedProjectReferenceIdeal (m : (ℓ : Loc Cert.GatedProjectReferenceIdeal.nD Cert.GatedProjectReferenceIdeal.τ Cert.GatedProjectReferenceIdeal.sig) → Buf (Elt Ideal) ℓ) : Prop :=
  True

def Pre_StateProject (m : (ℓ : Loc Cert.StateProject.nD Cert.StateProject.τ Cert.StateProject.sig) → Buf (Elt Bits) ℓ) : Prop :=
  True

def Pre_StateProjectIdeal (m : (ℓ : Loc Cert.StateProjectIdeal.nD Cert.StateProjectIdeal.τ Cert.StateProjectIdeal.sig) → Buf (Elt Ideal) ℓ) : Prop :=
  True

def Pre_StateProjectReferenceIdeal (m : (ℓ : Loc Cert.StateProjectReferenceIdeal.nD Cert.StateProjectReferenceIdeal.τ Cert.StateProjectReferenceIdeal.sig) → Buf (Elt Ideal) ℓ) : Prop :=
  True

def Pre_NarrowOutput (m : (ℓ : Loc Cert.NarrowOutput.nD Cert.NarrowOutput.τ Cert.NarrowOutput.sig) → Buf (Elt Bits) ℓ) : Prop :=
  True

def Pre_NarrowOutputIdeal (m : (ℓ : Loc Cert.NarrowOutputIdeal.nD Cert.NarrowOutputIdeal.τ Cert.NarrowOutputIdeal.sig) → Buf (Elt Ideal) ℓ) : Prop :=
  True

def Pre_NarrowOutputReferenceIdeal (m : (ℓ : Loc Cert.NarrowOutputReferenceIdeal.nD Cert.NarrowOutputReferenceIdeal.τ Cert.NarrowOutputReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4))
      ∧ r.2.sem = fun _ => 0)

def quiescent_GatedProject [hGatedProject : Cert.GatedProject.Facts] : Prop :=
  ∀ (m : (ℓ : Loc Cert.GatedProject.nD Cert.GatedProject.τ Cert.GatedProject.sig) → Buf (Elt Bits) ℓ) (g : Dev Cert.GatedProject.nD → PrngReg), Pre_GatedProject m →
    θ_run (Cert.GatedProject.defs (F := Bits)) (onTc (τ := Cert.GatedProject.τ) (Cert.GatedProject.main (F := Bits))) ⟨m, fun _ => 0, g⟩ (fun r => (∀ c : Dev Cert.GatedProject.nD,
      r.2.mem ((c.tc : Thread Cert.GatedProject.nD Cert.GatedProject.τ).loc Cert.GatedProject.main_arg0) = m ((c.tc : Thread Cert.GatedProject.nD Cert.GatedProject.τ).loc Cert.GatedProject.main_arg0)
      ∧ r.2.mem ((c.tc : Thread Cert.GatedProject.nD Cert.GatedProject.τ).loc Cert.GatedProject.main_arg1) = m ((c.tc : Thread Cert.GatedProject.nD Cert.GatedProject.τ).loc Cert.GatedProject.main_arg1)
      ∧ r.2.mem ((c.tc : Thread Cert.GatedProject.nD Cert.GatedProject.τ).loc Cert.GatedProject.main_arg2) = m ((c.tc : Thread Cert.GatedProject.nD Cert.GatedProject.τ).loc Cert.GatedProject.main_arg2)
      ∧ r.2.mem ((c.tc : Thread Cert.GatedProject.nD Cert.GatedProject.τ).loc Cert.GatedProject.main_arg3) = m ((c.tc : Thread Cert.GatedProject.nD Cert.GatedProject.τ).loc Cert.GatedProject.main_arg3)
      ∧ r.2.mem ((c.tc : Thread Cert.GatedProject.nD Cert.GatedProject.τ).loc Cert.GatedProject.main_arg4) = m ((c.tc : Thread Cert.GatedProject.nD Cert.GatedProject.τ).loc Cert.GatedProject.main_arg4))
      ∧ r.2.sem = fun _ => 0)

def quiescent_GatedProjectIdeal [hGatedProjectIdeal : Cert.GatedProjectIdeal.Facts] : Prop :=
  ∀ (m : (ℓ : Loc Cert.GatedProjectIdeal.nD Cert.GatedProjectIdeal.τ Cert.GatedProjectIdeal.sig) → Buf (Elt Ideal) ℓ) (g : Dev Cert.GatedProjectIdeal.nD → PrngReg), Pre_GatedProjectIdeal m →
    θ_run (Cert.GatedProjectIdeal.defs (F := Ideal)) (onTc (τ := Cert.GatedProjectIdeal.τ) (Cert.GatedProjectIdeal.main (F := Ideal))) ⟨m, fun _ => 0, g⟩ (fun r => (∀ c : Dev Cert.GatedProjectIdeal.nD,
      r.2.mem ((c.tc : Thread Cert.GatedProjectIdeal.nD Cert.GatedProjectIdeal.τ).loc Cert.GatedProjectIdeal.main_arg0) = m ((c.tc : Thread Cert.GatedProjectIdeal.nD Cert.GatedProjectIdeal.τ).loc Cert.GatedProjectIdeal.main_arg0)
      ∧ r.2.mem ((c.tc : Thread Cert.GatedProjectIdeal.nD Cert.GatedProjectIdeal.τ).loc Cert.GatedProjectIdeal.main_arg1) = m ((c.tc : Thread Cert.GatedProjectIdeal.nD Cert.GatedProjectIdeal.τ).loc Cert.GatedProjectIdeal.main_arg1)
      ∧ r.2.mem ((c.tc : Thread Cert.GatedProjectIdeal.nD Cert.GatedProjectIdeal.τ).loc Cert.GatedProjectIdeal.main_arg2) = m ((c.tc : Thread Cert.GatedProjectIdeal.nD Cert.GatedProjectIdeal.τ).loc Cert.GatedProjectIdeal.main_arg2)
      ∧ r.2.mem ((c.tc : Thread Cert.GatedProjectIdeal.nD Cert.GatedProjectIdeal.τ).loc Cert.GatedProjectIdeal.main_arg3) = m ((c.tc : Thread Cert.GatedProjectIdeal.nD Cert.GatedProjectIdeal.τ).loc Cert.GatedProjectIdeal.main_arg3)
      ∧ r.2.mem ((c.tc : Thread Cert.GatedProjectIdeal.nD Cert.GatedProjectIdeal.τ).loc Cert.GatedProjectIdeal.main_arg4) = m ((c.tc : Thread Cert.GatedProjectIdeal.nD Cert.GatedProjectIdeal.τ).loc Cert.GatedProjectIdeal.main_arg4))
      ∧ r.2.sem = fun _ => 0)

def quiescent_GatedProjectReferenceIdeal [hGatedProjectReferenceIdeal : Cert.GatedProjectReferenceIdeal.Facts] : Prop :=
  ∀ (m : (ℓ : Loc Cert.GatedProjectReferenceIdeal.nD Cert.GatedProjectReferenceIdeal.τ Cert.GatedProjectReferenceIdeal.sig) → Buf (Elt Ideal) ℓ) (g : Dev Cert.GatedProjectReferenceIdeal.nD → PrngReg), Pre_GatedProjectReferenceIdeal m →
    θ_run (Cert.GatedProjectReferenceIdeal.defs (F := Ideal)) (onTc (τ := Cert.GatedProjectReferenceIdeal.τ) (Cert.GatedProjectReferenceIdeal.main (F := Ideal))) ⟨m, fun _ => 0, g⟩ (fun r => (∀ c : Dev Cert.GatedProjectReferenceIdeal.nD,
      r.2.mem ((c.tc : Thread Cert.GatedProjectReferenceIdeal.nD Cert.GatedProjectReferenceIdeal.τ).loc Cert.GatedProjectReferenceIdeal.main_arg0) = m ((c.tc : Thread Cert.GatedProjectReferenceIdeal.nD Cert.GatedProjectReferenceIdeal.τ).loc Cert.GatedProjectReferenceIdeal.main_arg0)
      ∧ r.2.mem ((c.tc : Thread Cert.GatedProjectReferenceIdeal.nD Cert.GatedProjectReferenceIdeal.τ).loc Cert.GatedProjectReferenceIdeal.main_arg1) = m ((c.tc : Thread Cert.GatedProjectReferenceIdeal.nD Cert.GatedProjectReferenceIdeal.τ).loc Cert.GatedProjectReferenceIdeal.main_arg1)
      ∧ r.2.mem ((c.tc : Thread Cert.GatedProjectReferenceIdeal.nD Cert.GatedProjectReferenceIdeal.τ).loc Cert.GatedProjectReferenceIdeal.main_arg2) = m ((c.tc : Thread Cert.GatedProjectReferenceIdeal.nD Cert.GatedProjectReferenceIdeal.τ).loc Cert.GatedProjectReferenceIdeal.main_arg2)
      ∧ r.2.mem ((c.tc : Thread Cert.GatedProjectReferenceIdeal.nD Cert.GatedProjectReferenceIdeal.τ).loc Cert.GatedProjectReferenceIdeal.main_arg3) = m ((c.tc : Thread Cert.GatedProjectReferenceIdeal.nD Cert.GatedProjectReferenceIdeal.τ).loc Cert.GatedProjectReferenceIdeal.main_arg3)
      ∧ r.2.mem ((c.tc : Thread Cert.GatedProjectReferenceIdeal.nD Cert.GatedProjectReferenceIdeal.τ).loc Cert.GatedProjectReferenceIdeal.main_arg4) = m ((c.tc : Thread Cert.GatedProjectReferenceIdeal.nD Cert.GatedProjectReferenceIdeal.τ).loc Cert.GatedProjectReferenceIdeal.main_arg4))
      ∧ r.2.sem = fun _ => 0)

def quiescent_StateProject [hStateProject : Cert.StateProject.Facts] : Prop :=
  ∀ (m : (ℓ : Loc Cert.StateProject.nD Cert.StateProject.τ Cert.StateProject.sig) → Buf (Elt Bits) ℓ) (g : Dev Cert.StateProject.nD → PrngReg), Pre_StateProject m →
    θ_run (Cert.StateProject.defs (F := Bits)) (onTc (τ := Cert.StateProject.τ) (Cert.StateProject.main (F := Bits))) ⟨m, fun _ => 0, g⟩ (fun r => (∀ c : Dev Cert.StateProject.nD,
      r.2.mem ((c.tc : Thread Cert.StateProject.nD Cert.StateProject.τ).loc Cert.StateProject.main_arg0) = m ((c.tc : Thread Cert.StateProject.nD Cert.StateProject.τ).loc Cert.StateProject.main_arg0)
      ∧ r.2.mem ((c.tc : Thread Cert.StateProject.nD Cert.StateProject.τ).loc Cert.StateProject.main_arg1) = m ((c.tc : Thread Cert.StateProject.nD Cert.StateProject.τ).loc Cert.StateProject.main_arg1)
      ∧ r.2.mem ((c.tc : Thread Cert.StateProject.nD Cert.StateProject.τ).loc Cert.StateProject.main_arg2) = m ((c.tc : Thread Cert.StateProject.nD Cert.StateProject.τ).loc Cert.StateProject.main_arg2)
      ∧ r.2.mem ((c.tc : Thread Cert.StateProject.nD Cert.StateProject.τ).loc Cert.StateProject.main_arg3) = m ((c.tc : Thread Cert.StateProject.nD Cert.StateProject.τ).loc Cert.StateProject.main_arg3)
      ∧ r.2.mem ((c.tc : Thread Cert.StateProject.nD Cert.StateProject.τ).loc Cert.StateProject.main_arg4) = m ((c.tc : Thread Cert.StateProject.nD Cert.StateProject.τ).loc Cert.StateProject.main_arg4))
      ∧ r.2.sem = fun _ => 0)

def quiescent_StateProjectIdeal [hStateProjectIdeal : Cert.StateProjectIdeal.Facts] : Prop :=
  ∀ (m : (ℓ : Loc Cert.StateProjectIdeal.nD Cert.StateProjectIdeal.τ Cert.StateProjectIdeal.sig) → Buf (Elt Ideal) ℓ) (g : Dev Cert.StateProjectIdeal.nD → PrngReg), Pre_StateProjectIdeal m →
    θ_run (Cert.StateProjectIdeal.defs (F := Ideal)) (onTc (τ := Cert.StateProjectIdeal.τ) (Cert.StateProjectIdeal.main (F := Ideal))) ⟨m, fun _ => 0, g⟩ (fun r => (∀ c : Dev Cert.StateProjectIdeal.nD,
      r.2.mem ((c.tc : Thread Cert.StateProjectIdeal.nD Cert.StateProjectIdeal.τ).loc Cert.StateProjectIdeal.main_arg0) = m ((c.tc : Thread Cert.StateProjectIdeal.nD Cert.StateProjectIdeal.τ).loc Cert.StateProjectIdeal.main_arg0)
      ∧ r.2.mem ((c.tc : Thread Cert.StateProjectIdeal.nD Cert.StateProjectIdeal.τ).loc Cert.StateProjectIdeal.main_arg1) = m ((c.tc : Thread Cert.StateProjectIdeal.nD Cert.StateProjectIdeal.τ).loc Cert.StateProjectIdeal.main_arg1)
      ∧ r.2.mem ((c.tc : Thread Cert.StateProjectIdeal.nD Cert.StateProjectIdeal.τ).loc Cert.StateProjectIdeal.main_arg2) = m ((c.tc : Thread Cert.StateProjectIdeal.nD Cert.StateProjectIdeal.τ).loc Cert.StateProjectIdeal.main_arg2)
      ∧ r.2.mem ((c.tc : Thread Cert.StateProjectIdeal.nD Cert.StateProjectIdeal.τ).loc Cert.StateProjectIdeal.main_arg3) = m ((c.tc : Thread Cert.StateProjectIdeal.nD Cert.StateProjectIdeal.τ).loc Cert.StateProjectIdeal.main_arg3)
      ∧ r.2.mem ((c.tc : Thread Cert.StateProjectIdeal.nD Cert.StateProjectIdeal.τ).loc Cert.StateProjectIdeal.main_arg4) = m ((c.tc : Thread Cert.StateProjectIdeal.nD Cert.StateProjectIdeal.τ).loc Cert.StateProjectIdeal.main_arg4))
      ∧ r.2.sem = fun _ => 0)

def quiescent_StateProjectReferenceIdeal [hStateProjectReferenceIdeal : Cert.StateProjectReferenceIdeal.Facts] : Prop :=
  ∀ (m : (ℓ : Loc Cert.StateProjectReferenceIdeal.nD Cert.StateProjectReferenceIdeal.τ Cert.StateProjectReferenceIdeal.sig) → Buf (Elt Ideal) ℓ) (g : Dev Cert.StateProjectReferenceIdeal.nD → PrngReg), Pre_StateProjectReferenceIdeal m →
    θ_run (Cert.StateProjectReferenceIdeal.defs (F := Ideal)) (onTc (τ := Cert.StateProjectReferenceIdeal.τ) (Cert.StateProjectReferenceIdeal.main (F := Ideal))) ⟨m, fun _ => 0, g⟩ (fun r => (∀ c : Dev Cert.StateProjectReferenceIdeal.nD,
      r.2.mem ((c.tc : Thread Cert.StateProjectReferenceIdeal.nD Cert.StateProjectReferenceIdeal.τ).loc Cert.StateProjectReferenceIdeal.main_arg0) = m ((c.tc : Thread Cert.StateProjectReferenceIdeal.nD Cert.StateProjectReferenceIdeal.τ).loc Cert.StateProjectReferenceIdeal.main_arg0)
      ∧ r.2.mem ((c.tc : Thread Cert.StateProjectReferenceIdeal.nD Cert.StateProjectReferenceIdeal.τ).loc Cert.StateProjectReferenceIdeal.main_arg1) = m ((c.tc : Thread Cert.StateProjectReferenceIdeal.nD Cert.StateProjectReferenceIdeal.τ).loc Cert.StateProjectReferenceIdeal.main_arg1)
      ∧ r.2.mem ((c.tc : Thread Cert.StateProjectReferenceIdeal.nD Cert.StateProjectReferenceIdeal.τ).loc Cert.StateProjectReferenceIdeal.main_arg2) = m ((c.tc : Thread Cert.StateProjectReferenceIdeal.nD Cert.StateProjectReferenceIdeal.τ).loc Cert.StateProjectReferenceIdeal.main_arg2)
      ∧ r.2.mem ((c.tc : Thread Cert.StateProjectReferenceIdeal.nD Cert.StateProjectReferenceIdeal.τ).loc Cert.StateProjectReferenceIdeal.main_arg3) = m ((c.tc : Thread Cert.StateProjectReferenceIdeal.nD Cert.StateProjectReferenceIdeal.τ).loc Cert.StateProjectReferenceIdeal.main_arg3)
      ∧ r.2.mem ((c.tc : Thread Cert.StateProjectReferenceIdeal.nD Cert.StateProjectReferenceIdeal.τ).loc Cert.StateProjectReferenceIdeal.main_arg4) = m ((c.tc : Thread Cert.StateProjectReferenceIdeal.nD Cert.StateProjectReferenceIdeal.τ).loc Cert.StateProjectReferenceIdeal.main_arg4))
      ∧ r.2.sem = fun _ => 0)

def quiescent_NarrowOutput [hNarrowOutput : Cert.NarrowOutput.Facts] : Prop :=
  ∀ (m : (ℓ : Loc Cert.NarrowOutput.nD Cert.NarrowOutput.τ Cert.NarrowOutput.sig) → Buf (Elt Bits) ℓ) (g : Dev Cert.NarrowOutput.nD → PrngReg), Pre_NarrowOutput m →
    θ_run (Cert.NarrowOutput.defs (F := Bits)) (onTc (τ := Cert.NarrowOutput.τ) (Cert.NarrowOutput.main (F := Bits))) ⟨m, fun _ => 0, g⟩ (fun r => (∀ c : Dev Cert.NarrowOutput.nD,
      r.2.mem ((c.tc : Thread Cert.NarrowOutput.nD Cert.NarrowOutput.τ).loc Cert.NarrowOutput.main_arg0) = m ((c.tc : Thread Cert.NarrowOutput.nD Cert.NarrowOutput.τ).loc Cert.NarrowOutput.main_arg0)
      ∧ r.2.mem ((c.tc : Thread Cert.NarrowOutput.nD Cert.NarrowOutput.τ).loc Cert.NarrowOutput.main_arg1) = m ((c.tc : Thread Cert.NarrowOutput.nD Cert.NarrowOutput.τ).loc Cert.NarrowOutput.main_arg1)
      ∧ r.2.mem ((c.tc : Thread Cert.NarrowOutput.nD Cert.NarrowOutput.τ).loc Cert.NarrowOutput.main_arg2) = m ((c.tc : Thread Cert.NarrowOutput.nD Cert.NarrowOutput.τ).loc Cert.NarrowOutput.main_arg2)
      ∧ r.2.mem ((c.tc : Thread Cert.NarrowOutput.nD Cert.NarrowOutput.τ).loc Cert.NarrowOutput.main_arg3) = m ((c.tc : Thread Cert.NarrowOutput.nD Cert.NarrowOutput.τ).loc Cert.NarrowOutput.main_arg3)
      ∧ r.2.mem ((c.tc : Thread Cert.NarrowOutput.nD Cert.NarrowOutput.τ).loc Cert.NarrowOutput.main_arg4) = m ((c.tc : Thread Cert.NarrowOutput.nD Cert.NarrowOutput.τ).loc Cert.NarrowOutput.main_arg4))
      ∧ r.2.sem = fun _ => 0)

def quiescent_NarrowOutputIdeal [hNarrowOutputIdeal : Cert.NarrowOutputIdeal.Facts] : Prop :=
  ∀ (m : (ℓ : Loc Cert.NarrowOutputIdeal.nD Cert.NarrowOutputIdeal.τ Cert.NarrowOutputIdeal.sig) → Buf (Elt Ideal) ℓ) (g : Dev Cert.NarrowOutputIdeal.nD → PrngReg), Pre_NarrowOutputIdeal m →
    θ_run (Cert.NarrowOutputIdeal.defs (F := Ideal)) (onTc (τ := Cert.NarrowOutputIdeal.τ) (Cert.NarrowOutputIdeal.main (F := Ideal))) ⟨m, fun _ => 0, g⟩ (fun r => (∀ c : Dev Cert.NarrowOutputIdeal.nD,
      r.2.mem ((c.tc : Thread Cert.NarrowOutputIdeal.nD Cert.NarrowOutputIdeal.τ).loc Cert.NarrowOutputIdeal.main_arg0) = m ((c.tc : Thread Cert.NarrowOutputIdeal.nD Cert.NarrowOutputIdeal.τ).loc Cert.NarrowOutputIdeal.main_arg0)
      ∧ r.2.mem ((c.tc : Thread Cert.NarrowOutputIdeal.nD Cert.NarrowOutputIdeal.τ).loc Cert.NarrowOutputIdeal.main_arg1) = m ((c.tc : Thread Cert.NarrowOutputIdeal.nD Cert.NarrowOutputIdeal.τ).loc Cert.NarrowOutputIdeal.main_arg1)
      ∧ r.2.mem ((c.tc : Thread Cert.NarrowOutputIdeal.nD Cert.NarrowOutputIdeal.τ).loc Cert.NarrowOutputIdeal.main_arg2) = m ((c.tc : Thread Cert.NarrowOutputIdeal.nD Cert.NarrowOutputIdeal.τ).loc Cert.NarrowOutputIdeal.main_arg2)
      ∧ r.2.mem ((c.tc : Thread Cert.NarrowOutputIdeal.nD Cert.NarrowOutputIdeal.τ).loc Cert.NarrowOutputIdeal.main_arg3) = m ((c.tc : Thread Cert.NarrowOutputIdeal.nD Cert.NarrowOutputIdeal.τ).loc Cert.NarrowOutputIdeal.main_arg3)
      ∧ r.2.mem ((c.tc : Thread Cert.NarrowOutputIdeal.nD Cert.NarrowOutputIdeal.τ).loc Cert.NarrowOutputIdeal.main_arg4) = m ((c.tc : Thread Cert.NarrowOutputIdeal.nD Cert.NarrowOutputIdeal.τ).loc Cert.NarrowOutputIdeal.main_arg4))
      ∧ r.2.sem = fun _ => 0)

def quiescent_NarrowOutputReferenceIdeal [hNarrowOutputReferenceIdeal : Cert.NarrowOutputReferenceIdeal.Facts] : Prop :=
  ∀ (m : (ℓ : Loc Cert.NarrowOutputReferenceIdeal.nD Cert.NarrowOutputReferenceIdeal.τ Cert.NarrowOutputReferenceIdeal.sig) → Buf (Elt Ideal) ℓ) (g : Dev Cert.NarrowOutputReferenceIdeal.nD → PrngReg), Pre_NarrowOutputReferenceIdeal m →
    θ_run (Cert.NarrowOutputReferenceIdeal.defs (F := Ideal)) (onTc (τ := Cert.NarrowOutputReferenceIdeal.τ) (Cert.NarrowOutputReferenceIdeal.main (F := Ideal))) ⟨m, fun _ => 0, g⟩ (fun r => (∀ c : Dev Cert.NarrowOutputReferenceIdeal.nD,
      r.2.mem ((c.tc : Thread Cert.NarrowOutputReferenceIdeal.nD Cert.NarrowOutputReferenceIdeal.τ).loc Cert.NarrowOutputReferenceIdeal.main_arg0) = m ((c.tc : Thread Cert.NarrowOutputReferenceIdeal.nD Cert.NarrowOutputReferenceIdeal.τ).loc Cert.NarrowOutputReferenceIdeal.main_arg0)
      ∧ r.2.mem ((c.tc : Thread Cert.NarrowOutputReferenceIdeal.nD Cert.NarrowOutputReferenceIdeal.τ).loc Cert.NarrowOutputReferenceIdeal.main_arg1) = m ((c.tc : Thread Cert.NarrowOutputReferenceIdeal.nD Cert.NarrowOutputReferenceIdeal.τ).loc Cert.NarrowOutputReferenceIdeal.main_arg1)
      ∧ r.2.mem ((c.tc : Thread Cert.NarrowOutputReferenceIdeal.nD Cert.NarrowOutputReferenceIdeal.τ).loc Cert.NarrowOutputReferenceIdeal.main_arg2) = m ((c.tc : Thread Cert.NarrowOutputReferenceIdeal.nD Cert.NarrowOutputReferenceIdeal.τ).loc Cert.NarrowOutputReferenceIdeal.main_arg2)
      ∧ r.2.mem ((c.tc : Thread Cert.NarrowOutputReferenceIdeal.nD Cert.NarrowOutputReferenceIdeal.τ).loc Cert.NarrowOutputReferenceIdeal.main_arg3) = m ((c.tc : Thread Cert.NarrowOutputReferenceIdeal.nD Cert.NarrowOutputReferenceIdeal.τ).loc Cert.NarrowOutputReferenceIdeal.main_arg3)
      ∧ r.2.mem ((c.tc : Thread Cert.NarrowOutputReferenceIdeal.nD Cert.NarrowOutputReferenceIdeal.τ).loc Cert.NarrowOutputReferenceIdeal.main_arg4) = m ((c.tc : Thread Cert.NarrowOutputReferenceIdeal.nD Cert.NarrowOutputReferenceIdeal.τ).loc Cert.NarrowOutputReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_v264) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v78) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v20) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)) →
    ∃ (v0 : (c : Dev Cert.OutputIdeal.nD) → Buf (Elt Ideal) ((c.tc : Thread Cert.OutputIdeal.nD Cert.OutputIdeal.τ).loc Cert.OutputIdeal.main_v2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v2) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v17) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4))

def preserves_GatedProject_GatedProjectIdeal : Prop :=
  True

def algebraic_GatedProjectIdeal_GatedProjectReferenceIdeal [hGatedProjectIdeal : Cert.GatedProjectIdeal.Facts] [hGatedProjectReferenceIdeal : Cert.GatedProjectReferenceIdeal.Facts] : Prop :=
  ∀ (m : (ℓ : Loc Cert.GatedProjectIdeal.nD Cert.GatedProjectIdeal.τ Cert.GatedProjectIdeal.sig) → Buf (Elt Ideal) ℓ) (g : Dev Cert.GatedProjectIdeal.nD → PrngReg)
    (m' : (ℓ : Loc Cert.GatedProjectReferenceIdeal.nD Cert.GatedProjectReferenceIdeal.τ Cert.GatedProjectReferenceIdeal.sig) → Buf (Elt Ideal) ℓ) (g' : Dev Cert.GatedProjectReferenceIdeal.nD → PrngReg), Pre_GatedProjectIdeal m →
    (∀ c : Dev Cert.GatedProjectIdeal.nD,
      m' ((c.tc : Thread Cert.GatedProjectReferenceIdeal.nD Cert.GatedProjectReferenceIdeal.τ).loc Cert.GatedProjectReferenceIdeal.main_arg0) = m ((c.tc : Thread Cert.GatedProjectIdeal.nD Cert.GatedProjectIdeal.τ).loc Cert.GatedProjectIdeal.main_arg0)
      ∧ m' ((c.tc : Thread Cert.GatedProjectReferenceIdeal.nD Cert.GatedProjectReferenceIdeal.τ).loc Cert.GatedProjectReferenceIdeal.main_arg1) = m ((c.tc : Thread Cert.GatedProjectIdeal.nD Cert.GatedProjectIdeal.τ).loc Cert.GatedProjectIdeal.main_arg1)
      ∧ m' ((c.tc : Thread Cert.GatedProjectReferenceIdeal.nD Cert.GatedProjectReferenceIdeal.τ).loc Cert.GatedProjectReferenceIdeal.main_arg2) = m ((c.tc : Thread Cert.GatedProjectIdeal.nD Cert.GatedProjectIdeal.τ).loc Cert.GatedProjectIdeal.main_arg2)
      ∧ m' ((c.tc : Thread Cert.GatedProjectReferenceIdeal.nD Cert.GatedProjectReferenceIdeal.τ).loc Cert.GatedProjectReferenceIdeal.main_arg3) = m ((c.tc : Thread Cert.GatedProjectIdeal.nD Cert.GatedProjectIdeal.τ).loc Cert.GatedProjectIdeal.main_arg3)
      ∧ m' ((c.tc : Thread Cert.GatedProjectReferenceIdeal.nD Cert.GatedProjectReferenceIdeal.τ).loc Cert.GatedProjectReferenceIdeal.main_arg4) = m ((c.tc : Thread Cert.GatedProjectIdeal.nD Cert.GatedProjectIdeal.τ).loc Cert.GatedProjectIdeal.main_arg4)) →
    ∃ (v0 : (c : Dev Cert.GatedProjectIdeal.nD) → Buf (Elt Ideal) ((c.tc : Thread Cert.GatedProjectIdeal.nD Cert.GatedProjectIdeal.τ).loc Cert.GatedProjectIdeal.main_v10_0)) (v1 : (c : Dev Cert.GatedProjectIdeal.nD) → Buf (Elt Ideal) ((c.tc : Thread Cert.GatedProjectIdeal.nD Cert.GatedProjectIdeal.τ).loc Cert.GatedProjectIdeal.main_v10_1)),
      θ_run (Cert.GatedProjectIdeal.defs (F := Ideal)) (onTc (τ := Cert.GatedProjectIdeal.τ) (Cert.GatedProjectIdeal.main (F := Ideal))) ⟨m, fun _ => 0, g⟩ (fun r => ∀ c : Dev Cert.GatedProjectIdeal.nD,
          r.2.mem ((c.tc : Thread Cert.GatedProjectIdeal.nD Cert.GatedProjectIdeal.τ).loc Cert.GatedProjectIdeal.main_v10_0) = v0 c
          ∧ r.2.mem ((c.tc : Thread Cert.GatedProjectIdeal.nD Cert.GatedProjectIdeal.τ).loc Cert.GatedProjectIdeal.main_v10_1) = v1 c
          ∧ r.2.mem ((c.tc : Thread Cert.GatedProjectIdeal.nD Cert.GatedProjectIdeal.τ).loc Cert.GatedProjectIdeal.main_arg0) = m ((c.tc : Thread Cert.GatedProjectIdeal.nD Cert.GatedProjectIdeal.τ).loc Cert.GatedProjectIdeal.main_arg0)
          ∧ r.2.mem ((c.tc : Thread Cert.GatedProjectIdeal.nD Cert.GatedProjectIdeal.τ).loc Cert.GatedProjectIdeal.main_arg1) = m ((c.tc : Thread Cert.GatedProjectIdeal.nD Cert.GatedProjectIdeal.τ).loc Cert.GatedProjectIdeal.main_arg1)
          ∧ r.2.mem ((c.tc : Thread Cert.GatedProjectIdeal.nD Cert.GatedProjectIdeal.τ).loc Cert.GatedProjectIdeal.main_arg2) = m ((c.tc : Thread Cert.GatedProjectIdeal.nD Cert.GatedProjectIdeal.τ).loc Cert.GatedProjectIdeal.main_arg2)
          ∧ r.2.mem ((c.tc : Thread Cert.GatedProjectIdeal.nD Cert.GatedProjectIdeal.τ).loc Cert.GatedProjectIdeal.main_arg3) = m ((c.tc : Thread Cert.GatedProjectIdeal.nD Cert.GatedProjectIdeal.τ).loc Cert.GatedProjectIdeal.main_arg3)
          ∧ r.2.mem ((c.tc : Thread Cert.GatedProjectIdeal.nD Cert.GatedProjectIdeal.τ).loc Cert.GatedProjectIdeal.main_arg4) = m ((c.tc : Thread Cert.GatedProjectIdeal.nD Cert.GatedProjectIdeal.τ).loc Cert.GatedProjectIdeal.main_arg4))
      ∧ θ_run (Cert.GatedProjectReferenceIdeal.defs (F := Ideal)) (onTc (τ := Cert.GatedProjectReferenceIdeal.τ) (Cert.GatedProjectReferenceIdeal.main (F := Ideal))) ⟨m', fun _ => 0, g'⟩ (fun r => ∀ c : Dev Cert.GatedProjectReferenceIdeal.nD,
          r.2.mem ((c.tc : Thread Cert.GatedProjectReferenceIdeal.nD Cert.GatedProjectReferenceIdeal.τ).loc Cert.GatedProjectReferenceIdeal.main_v26) = v0 c
          ∧ r.2.mem ((c.tc : Thread Cert.GatedProjectReferenceIdeal.nD Cert.GatedProjectReferenceIdeal.τ).loc Cert.GatedProjectReferenceIdeal.main_v27) = v1 c
          ∧ r.2.mem ((c.tc : Thread Cert.GatedProjectReferenceIdeal.nD Cert.GatedProjectReferenceIdeal.τ).loc Cert.GatedProjectReferenceIdeal.main_arg0) = m' ((c.tc : Thread Cert.GatedProjectReferenceIdeal.nD Cert.GatedProjectReferenceIdeal.τ).loc Cert.GatedProjectReferenceIdeal.main_arg0)
          ∧ r.2.mem ((c.tc : Thread Cert.GatedProjectReferenceIdeal.nD Cert.GatedProjectReferenceIdeal.τ).loc Cert.GatedProjectReferenceIdeal.main_arg1) = m' ((c.tc : Thread Cert.GatedProjectReferenceIdeal.nD Cert.GatedProjectReferenceIdeal.τ).loc Cert.GatedProjectReferenceIdeal.main_arg1)
          ∧ r.2.mem ((c.tc : Thread Cert.GatedProjectReferenceIdeal.nD Cert.GatedProjectReferenceIdeal.τ).loc Cert.GatedProjectReferenceIdeal.main_arg2) = m' ((c.tc : Thread Cert.GatedProjectReferenceIdeal.nD Cert.GatedProjectReferenceIdeal.τ).loc Cert.GatedProjectReferenceIdeal.main_arg2)
          ∧ r.2.mem ((c.tc : Thread Cert.GatedProjectReferenceIdeal.nD Cert.GatedProjectReferenceIdeal.τ).loc Cert.GatedProjectReferenceIdeal.main_arg3) = m' ((c.tc : Thread Cert.GatedProjectReferenceIdeal.nD Cert.GatedProjectReferenceIdeal.τ).loc Cert.GatedProjectReferenceIdeal.main_arg3)
          ∧ r.2.mem ((c.tc : Thread Cert.GatedProjectReferenceIdeal.nD Cert.GatedProjectReferenceIdeal.τ).loc Cert.GatedProjectReferenceIdeal.main_arg4) = m' ((c.tc : Thread Cert.GatedProjectReferenceIdeal.nD Cert.GatedProjectReferenceIdeal.τ).loc Cert.GatedProjectReferenceIdeal.main_arg4))

def preserves_StateProject_StateProjectIdeal : Prop :=
  True

def algebraic_StateProjectIdeal_StateProjectReferenceIdeal [hStateProjectIdeal : Cert.StateProjectIdeal.Facts] [hStateProjectReferenceIdeal : Cert.StateProjectReferenceIdeal.Facts] : Prop :=
  ∀ (m : (ℓ : Loc Cert.StateProjectIdeal.nD Cert.StateProjectIdeal.τ Cert.StateProjectIdeal.sig) → Buf (Elt Ideal) ℓ) (g : Dev Cert.StateProjectIdeal.nD → PrngReg)
    (m' : (ℓ : Loc Cert.StateProjectReferenceIdeal.nD Cert.StateProjectReferenceIdeal.τ Cert.StateProjectReferenceIdeal.sig) → Buf (Elt Ideal) ℓ) (g' : Dev Cert.StateProjectReferenceIdeal.nD → PrngReg), Pre_StateProjectIdeal m →
    (∀ c : Dev Cert.StateProjectIdeal.nD,
      m' ((c.tc : Thread Cert.StateProjectReferenceIdeal.nD Cert.StateProjectReferenceIdeal.τ).loc Cert.StateProjectReferenceIdeal.main_arg0) = m ((c.tc : Thread Cert.StateProjectIdeal.nD Cert.StateProjectIdeal.τ).loc Cert.StateProjectIdeal.main_arg0)
      ∧ m' ((c.tc : Thread Cert.StateProjectReferenceIdeal.nD Cert.StateProjectReferenceIdeal.τ).loc Cert.StateProjectReferenceIdeal.main_arg1) = m ((c.tc : Thread Cert.StateProjectIdeal.nD Cert.StateProjectIdeal.τ).loc Cert.StateProjectIdeal.main_arg1)
      ∧ m' ((c.tc : Thread Cert.StateProjectReferenceIdeal.nD Cert.StateProjectReferenceIdeal.τ).loc Cert.StateProjectReferenceIdeal.main_arg2) = m ((c.tc : Thread Cert.StateProjectIdeal.nD Cert.StateProjectIdeal.τ).loc Cert.StateProjectIdeal.main_arg2)
      ∧ m' ((c.tc : Thread Cert.StateProjectReferenceIdeal.nD Cert.StateProjectReferenceIdeal.τ).loc Cert.StateProjectReferenceIdeal.main_arg3) = m ((c.tc : Thread Cert.StateProjectIdeal.nD Cert.StateProjectIdeal.τ).loc Cert.StateProjectIdeal.main_arg3)
      ∧ m' ((c.tc : Thread Cert.StateProjectReferenceIdeal.nD Cert.StateProjectReferenceIdeal.τ).loc Cert.StateProjectReferenceIdeal.main_arg4) = m ((c.tc : Thread Cert.StateProjectIdeal.nD Cert.StateProjectIdeal.τ).loc Cert.StateProjectIdeal.main_arg4)) →
    ∃ (v0 : (c : Dev Cert.StateProjectIdeal.nD) → Buf (Elt Ideal) ((c.tc : Thread Cert.StateProjectIdeal.nD Cert.StateProjectIdeal.τ).loc Cert.StateProjectIdeal.main_v11_0)) (v1 : (c : Dev Cert.StateProjectIdeal.nD) → Buf (Elt Ideal) ((c.tc : Thread Cert.StateProjectIdeal.nD Cert.StateProjectIdeal.τ).loc Cert.StateProjectIdeal.main_v11_1)),
      θ_run (Cert.StateProjectIdeal.defs (F := Ideal)) (onTc (τ := Cert.StateProjectIdeal.τ) (Cert.StateProjectIdeal.main (F := Ideal))) ⟨m, fun _ => 0, g⟩ (fun r => ∀ c : Dev Cert.StateProjectIdeal.nD,
          r.2.mem ((c.tc : Thread Cert.StateProjectIdeal.nD Cert.StateProjectIdeal.τ).loc Cert.StateProjectIdeal.main_v11_0) = v0 c
          ∧ r.2.mem ((c.tc : Thread Cert.StateProjectIdeal.nD Cert.StateProjectIdeal.τ).loc Cert.StateProjectIdeal.main_v11_1) = v1 c
          ∧ r.2.mem ((c.tc : Thread Cert.StateProjectIdeal.nD Cert.StateProjectIdeal.τ).loc Cert.StateProjectIdeal.main_arg0) = m ((c.tc : Thread Cert.StateProjectIdeal.nD Cert.StateProjectIdeal.τ).loc Cert.StateProjectIdeal.main_arg0)
          ∧ r.2.mem ((c.tc : Thread Cert.StateProjectIdeal.nD Cert.StateProjectIdeal.τ).loc Cert.StateProjectIdeal.main_arg1) = m ((c.tc : Thread Cert.StateProjectIdeal.nD Cert.StateProjectIdeal.τ).loc Cert.StateProjectIdeal.main_arg1)
          ∧ r.2.mem ((c.tc : Thread Cert.StateProjectIdeal.nD Cert.StateProjectIdeal.τ).loc Cert.StateProjectIdeal.main_arg2) = m ((c.tc : Thread Cert.StateProjectIdeal.nD Cert.StateProjectIdeal.τ).loc Cert.StateProjectIdeal.main_arg2)
          ∧ r.2.mem ((c.tc : Thread Cert.StateProjectIdeal.nD Cert.StateProjectIdeal.τ).loc Cert.StateProjectIdeal.main_arg3) = m ((c.tc : Thread Cert.StateProjectIdeal.nD Cert.StateProjectIdeal.τ).loc Cert.StateProjectIdeal.main_arg3)
          ∧ r.2.mem ((c.tc : Thread Cert.StateProjectIdeal.nD Cert.StateProjectIdeal.τ).loc Cert.StateProjectIdeal.main_arg4) = m ((c.tc : Thread Cert.StateProjectIdeal.nD Cert.StateProjectIdeal.τ).loc Cert.StateProjectIdeal.main_arg4))
      ∧ θ_run (Cert.StateProjectReferenceIdeal.defs (F := Ideal)) (onTc (τ := Cert.StateProjectReferenceIdeal.τ) (Cert.StateProjectReferenceIdeal.main (F := Ideal))) ⟨m', fun _ => 0, g'⟩ (fun r => ∀ c : Dev Cert.StateProjectReferenceIdeal.nD,
          r.2.mem ((c.tc : Thread Cert.StateProjectReferenceIdeal.nD Cert.StateProjectReferenceIdeal.τ).loc Cert.StateProjectReferenceIdeal.main_v29) = v0 c
          ∧ r.2.mem ((c.tc : Thread Cert.StateProjectReferenceIdeal.nD Cert.StateProjectReferenceIdeal.τ).loc Cert.StateProjectReferenceIdeal.main_v27) = v1 c
          ∧ r.2.mem ((c.tc : Thread Cert.StateProjectReferenceIdeal.nD Cert.StateProjectReferenceIdeal.τ).loc Cert.StateProjectReferenceIdeal.main_arg0) = m' ((c.tc : Thread Cert.StateProjectReferenceIdeal.nD Cert.StateProjectReferenceIdeal.τ).loc Cert.StateProjectReferenceIdeal.main_arg0)
          ∧ r.2.mem ((c.tc : Thread Cert.StateProjectReferenceIdeal.nD Cert.StateProjectReferenceIdeal.τ).loc Cert.StateProjectReferenceIdeal.main_arg1) = m' ((c.tc : Thread Cert.StateProjectReferenceIdeal.nD Cert.StateProjectReferenceIdeal.τ).loc Cert.StateProjectReferenceIdeal.main_arg1)
          ∧ r.2.mem ((c.tc : Thread Cert.StateProjectReferenceIdeal.nD Cert.StateProjectReferenceIdeal.τ).loc Cert.StateProjectReferenceIdeal.main_arg2) = m' ((c.tc : Thread Cert.StateProjectReferenceIdeal.nD Cert.StateProjectReferenceIdeal.τ).loc Cert.StateProjectReferenceIdeal.main_arg2)
          ∧ r.2.mem ((c.tc : Thread Cert.StateProjectReferenceIdeal.nD Cert.StateProjectReferenceIdeal.τ).loc Cert.StateProjectReferenceIdeal.main_arg3) = m' ((c.tc : Thread Cert.StateProjectReferenceIdeal.nD Cert.StateProjectReferenceIdeal.τ).loc Cert.StateProjectReferenceIdeal.main_arg3)
          ∧ r.2.mem ((c.tc : Thread Cert.StateProjectReferenceIdeal.nD Cert.StateProjectReferenceIdeal.τ).loc Cert.StateProjectReferenceIdeal.main_arg4) = m' ((c.tc : Thread Cert.StateProjectReferenceIdeal.nD Cert.StateProjectReferenceIdeal.τ).loc Cert.StateProjectReferenceIdeal.main_arg4))

def preserves_NarrowOutput_NarrowOutputIdeal : Prop :=
  True

def algebraic_NarrowOutputIdeal_NarrowOutputReferenceIdeal [hNarrowOutputIdeal : Cert.NarrowOutputIdeal.Facts] [hNarrowOutputReferenceIdeal : Cert.NarrowOutputReferenceIdeal.Facts] : Prop :=
  ∀ (m : (ℓ : Loc Cert.NarrowOutputIdeal.nD Cert.NarrowOutputIdeal.τ Cert.NarrowOutputIdeal.sig) → Buf (Elt Ideal) ℓ) (g : Dev Cert.NarrowOutputIdeal.nD → PrngReg)
    (m' : (ℓ : Loc Cert.NarrowOutputReferenceIdeal.nD Cert.NarrowOutputReferenceIdeal.τ Cert.NarrowOutputReferenceIdeal.sig) → Buf (Elt Ideal) ℓ) (g' : Dev Cert.NarrowOutputReferenceIdeal.nD → PrngReg), Pre_NarrowOutputIdeal m →
    (∀ c : Dev Cert.NarrowOutputIdeal.nD,
      m' ((c.tc : Thread Cert.NarrowOutputReferenceIdeal.nD Cert.NarrowOutputReferenceIdeal.τ).loc Cert.NarrowOutputReferenceIdeal.main_arg0) = m ((c.tc : Thread Cert.NarrowOutputIdeal.nD Cert.NarrowOutputIdeal.τ).loc Cert.NarrowOutputIdeal.main_arg0)
      ∧ m' ((c.tc : Thread Cert.NarrowOutputReferenceIdeal.nD Cert.NarrowOutputReferenceIdeal.τ).loc Cert.NarrowOutputReferenceIdeal.main_arg1) = m ((c.tc : Thread Cert.NarrowOutputIdeal.nD Cert.NarrowOutputIdeal.τ).loc Cert.NarrowOutputIdeal.main_arg1)
      ∧ m' ((c.tc : Thread Cert.NarrowOutputReferenceIdeal.nD Cert.NarrowOutputReferenceIdeal.τ).loc Cert.NarrowOutputReferenceIdeal.main_arg2) = m ((c.tc : Thread Cert.NarrowOutputIdeal.nD Cert.NarrowOutputIdeal.τ).loc Cert.NarrowOutputIdeal.main_arg2)
      ∧ m' ((c.tc : Thread Cert.NarrowOutputReferenceIdeal.nD Cert.NarrowOutputReferenceIdeal.τ).loc Cert.NarrowOutputReferenceIdeal.main_arg3) = m ((c.tc : Thread Cert.NarrowOutputIdeal.nD Cert.NarrowOutputIdeal.τ).loc Cert.NarrowOutputIdeal.main_arg3)
      ∧ m' ((c.tc : Thread Cert.NarrowOutputReferenceIdeal.nD Cert.NarrowOutputReferenceIdeal.τ).loc Cert.NarrowOutputReferenceIdeal.main_arg4) = m ((c.tc : Thread Cert.NarrowOutputIdeal.nD Cert.NarrowOutputIdeal.τ).loc Cert.NarrowOutputIdeal.main_arg4)) →
    ∃ (v0 : (c : Dev Cert.NarrowOutputIdeal.nD) → Buf (Elt Ideal) ((c.tc : Thread Cert.NarrowOutputIdeal.nD Cert.NarrowOutputIdeal.τ).loc Cert.NarrowOutputIdeal.main_v2)),
      θ_run (Cert.NarrowOutputIdeal.defs (F := Ideal)) (onTc (τ := Cert.NarrowOutputIdeal.τ) (Cert.NarrowOutputIdeal.main (F := Ideal))) ⟨m, fun _ => 0, g⟩ (fun r => ∀ c : Dev Cert.NarrowOutputIdeal.nD,
          r.2.mem ((c.tc : Thread Cert.NarrowOutputIdeal.nD Cert.NarrowOutputIdeal.τ).loc Cert.NarrowOutputIdeal.main_v2) = v0 c
          ∧ r.2.mem ((c.tc : Thread Cert.NarrowOutputIdeal.nD Cert.NarrowOutputIdeal.τ).loc Cert.NarrowOutputIdeal.main_arg0) = m ((c.tc : Thread Cert.NarrowOutputIdeal.nD Cert.NarrowOutputIdeal.τ).loc Cert.NarrowOutputIdeal.main_arg0)
          ∧ r.2.mem ((c.tc : Thread Cert.NarrowOutputIdeal.nD Cert.NarrowOutputIdeal.τ).loc Cert.NarrowOutputIdeal.main_arg1) = m ((c.tc : Thread Cert.NarrowOutputIdeal.nD Cert.NarrowOutputIdeal.τ).loc Cert.NarrowOutputIdeal.main_arg1)
          ∧ r.2.mem ((c.tc : Thread Cert.NarrowOutputIdeal.nD Cert.NarrowOutputIdeal.τ).loc Cert.NarrowOutputIdeal.main_arg2) = m ((c.tc : Thread Cert.NarrowOutputIdeal.nD Cert.NarrowOutputIdeal.τ).loc Cert.NarrowOutputIdeal.main_arg2)
          ∧ r.2.mem ((c.tc : Thread Cert.NarrowOutputIdeal.nD Cert.NarrowOutputIdeal.τ).loc Cert.NarrowOutputIdeal.main_arg3) = m ((c.tc : Thread Cert.NarrowOutputIdeal.nD Cert.NarrowOutputIdeal.τ).loc Cert.NarrowOutputIdeal.main_arg3)
          ∧ r.2.mem ((c.tc : Thread Cert.NarrowOutputIdeal.nD Cert.NarrowOutputIdeal.τ).loc Cert.NarrowOutputIdeal.main_arg4) = m ((c.tc : Thread Cert.NarrowOutputIdeal.nD Cert.NarrowOutputIdeal.τ).loc Cert.NarrowOutputIdeal.main_arg4))
      ∧ θ_run (Cert.NarrowOutputReferenceIdeal.defs (F := Ideal)) (onTc (τ := Cert.NarrowOutputReferenceIdeal.τ) (Cert.NarrowOutputReferenceIdeal.main (F := Ideal))) ⟨m', fun _ => 0, g'⟩ (fun r => ∀ c : Dev Cert.NarrowOutputReferenceIdeal.nD,
          r.2.mem ((c.tc : Thread Cert.NarrowOutputReferenceIdeal.nD Cert.NarrowOutputReferenceIdeal.τ).loc Cert.NarrowOutputReferenceIdeal.main_v17) = v0 c
          ∧ r.2.mem ((c.tc : Thread Cert.NarrowOutputReferenceIdeal.nD Cert.NarrowOutputReferenceIdeal.τ).loc Cert.NarrowOutputReferenceIdeal.main_arg0) = m' ((c.tc : Thread Cert.NarrowOutputReferenceIdeal.nD Cert.NarrowOutputReferenceIdeal.τ).loc Cert.NarrowOutputReferenceIdeal.main_arg0)
          ∧ r.2.mem ((c.tc : Thread Cert.NarrowOutputReferenceIdeal.nD Cert.NarrowOutputReferenceIdeal.τ).loc Cert.NarrowOutputReferenceIdeal.main_arg1) = m' ((c.tc : Thread Cert.NarrowOutputReferenceIdeal.nD Cert.NarrowOutputReferenceIdeal.τ).loc Cert.NarrowOutputReferenceIdeal.main_arg1)
          ∧ r.2.mem ((c.tc : Thread Cert.NarrowOutputReferenceIdeal.nD Cert.NarrowOutputReferenceIdeal.τ).loc Cert.NarrowOutputReferenceIdeal.main_arg2) = m' ((c.tc : Thread Cert.NarrowOutputReferenceIdeal.nD Cert.NarrowOutputReferenceIdeal.τ).loc Cert.NarrowOutputReferenceIdeal.main_arg2)
          ∧ r.2.mem ((c.tc : Thread Cert.NarrowOutputReferenceIdeal.nD Cert.NarrowOutputReferenceIdeal.τ).loc Cert.NarrowOutputReferenceIdeal.main_arg3) = m' ((c.tc : Thread Cert.NarrowOutputReferenceIdeal.nD Cert.NarrowOutputReferenceIdeal.τ).loc Cert.NarrowOutputReferenceIdeal.main_arg3)
          ∧ r.2.mem ((c.tc : Thread Cert.NarrowOutputReferenceIdeal.nD Cert.NarrowOutputReferenceIdeal.τ).loc Cert.NarrowOutputReferenceIdeal.main_arg4) = m' ((c.tc : Thread Cert.NarrowOutputReferenceIdeal.nD Cert.NarrowOutputReferenceIdeal.τ).loc Cert.NarrowOutputReferenceIdeal.main_arg4))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v12) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProject : Cert.Project.Facts) (hProjectIdeal : Cert.ProjectIdeal.Facts) (hProjectReferenceIdeal : Cert.ProjectReferenceIdeal.Facts) (hOutput : Cert.Output.Facts) (hOutputIdeal : Cert.OutputIdeal.Facts) (hOutputReferenceIdeal : Cert.OutputReferenceIdeal.Facts) (hGatedProject : Cert.GatedProject.Facts) (hGatedProjectIdeal : Cert.GatedProjectIdeal.Facts) (hGatedProjectReferenceIdeal : Cert.GatedProjectReferenceIdeal.Facts) (hStateProject : Cert.StateProject.Facts) (hStateProjectIdeal : Cert.StateProjectIdeal.Facts) (hStateProjectReferenceIdeal : Cert.StateProjectReferenceIdeal.Facts) (hNarrowOutput : Cert.NarrowOutput.Facts) (hNarrowOutputIdeal : Cert.NarrowOutputIdeal.Facts) (hNarrowOutputReferenceIdeal : Cert.NarrowOutputReferenceIdeal.Facts) (hModulation : Cert.Modulation.Facts) (hModulationIdeal : Cert.ModulationIdeal.Facts) (hModulationReferenceIdeal : Cert.ModulationReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_GatedProject (hGatedProject := hGatedProject)
    ∧ quiescent_GatedProjectIdeal (hGatedProjectIdeal := hGatedProjectIdeal)
    ∧ quiescent_GatedProjectReferenceIdeal (hGatedProjectReferenceIdeal := hGatedProjectReferenceIdeal)
    ∧ quiescent_StateProject (hStateProject := hStateProject)
    ∧ quiescent_StateProjectIdeal (hStateProjectIdeal := hStateProjectIdeal)
    ∧ quiescent_StateProjectReferenceIdeal (hStateProjectReferenceIdeal := hStateProjectReferenceIdeal)
    ∧ quiescent_NarrowOutput (hNarrowOutput := hNarrowOutput)
    ∧ quiescent_NarrowOutputIdeal (hNarrowOutputIdeal := hNarrowOutputIdeal)
    ∧ quiescent_NarrowOutputReferenceIdeal (hNarrowOutputReferenceIdeal := hNarrowOutputReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Project_ProjectIdeal
    ∧ algebraic_ProjectIdeal_ProjectReferenceIdeal (hProjectIdeal := hProjectIdeal) (hProjectReferenceIdeal := hProjectReferenceIdeal)
    ∧ preserves_Output_OutputIdeal
    ∧ algebraic_OutputIdeal_OutputReferenceIdeal (hOutputIdeal := hOutputIdeal) (hOutputReferenceIdeal := hOutputReferenceIdeal)
    ∧ preserves_GatedProject_GatedProjectIdeal
    ∧ algebraic_GatedProjectIdeal_GatedProjectReferenceIdeal (hGatedProjectIdeal := hGatedProjectIdeal) (hGatedProjectReferenceIdeal := hGatedProjectReferenceIdeal)
    ∧ preserves_StateProject_StateProjectIdeal
    ∧ algebraic_StateProjectIdeal_StateProjectReferenceIdeal (hStateProjectIdeal := hStateProjectIdeal) (hStateProjectReferenceIdeal := hStateProjectReferenceIdeal)
    ∧ preserves_NarrowOutput_NarrowOutputIdeal
    ∧ algebraic_NarrowOutputIdeal_NarrowOutputReferenceIdeal (hNarrowOutputIdeal := hNarrowOutputIdeal) (hNarrowOutputReferenceIdeal := hNarrowOutputReferenceIdeal)
    ∧ preserves_Modulation_ModulationIdeal
    ∧ algebraic_ModulationIdeal_ModulationReferenceIdeal (hModulationIdeal := hModulationIdeal) (hModulationReferenceIdeal := hModulationReferenceIdeal)
-- ==== Pre_finite.lean ====
abbrev S16x256x6144 : Shape := ⟨3, ![16, 256, 6144]⟩
abbrev S16x4096x6144 : Shape := ⟨3, ![16, 4096, 6144]⟩
abbrev S2x4 : Shape := ⟨2, ![2, 4]⟩
abbrev S2048 : Shape := ⟨1, ![2048]⟩
abbrev S16x256x4096 : Shape := ⟨3, ![16, 256, 4096]⟩
abbrev S_ : Shape := ⟨0, ![]⟩
abbrev S16x4096x4096 : Shape := ⟨3, ![16, 4096, 4096]⟩

class Facts : Prop where
  slices_S16x256x6144_S16x256x4096_0_0_0 : S16x256x6144.Slices ![0, 0, 0] S16x256x4096
  bitsLt_bf16_f32 : FTy.bits .bf16 < FTy.bits .f32
  bcast_S_S16x256x4096 : S_.BroadcastsInDim S16x256x4096 (![] : Fin 0 → Fin S16x256x4096.rank)
  reducesTo_S16x256x4096_S_d0_1_2 : S16x256x4096.ReducesTo [0, 1, 2] S_
  h_S_ : 0 < S_.numel
  slices_S16x4096x6144_S16x4096x4096_0_0_0 : S16x4096x6144.Slices ![0, 0, 0] S16x4096x4096
  bcast_S_S16x4096x4096 : S_.BroadcastsInDim S16x4096x4096 (![] : Fin 0 → Fin S16x4096x4096.rank)
  reducesTo_S16x4096x4096_S_d0_1_2 : S16x4096x4096.ReducesTo [0, 1, 2] S_
  bcast_S_S2x4 : S_.BroadcastsInDim S2x4 (![] : Fin 0 → Fin S2x4.rank)
  reducesTo_S2x4_S_d0_1 : S2x4.ReducesTo [0, 1] S_

variable [Facts]

def fn {F : FTy → Type} [FloatOps F] (main_arg0 : FVec F S16x256x6144 .bf16) (main_arg1 : FVec F S16x4096x6144 .bf16) (main_arg2 : FVec F S2x4 .f32) (main_arg3 : FVec F S2048 .f32) : IVec S_ 1 :=
  let main_v0 : FVec F S16x256x4096 .bf16 := (extractStridedSlice S16x256x4096 ![0, 0, 0] · slices_S16x256x6144_S16x256x4096_0_0_0) main_arg0
  let main_v1 : FVec F S16x256x4096 .f32 := (extf .f32 · bitsLt_bf16_f32) main_v0
  let main_v2 : FVec F S16x256x4096 .f32 := Host.absf main_v1
  let main_cst : FVec F S_ .f32 := constant S_ .f32 0x7F800000#32
  let main_v3 : FVec F S16x256x4096 .f32 := broadcastInDim S16x256x4096 ![] bcast_S_S16x256x4096 main_cst
  let main_v4 : IVec S16x256x4096 1 := cmpf .olt main_v2 main_v3
  let main_c : IVec S_ 1 := constantI S_ 1 1#1
  let main_v5 : IVec S_ 1 := (fun x v => Host.reduce IntOp.andi x v reducesTo_S16x256x4096_S_d0_1_2 h_S_) main_v4 main_c
  let main_v6 : FVec F S16x4096x4096 .bf16 := (extractStridedSlice S16x4096x4096 ![0, 0, 0] · slices_S16x4096x6144_S16x4096x4096_0_0_0) main_arg1
  let main_v7 : FVec F S16x4096x4096 .f32 := (extf .f32 · bitsLt_bf16_f32) main_v6
  let main_v8 : FVec F S16x4096x4096 .f32 := Host.absf main_v7
  let main_cst_0 : FVec F S_ .f32 := constant S_ .f32 0x7F800000#32
  let main_v9 : FVec F S16x4096x4096 .f32 := broadcastInDim S16x4096x4096 ![] bcast_S_S16x4096x4096 main_cst_0
  let main_v10 : IVec S16x4096x4096 1 := cmpf .olt main_v8 main_v9
  let main_c_1 : IVec S_ 1 := constantI S_ 1 1#1
  let main_v11 : IVec S_ 1 := (fun x v => Host.reduce IntOp.andi x v reducesTo_S16x4096x4096_S_d0_1_2 h_S_) main_v10 main_c_1
  let main_v12 : IVec S_ 1 := andi main_v5 main_v11
  let main_v13 : FVec F S2x4 .f32 := Host.absf main_arg2
  let main_cst_2 : FVec F S_ .f32 := constant S_ .f32 0x7F800000#32
  let main_v14 : FVec F S2x4 .f32 := broadcastInDim S2x4 ![] bcast_S_S2x4 main_cst_2
  let main_v15 : IVec S2x4 1 := cmpf .olt main_v13 main_v14
  let main_c_3 : IVec S_ 1 := constantI S_ 1 1#1
  let main_v16 : IVec S_ 1 := (fun x v => Host.reduce IntOp.andi x v reducesTo_S2x4_S_d0_1 h_S_) main_v15 main_c_3
  let main_v17 : IVec S_ 1 := andi main_v12 main_v16
  main_v17
-- ==== Kernel.lean ====
abbrev S16x256x6144 : Shape := ⟨3, ![16, 256, 6144]⟩
abbrev S16x4096x6144 : Shape := ⟨3, ![16, 4096, 6144]⟩
abbrev S2x4 : Shape := ⟨2, ![2, 4]⟩
abbrev S2048 : Shape := ⟨1, ![2048]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S1x2048 : Shape := ⟨2, ![1, 2048]⟩
abbrev S16x256x2048 : Shape := ⟨3, ![16, 256, 2048]⟩
abbrev S16x4096x2048 : Shape := ⟨3, ![16, 4096, 2048]⟩
abbrev S1x256x256 : Shape := ⟨3, ![1, 256, 256]⟩
abbrev S1x256x512 : Shape := ⟨3, ![1, 256, 512]⟩
abbrev S1x4096x256 : Shape := ⟨3, ![1, 4096, 256]⟩
abbrev S1x4096x512 : Shape := ⟨3, ![1, 4096, 512]⟩
abbrev S1x512 : Shape := ⟨2, ![1, 512]⟩
abbrev S4096x256 : Shape := ⟨2, ![4096, 256]⟩
abbrev S256x256 : Shape := ⟨2, ![256, 256]⟩
abbrev S4096x512 : Shape := ⟨2, ![4096, 512]⟩
abbrev S256x512 : Shape := ⟨2, ![256, 512]⟩
abbrev S1x1 : Shape := ⟨2, ![1, 1]⟩
abbrev S256x1 : Shape := ⟨2, ![256, 1]⟩
abbrev S1x128 : Shape := ⟨2, ![1, 128]⟩
abbrev S1x64x256 : Shape := ⟨3, ![1, 64, 256]⟩
abbrev S64x256 : Shape := ⟨2, ![64, 256]⟩
abbrev S256 : Shape := ⟨1, ![256]⟩

abbrev nBuf : Space → Nat
  | .hbm => 55
  | .vmem => 34
  | .smem => 1
  | _ => 0

abbrev bufTy : (tb : Table) → Fin (tcTables nBuf tb) → BufTy
  | .hbm, ⟨0, _⟩ => ⟨S16x256x6144, .bf16⟩
  | .hbm, ⟨1, _⟩ => ⟨S16x4096x6144, .bf16⟩
  | .hbm, ⟨2, _⟩ => ⟨S2x4, .f32⟩
  | .hbm, ⟨3, _⟩ => ⟨S2048, .f32⟩
  | .hbm, ⟨4, _⟩ => ⟨S2x4, .f32⟩
  | .hbm, ⟨5, _⟩ => ⟨S_, .f32⟩
  | .hbm, ⟨6, _⟩ => ⟨S2x4, .f32⟩
  | .hbm, ⟨7, _⟩ => ⟨S2x4, .f32⟩
  | .hbm, ⟨8, _⟩ => ⟨S2x4, .f32⟩
  | .hbm, ⟨9, _⟩ => ⟨S2x4, .f32⟩
  | .hbm, ⟨10, _⟩ => ⟨S2x4, .i1⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .i32⟩
  | .hbm, ⟨29, _⟩ => ⟨S64, .f32⟩
  | .hbm, ⟨30, _⟩ => ⟨S64x1, .f32⟩
  | .hbm, ⟨31, _⟩ => ⟨S1x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x128, .f32⟩
  | .hbm, ⟨38, _⟩ => ⟨S64x64, .f32⟩
  | .hbm, ⟨39, _⟩ => ⟨S64x128, .f32⟩
  | .hbm, ⟨40, _⟩ => ⟨S64, .i32⟩
  | .hbm, ⟨41, _⟩ => ⟨S64, .f32⟩
  | .hbm, ⟨42, _⟩ => ⟨S64x1, .f32⟩
  | .hbm, ⟨43, _⟩ => ⟨S1x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x128, .f32⟩
  | .hbm, ⟨50, _⟩ => ⟨S64x64, .f32⟩
  | .hbm, ⟨51, _⟩ => ⟨S64x128, .f32⟩
  | .hbm, ⟨52, _⟩ => ⟨S1x2048, .f32⟩
  | .hbm, ⟨53, _⟩ => ⟨S16x256x2048, .bf16⟩
  | .hbm, ⟨54, _⟩ => ⟨S16x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x512, .bf16⟩
  | .local _ .vmem, ⟨13, _⟩ => ⟨S1x4096x512, .bf16⟩
  | .local _ .vmem, ⟨14, _⟩ => ⟨S1x4096x512, .bf16⟩
  | .local _ .vmem, ⟨15, _⟩ => ⟨S1x4096x512, .bf16⟩
  | .local _ .vmem, ⟨16, _⟩ => ⟨S1x512, .f32⟩
  | .local _ .vmem, ⟨17, _⟩ => ⟨S1x512, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S1x256x512, .bf16⟩
  | .local _ .vmem, ⟨23, _⟩ => ⟨S1x256x512, .bf16⟩
  | .local _ .vmem, ⟨24, _⟩ => ⟨S1x4096x512, .bf16⟩
  | .local _ .vmem, ⟨25, _⟩ => ⟨S1x4096x512, .bf16⟩
  | .local _ .vmem, ⟨26, _⟩ => ⟨S4096x256, .bf16⟩
  | .local _ .vmem, ⟨27, _⟩ => ⟨S4096x256, .bf16⟩
  | .local _ .vmem, ⟨28, _⟩ => ⟨S256x256, .bf16⟩
  | .local _ .vmem, ⟨29, _⟩ => ⟨S256x256, .bf16⟩
  | .local _ .vmem, ⟨30, _⟩ => ⟨S4096x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .smem, ⟨0, _⟩ => ⟨S2x4, .f32⟩
  | _, _ => ⟨S16x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
@[reducible] def k0_t1_loop : Scf.Loop 32 :=
  let c0_i32 : BitVec 32 := 0#32
  let c64_i32 : BitVec 32 := 64#32
  let v56 : BitVec 32 := Scalar.addi c0_i32 c64_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg26 : BitVec 32 := Scf.iv c0_i32 c1_i32 k0_t1
  let c64_i32_89 : BitVec 32 := 64#32
  let v167 : BitVec 32 := Scalar.muli arg26 c64_i32_89
  v167
def k0_off3 (k0_t1 : Fin k0_t1_loop.trips) : Fin 2 → Nat :=
  let c0_i32 : BitVec 32 := 0#32
  let c1_i32 : BitVec 32 := 1#32
  let arg26 : BitVec 32 := Scf.iv c0_i32 c1_i32 k0_t1
  let v169 : Index := Scalar.indexCast arg26
  let c0_90 : Index := 0#32
  ![v169.toNat, 0]
def k0_off4 (k0_t1 : Fin k0_t1_loop.trips) : Fin 3 → Nat :=
  let c0_92 : Index := 0#32
  let c0_i32 : BitVec 32 := 0#32
  let c1_i32 : BitVec 32 := 1#32
  let arg26 : BitVec 32 := Scf.iv c0_i32 c1_i32 k0_t1
  let c64_i32_89 : BitVec 32 := 64#32
  let v167 : BitVec 32 := Scalar.muli arg26 c64_i32_89
  let v168 : BitVec 32 := v167
  let v175 : Index := Scalar.indexCast v168
  let c0_93 : Index := 0#32
  ![0, v175.toNat, 0]
def k0_off5 (k0_t1 : Fin k0_t1_loop.trips) : Fin 2 → Nat :=
  let c0_i32 : BitVec 32 := 0#32
  let c1_i32 : BitVec 32 := 1#32
  let arg26 : BitVec 32 := Scf.iv c0_i32 c1_i32 k0_t1
  let c64_i32_89 : BitVec 32 := 64#32
  let v167 : BitVec 32 := Scalar.muli arg26 c64_i32_89
  let v168 : BitVec 32 := v167
  let v190 : Index := Scalar.indexCast v168
  let c0_96 : Index := 0#32
  ![v190.toNat, 0]
def k0_off6 (k0_t1 : Fin k0_t1_loop.trips) : Fin 2 → Nat :=
  let c0_i32 : BitVec 32 := 0#32
  let c1_i32 : BitVec 32 := 1#32
  let arg26 : BitVec 32 := Scf.iv c0_i32 c1_i32 k0_t1
  let c64_i32_89 : BitVec 32 := 64#32
  let v167 : BitVec 32 := Scalar.muli arg26 c64_i32_89
  let v168 : BitVec 32 := v167
  let v203 : Index := Scalar.indexCast v168
  let c128 : Index := 128#32
  ![v203.toNat, 128]
@[reducible] def k0_t2_loop : Scf.Loop 32 :=
  let c0_i32_82 : BitVec 32 := 0#32
  let c8_i32 : BitVec 32 := 8#32
  let v165 : BitVec 32 := Scalar.addi c0_i32_82 c8_i32
  let c1_i32_83 : BitVec 32 := 1#32
  ⟨c0_i32_82, v165, c1_i32_83⟩
def k0_mult2 (k0_t2 : Fin k0_t2_loop.trips) : BitVec 32 :=
  let c0_i32_82 : BitVec 32 := 0#32
  let c1_i32_83 : BitVec 32 := 1#32
  let arg26 : BitVec 32 := Scf.iv c0_i32_82 c1_i32_83 k0_t2
  let c256_i32 : BitVec 32 := 256#32
  let v167 : BitVec 32 := Scalar.muli arg26 c256_i32
  v167
def k0_mult3 (k0_t2 : Fin k0_t2_loop.trips) : BitVec 32 :=
  let c15_i32 : BitVec 32 := 15#32
  let c0_i32_82 : BitVec 32 := 0#32
  let c1_i32_83 : BitVec 32 := 1#32
  let arg26 : BitVec 32 := Scf.iv c0_i32_82 c1_i32_83 k0_t2
  let v169 : BitVec 32 := Scalar.subi c15_i32 arg26
  let c256_i32_89 : BitVec 32 := 256#32
  let v170 : BitVec 32 := Scalar.muli v169 c256_i32_89
  v170
def k0_off7 (k0_t2 : Fin k0_t2_loop.trips) : Fin 2 → Nat :=
  let c0_i32_82 : BitVec 32 := 0#32
  let c1_i32_83 : BitVec 32 := 1#32
  let arg26 : BitVec 32 := Scf.iv c0_i32_82 c1_i32_83 k0_t2
  let c256_i32 : BitVec 32 := 256#32
  let v167 : BitVec 32 := Scalar.muli arg26 c256_i32
  let v168 : BitVec 32 := v167
  let v172 : Index := Scalar.indexCast v168
  let c0_90 : Index := 0#32
  ![v172.toNat, 0]
def k0_off8 (k0_t2 : Fin k0_t2_loop.trips) : Fin 3 → Nat :=
  let c0_92 : Index := 0#32
  let c0_i32_82 : BitVec 32 := 0#32
  let c1_i32_83 : BitVec 32 := 1#32
  let arg26 : BitVec 32 := Scf.iv c0_i32_82 c1_i32_83 k0_t2
  let c256_i32 : BitVec 32 := 256#32
  let v167 : BitVec 32 := Scalar.muli arg26 c256_i32
  let v168 : BitVec 32 := v167
  let v176 : Index := Scalar.indexCast v168
  let c0_93 : Index := 0#32
  ![0, v176.toNat, 0]
def k0_off9 (k0_t2 : Fin k0_t2_loop.trips) : Fin 2 → Nat :=
  let c15_i32 : BitVec 32 := 15#32
  let c0_i32_82 : BitVec 32 := 0#32
  let c1_i32_83 : BitVec 32 := 1#32
  let arg26 : BitVec 32 := Scf.iv c0_i32_82 c1_i32_83 k0_t2
  let v169 : BitVec 32 := Scalar.subi c15_i32 arg26
  let c256_i32_89 : BitVec 32 := 256#32
  let v170 : BitVec 32 := Scalar.muli v169 c256_i32_89
  let v171 : BitVec 32 := v170
  let v201 : Index := Scalar.indexCast v171
  let c0_104 : Index := 0#32
  ![v201.toNat, 0]
def k0_off10 (k0_t2 : Fin k0_t2_loop.trips) : Fin 3 → Nat :=
  let c0_106 : Index := 0#32
  let c15_i32 : BitVec 32 := 15#32
  let c0_i32_82 : BitVec 32 := 0#32
  let c1_i32_83 : BitVec 32 := 1#32
  let arg26 : BitVec 32 := Scf.iv c0_i32_82 c1_i32_83 k0_t2
  let v169 : BitVec 32 := Scalar.subi c15_i32 arg26
  let c256_i32_89 : BitVec 32 := 256#32
  let v170 : BitVec 32 := Scalar.muli v169 c256_i32_89
  let v171 : BitVec 32 := v170
  let v205 : Index := Scalar.indexCast v171
  let c0_107 : Index := 0#32
  ![0, v205.toNat, 0]
def k0_off11 (k0_t2 : Fin k0_t2_loop.trips) : Fin 2 → Nat :=
  let c0_i32_82 : BitVec 32 := 0#32
  let c1_i32_83 : BitVec 32 := 1#32
  let arg26 : BitVec 32 := Scf.iv c0_i32_82 c1_i32_83 k0_t2
  let c256_i32 : BitVec 32 := 256#32
  let v167 : BitVec 32 := Scalar.muli arg26 c256_i32
  let v168 : BitVec 32 := v167
  let v225 : Index := Scalar.indexCast v168
  let c0_116 : Index := 0#32
  ![v225.toNat, 0]
def k0_off12 (k0_t2 : Fin k0_t2_loop.trips) : Fin 2 → Nat :=
  let c15_i32 : BitVec 32 := 15#32
  let c0_i32_82 : BitVec 32 := 0#32
  let c1_i32_83 : BitVec 32 := 1#32
  let arg26 : BitVec 32 := Scf.iv c0_i32_82 c1_i32_83 k0_t2
  let v169 : BitVec 32 := Scalar.subi c15_i32 arg26
  let c256_i32_89 : BitVec 32 := 256#32
  let v170 : BitVec 32 := Scalar.muli v169 c256_i32_89
  let v171 : BitVec 32 := v170
  let v229 : Index := Scalar.indexCast v171
  let c0_117 : Index := 0#32
  ![v229.toNat, 0]
@[reducible] def k0_t3_loop : Scf.Loop 32 :=
  let c8_i32_85 : BitVec 32 := 8#32
  let c8_i32_86 : BitVec 32 := 8#32
  let v166 : BitVec 32 := Scalar.addi c8_i32_85 c8_i32_86
  let c1_i32_87 : BitVec 32 := 1#32
  ⟨c8_i32_85, v166, c1_i32_87⟩
def k0_mult4 (k0_t3 : Fin k0_t3_loop.trips) : BitVec 32 :=
  let c8_i32_85 : BitVec 32 := 8#32
  let c1_i32_87 : BitVec 32 := 1#32
  let arg26 : BitVec 32 := Scf.iv c8_i32_85 c1_i32_87 k0_t3
  let c256_i32 : BitVec 32 := 256#32
  let v167 : BitVec 32 := Scalar.muli arg26 c256_i32
  v167
def k0_mult5 (k0_t3 : Fin k0_t3_loop.trips) : BitVec 32 :=
  let c15_i32 : BitVec 32 := 15#32
  let c8_i32_85 : BitVec 32 := 8#32
  let c1_i32_87 : BitVec 32 := 1#32
  let arg26 : BitVec 32 := Scf.iv c8_i32_85 c1_i32_87 k0_t3
  let v169 : BitVec 32 := Scalar.subi c15_i32 arg26
  let c256_i32_89 : BitVec 32 := 256#32
  let v170 : BitVec 32 := Scalar.muli v169 c256_i32_89
  v170
def k0_off13 (k0_t3 : Fin k0_t3_loop.trips) : Fin 2 → Nat :=
  let c8_i32_85 : BitVec 32 := 8#32
  let c1_i32_87 : BitVec 32 := 1#32
  let arg26 : BitVec 32 := Scf.iv c8_i32_85 c1_i32_87 k0_t3
  let c256_i32 : BitVec 32 := 256#32
  let v167 : BitVec 32 := Scalar.muli arg26 c256_i32
  let v168 : BitVec 32 := v167
  let v172 : Index := Scalar.indexCast v168
  let c0_90 : Index := 0#32
  ![v172.toNat, 0]
def k0_off14 (k0_t3 : Fin k0_t3_loop.trips) : Fin 3 → Nat :=
  let c0_92 : Index := 0#32
  let c8_i32_85 : BitVec 32 := 8#32
  let c1_i32_87 : BitVec 32 := 1#32
  let arg26 : BitVec 32 := Scf.iv c8_i32_85 c1_i32_87 k0_t3
  let c256_i32 : BitVec 32 := 256#32
  let v167 : BitVec 32 := Scalar.muli arg26 c256_i32
  let v168 : BitVec 32 := v167
  let v176 : Index := Scalar.indexCast v168
  let c0_93 : Index := 0#32
  ![0, v176.toNat, 0]
def k0_off15 (k0_t3 : Fin k0_t3_loop.trips) : Fin 2 → Nat :=
  let c15_i32 : BitVec 32 := 15#32
  let c8_i32_85 : BitVec 32 := 8#32
  let c1_i32_87 : BitVec 32 := 1#32
  let arg26 : BitVec 32 := Scf.iv c8_i32_85 c1_i32_87 k0_t3
  let v169 : BitVec 32 := Scalar.subi c15_i32 arg26
  let c256_i32_89 : BitVec 32 := 256#32
  let v170 : BitVec 32 := Scalar.muli v169 c256_i32_89
  let v171 : BitVec 32 := v170
  let v201 : Index := Scalar.indexCast v171
  let c0_104 : Index := 0#32
  ![v201.toNat, 0]
def k0_off16 (k0_t3 : Fin k0_t3_loop.trips) : Fin 3 → Nat :=
  let c0_106 : Index := 0#32
  let c15_i32 : BitVec 32 := 15#32
  let c8_i32_85 : BitVec 32 := 8#32
  let c1_i32_87 : BitVec 32 := 1#32
  let arg26 : BitVec 32 := Scf.iv c8_i32_85 c1_i32_87 k0_t3
  let v169 : BitVec 32 := Scalar.subi c15_i32 arg26
  let c256_i32_89 : BitVec 32 := 256#32
  let v170 : BitVec 32 := Scalar.muli v169 c256_i32_89
  let v171 : BitVec 32 := v170
  let v205 : Index := Scalar.indexCast v171
  let c0_107 : Index := 0#32
  ![0, v205.toNat, 0]
def k0_off17 (k0_t3 : Fin k0_t3_loop.trips) : Fin 2 → Nat :=
  let c8_i32_85 : BitVec 32 := 8#32
  let c1_i32_87 : BitVec 32 := 1#32
  let arg26 : BitVec 32 := Scf.iv c8_i32_85 c1_i32_87 k0_t3
  let c256_i32 : BitVec 32 := 256#32
  let v167 : BitVec 32 := Scalar.muli arg26 c256_i32
  let v168 : BitVec 32 := v167
  let v225 : Index := Scalar.indexCast v168
  let c0_116 : Index := 0#32
  ![v225.toNat, 0]
def k0_off18 (k0_t3 : Fin k0_t3_loop.trips) : Fin 2 → Nat :=
  let c15_i32 : BitVec 32 := 15#32
  let c8_i32_85 : BitVec 32 := 8#32
  let c1_i32_87 : BitVec 32 := 1#32
  let arg26 : BitVec 32 := Scf.iv c8_i32_85 c1_i32_87 k0_t3
  let v169 : BitVec 32 := Scalar.subi c15_i32 arg26
  let c256_i32_89 : BitVec 32 := 256#32
  let v170 : BitVec 32 := Scalar.muli v169 c256_i32_89
  let v171 : BitVec 32 := v170
  let v266 : Index := Scalar.indexCast v171
  let c0_131 : Index := 0#32
  ![v266.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4096x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S16x256x6144 : Shape := ⟨3, ![16, 256, 6144]⟩
abbrev S16x4096x6144 : Shape := ⟨3, ![16, 4096, 6144]⟩
abbrev S2x4 : Shape := ⟨2, ![2, 4]⟩
abbrev S2048 : Shape := ⟨1, ![2048]⟩
abbrev S_ : Shape := ⟨0, ![]⟩
abbrev S16x256x1024 : Shape := ⟨3, ![16, 256, 1024]⟩
abbrev S16x256x2048 : Shape := ⟨3, ![16, 256, 2048]⟩
abbrev S16x256x4x256 : Shape := ⟨4, ![16, 256, 4, 256]⟩
abbrev S16x4x256x256 : Shape := ⟨4, ![16, 4, 256, 256]⟩
abbrev S16x256x4x512 : Shape := ⟨4, ![16, 256, 4, 512]⟩
abbrev S16x4x256x512 : Shape := ⟨4, ![16, 4, 256, 512]⟩
abbrev S1x4 : Shape := ⟨2, ![1, 4]⟩
abbrev S4 : Shape := ⟨1, ![4]⟩
abbrev S1x4x1 : Shape := ⟨3, ![1, 4, 1]⟩
abbrev S16x4x256 : Shape := ⟨3, ![16, 4, 256]⟩
abbrev S16x4096x1024 : Shape := ⟨3, ![16, 4096, 1024]⟩
abbrev S16x4096x2048 : Shape := ⟨3, ![16, 4096, 2048]⟩
abbrev S16x4096x4x256 : Shape := ⟨4, ![16, 4096, 4, 256]⟩
abbrev S16x4x4096x256 : Shape := ⟨4, ![16, 4, 4096, 256]⟩
abbrev S4096 : Shape := ⟨1, ![4096]⟩
abbrev S64 : Shape := ⟨1, ![64]⟩
abbrev S16x4x4096x128 : Shape := ⟨4, ![16, 4, 4096, 128]⟩
abbrev S4096x1 : Shape := ⟨2, ![4096, 1]⟩
abbrev S1x64 : Shape := ⟨2, ![1, 64]⟩
abbrev S4096x64 : Shape := ⟨2, ![4096, 64]⟩
abbrev S16x4x4096x64 : Shape := ⟨4, ![16, 4, 4096, 64]⟩
abbrev S1x1x4096x64 : Shape := ⟨4, ![1, 1, 4096, 64]⟩
abbrev S16x4096x4x512 : Shape := ⟨4, ![16, 4096, 4, 512]⟩
abbrev S16x4x4096x512 : Shape := ⟨4, ![16, 4, 4096, 512]⟩
abbrev S16x4x4096 : Shape := ⟨3, ![16, 4, 4096]⟩
abbrev S16x4x4352x256 : Shape := ⟨4, ![16, 4, 4352, 256]⟩
abbrev S16x4x4352x512 : Shape := ⟨4, ![16, 4, 4352, 512]⟩
abbrev S16x4x4352 : Shape := ⟨3, ![16, 4, 4352]⟩
abbrev S4352x4352 : Shape := ⟨2, ![4352, 4352]⟩
abbrev S16x4x4352x1 : Shape := ⟨4, ![16, 4, 4352, 1]⟩
abbrev S16x4x1x4352 : Shape := ⟨4, ![16, 4, 1, 4352]⟩
abbrev S16x4x4352x4352 : Shape := ⟨4, ![16, 4, 4352, 4352]⟩
abbrev S16x256x4 : Shape := ⟨3, ![16, 256, 4]⟩
abbrev S16x256x4x1 : Shape := ⟨4, ![16, 256, 4, 1]⟩
abbrev S1x1x2048 : Shape := ⟨3, ![1, 1, 2048]⟩
abbrev S16x4096x4 : Shape := ⟨3, ![16, 4096, 4]⟩
abbrev S16x4096x4x1 : Shape := ⟨4, ![16, 4096, 4, 1]⟩

abbrev nBuf : Space → Nat
  | .hbm => 422
  | .vmem => 0
  | .smem => 0
  | _ => 0

abbrev hbmTy0_0 (i : Nat) : BufTy := match i % 128 with
  | 0 => ⟨S16x256x6144, .bf16⟩
  | 1 => ⟨S16x4096x6144, .bf16⟩
  | 2 => ⟨S2x4, .f32⟩
  | 3 => ⟨S2048, .f32⟩
  | 4 => ⟨S2x4, .f32⟩
  | 5 => ⟨S_, .f32⟩
  | 6 => ⟨S2x4, .f32⟩
  | 7 => ⟨S2x4, .f32⟩
  | 8 => ⟨S2x4, .f32⟩
  | 9 => ⟨S2x4, .f32⟩
  | 10 => ⟨S2x4, .i1⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S16x256x6144, .f32⟩
  | 21 => ⟨S16x256x1024, .f32⟩
  | 22 => ⟨S16x256x1024, .f32⟩
  | 23 => ⟨S16x256x2048, .f32⟩
  | 24 => ⟨S16x256x2048, .f32⟩
  | 25 => ⟨S16x256x4x256, .f32⟩
  | 26 => ⟨S16x4x256x256, .f32⟩
  | 27 => ⟨S16x256x4x256, .f32⟩
  | 28 => ⟨S16x4x256x256, .f32⟩
  | 29 => ⟨S_, .f32⟩
  | 30 => ⟨S16x4x256x256, .f32⟩
  | 31 => ⟨S16x4x256x256, .f32⟩
  | 32 => ⟨S16x256x4x512, .f32⟩
  | 33 => ⟨S16x4x256x512, .f32⟩
  | 34 => ⟨S1x4, .f32⟩
  | 35 => ⟨S4, .f32⟩
  | 36 => ⟨S1x4x1, .f32⟩
  | 37 => ⟨S16x4x256, .f32⟩
  | 38 => ⟨S1x4, .f32⟩
  | 39 => ⟨S4, .f32⟩
  | 40 => ⟨S1x4x1, .f32⟩
  | 41 => ⟨S16x4x256, .f32⟩
  | 42 => ⟨S16x4096x6144, .f32⟩
  | 43 => ⟨S16x4096x1024, .f32⟩
  | 44 => ⟨S16x4096x1024, .f32⟩
  | 45 => ⟨S16x4096x2048, .f32⟩
  | 46 => ⟨S16x4096x2048, .f32⟩
  | 47 => ⟨S16x4096x4x256, .f32⟩
  | 48 => ⟨S16x4x4096x256, .f32⟩
  | 49 => ⟨S16x4096x4x256, .f32⟩
  | 50 => ⟨S16x4x4096x256, .f32⟩
  | 51 => ⟨S_, .f32⟩
  | 52 => ⟨S16x4x4096x256, .f32⟩
  | 53 => ⟨S16x4x4096x256, .f32⟩
  | 54 => ⟨S4096, .i32⟩
  | 55 => ⟨S_, .i32⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S4096, .i32⟩
  | 64 => ⟨S4096, .i32⟩
  | 65 => ⟨S_, .i32⟩
  | 66 => ⟨S4096, .i32⟩
  | 67 => ⟨S4096, .i1⟩
  | 68 => ⟨S4096, .i1⟩
  | 69 => ⟨S_, .i32⟩
  | 70 => ⟨S4096, .i32⟩
  | 71 => ⟨S4096, .i32⟩
  | 72 => ⟨S4096, .i32⟩
  | 73 => ⟨S4096, .f32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i1⟩
  | 88 => ⟨S_, .i32⟩
  | 89 => ⟨S_, .i1⟩
  | 90 => ⟨S4096, .i1⟩
  | 91 => ⟨S4096, .i1⟩
  | 92 => ⟨S4096, .i1⟩
  | 93 => ⟨S4096, .i32⟩
  | 94 => ⟨S4096, .i32⟩
  | 95 => ⟨S4096, .i32⟩
  | 96 => ⟨S4096, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S16x4x4096x128, .f32⟩
  | 106 => ⟨S4096x1, .f32⟩
  | 107 => ⟨S1x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S16x4x4096x64, .f32⟩
  | 114 => ⟨S16x4x4096x64, .f32⟩
  | 115 => ⟨S1x1x4096x64, .f32⟩
  | 116 => ⟨S16x4x4096x64, .f32⟩
  | 117 => ⟨S16x4x4096x64, .f32⟩
  | 118 => ⟨S1x1x4096x64, .f32⟩
  | 119 => ⟨S16x4x4096x64, .f32⟩
  | 120 => ⟨S16x4x4096x64, .f32⟩
  | 121 => ⟨S16x4x4096x64, .f32⟩
  | 122 => ⟨S1x1x4096x64, .f32⟩
  | 123 => ⟨S16x4x4096x64, .f32⟩
  | 124 => ⟨S16x4x4096x64, .f32⟩
  | 125 => ⟨S1x1x4096x64, .f32⟩
  | 126 => ⟨S16x4x4096x64, .f32⟩
  | 127 => ⟨S16x4x4096x64, .f32⟩
  | _ => ⟨S16x256x6144, .bf16⟩

abbrev hbmTy0_1 (i : Nat) : BufTy := match i % 128 with
  | 0 => ⟨S16x4x4096x64, .f32⟩
  | 1 => ⟨S16x4x4096x128, .f32⟩
  | 2 => ⟨S16x4x4096x128, .f32⟩
  | 3 => ⟨S4096x1, .f32⟩
  | 4 => ⟨S1x64, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S16x4x4096x64, .f32⟩
  | 11 => ⟨S16x4x4096x64, .f32⟩
  | 12 => ⟨S1x1x4096x64, .f32⟩
  | 13 => ⟨S16x4x4096x64, .f32⟩
  | 14 => ⟨S16x4x4096x64, .f32⟩
  | 15 => ⟨S1x1x4096x64, .f32⟩
  | 16 => ⟨S16x4x4096x64, .f32⟩
  | 17 => ⟨S16x4x4096x64, .f32⟩
  | 18 => ⟨S16x4x4096x64, .f32⟩
  | 19 => ⟨S1x1x4096x64, .f32⟩
  | 20 => ⟨S16x4x4096x64, .f32⟩
  | 21 => ⟨S16x4x4096x64, .f32⟩
  | 22 => ⟨S1x1x4096x64, .f32⟩
  | 23 => ⟨S16x4x4096x64, .f32⟩
  | 24 => ⟨S16x4x4096x64, .f32⟩
  | 25 => ⟨S16x4x4096x64, .f32⟩
  | 26 => ⟨S16x4x4096x128, .f32⟩
  | 27 => ⟨S16x4x4096x256, .f32⟩
  | 28 => ⟨S4096, .i32⟩
  | 29 => ⟨S_, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S4096, .i32⟩
  | 47 => ⟨S4096, .f32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i1⟩
  | 62 => ⟨S_, .i32⟩
  | 63 => ⟨S_, .i1⟩
  | 64 => ⟨S4096, .i1⟩
  | 65 => ⟨S4096, .i1⟩
  | 66 => ⟨S4096, .i1⟩
  | 67 => ⟨S4096, .i32⟩
  | 68 => ⟨S4096, .i32⟩
  | 69 => ⟨S4096, .i32⟩
  | 70 => ⟨S4096, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S16x4x4096x128, .f32⟩
  | 80 => ⟨S4096x1, .f32⟩
  | 81 => ⟨S1x64, .f32⟩
  | 82 => ⟨S4096x64, .f32⟩
  | 83 => ⟨S4096x64, .f32⟩
  | 84 => ⟨S4096x64, .f32⟩
  | 85 => ⟨S4096x64, .f32⟩
  | 86 => ⟨S4096x64, .f32⟩
  | 87 => ⟨S16x4x4096x64, .f32⟩
  | 88 => ⟨S16x4x4096x64, .f32⟩
  | 89 => ⟨S1x1x4096x64, .f32⟩
  | 90 => ⟨S16x4x4096x64, .f32⟩
  | 91 => ⟨S16x4x4096x64, .f32⟩
  | 92 => ⟨S1x1x4096x64, .f32⟩
  | 93 => ⟨S16x4x4096x64, .f32⟩
  | 94 => ⟨S16x4x4096x64, .f32⟩
  | 95 => ⟨S16x4x4096x64, .f32⟩
  | 96 => ⟨S1x1x4096x64, .f32⟩
  | 97 => ⟨S16x4x4096x64, .f32⟩
  | 98 => ⟨S16x4x4096x64, .f32⟩
  | 99 => ⟨S1x1x4096x64, .f32⟩
  | 100 => ⟨S16x4x4096x64, .f32⟩
  | 101 => ⟨S16x4x4096x64, .f32⟩
  | 102 => ⟨S16x4x4096x64, .f32⟩
  | 103 => ⟨S16x4x4096x128, .f32⟩
  | 104 => ⟨S16x4x4096x128, .f32⟩
  | 105 => ⟨S4096x1, .f32⟩
  | 106 => ⟨S1x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S16x4x4096x64, .f32⟩
  | 113 => ⟨S16x4x4096x64, .f32⟩
  | 114 => ⟨S1x1x4096x64, .f32⟩
  | 115 => ⟨S16x4x4096x64, .f32⟩
  | 116 => ⟨S16x4x4096x64, .f32⟩
  | 117 => ⟨S1x1x4096x64, .f32⟩
  | 118 => ⟨S16x4x4096x64, .f32⟩
  | 119 => ⟨S16x4x4096x64, .f32⟩
  | 120 => ⟨S16x4x4096x64, .f32⟩
  | 121 => ⟨S1x1x4096x64, .f32⟩
  | 122 => ⟨S16x4x4096x64, .f32⟩
  | 123 => ⟨S16x4x4096x64, .f32⟩
  | 124 => ⟨S1x1x4096x64, .f32⟩
  | 125 => ⟨S16x4x4096x64, .f32⟩
  | 126 => ⟨S16x4x4096x64, .f32⟩
  | 127 => ⟨S16x4x4096x64, .f32⟩
  | _ => ⟨S16x256x6144, .bf16⟩

abbrev hbmTy0_2 (i : Nat) : BufTy := match i % 128 with
  | 0 => ⟨S16x4x4096x128, .f32⟩
  | 1 => ⟨S16x4x4096x256, .f32⟩
  | 2 => ⟨S16x4096x4x512, .f32⟩
  | 3 => ⟨S16x4x4096x512, .f32⟩
  | 4 => ⟨S1x4, .f32⟩
  | 5 => ⟨S4, .f32⟩
  | 6 => ⟨S1x4x1, .f32⟩
  | 7 => ⟨S16x4x4096, .f32⟩
  | 8 => ⟨S1x4, .f32⟩
  | 9 => ⟨S4, .f32⟩
  | 10 => ⟨S1x4x1, .f32⟩
  | 11 => ⟨S16x4x4096, .f32⟩
  | 12 => ⟨S16x4x4352x256, .f32⟩
  | 13 => ⟨S16x4x4352x256, .f32⟩
  | 14 => ⟨S16x4x4352x512, .f32⟩
  | 15 => ⟨S16x4x4352, .f32⟩
  | 16 => ⟨S_, .f32⟩
  | 17 => ⟨S_, .f32⟩
  | 18 => ⟨S16x4x4352, .f32⟩
  | 19 => ⟨S_, .i1⟩
  | 20 => ⟨S4352x4352, .i1⟩
  | 21 => ⟨S4352x4352, .i32⟩
  | 22 => ⟨S_, .i32⟩
  | 23 => ⟨S4352x4352, .i32⟩
  | 24 => ⟨S4352x4352, .i32⟩
  | 25 => ⟨S4352x4352, .i32⟩
  | 26 => ⟨S4352x4352, .i1⟩
  | 27 => ⟨S_, .i1⟩
  | 28 => ⟨S4352x4352, .i1⟩
  | 29 => ⟨S4352x4352, .i1⟩
  | 30 => ⟨S16x4x4352x1, .f32⟩
  | 31 => ⟨S16x4x1x4352, .f32⟩
  | 32 => ⟨S16x4x4352x4352, .f32⟩
  | 33 => ⟨S16x4x4352x4352, .f32⟩
  | 34 => ⟨S16x4x4352x4352, .f32⟩
  | 35 => ⟨S_, .f32⟩
  | 36 => ⟨S_, .f32⟩
  | 37 => ⟨S16x4x4352x4352, .i1⟩
  | 38 => ⟨S16x4x4352x4352, .f32⟩
  | 39 => ⟨S16x4x4352x4352, .f32⟩
  | 40 => ⟨S16x4x4352x4352, .f32⟩
  | 41 => ⟨S16x4x4352x4352, .f32⟩
  | 42 => ⟨S16x4x4352x4352, .f32⟩
  | 43 => ⟨S16x4x4352x512, .f32⟩
  | 44 => ⟨S16x4x256x512, .f32⟩
  | 45 => ⟨S16x4x4096x512, .f32⟩
  | 46 => ⟨S16x4x256x256, .f32⟩
  | 47 => ⟨S16x4x4096x256, .f32⟩
  | 48 => ⟨S16x4x4352x256, .f32⟩
  | 49 => ⟨S16x4x256x256, .f32⟩
  | 50 => ⟨S16x4x4096x256, .f32⟩
  | 51 => ⟨S16x4x4352x256, .f32⟩
  | 52 => ⟨S16x4x256x512, .f32⟩
  | 53 => ⟨S16x4x4096x512, .f32⟩
  | 54 => ⟨S16x4x4352x512, .f32⟩
  | 55 => ⟨S16x4x256, .f32⟩
  | 56 => ⟨S16x4x4096, .f32⟩
  | 57 => ⟨S16x4x4352, .f32⟩
  | 58 => ⟨S_, .f32⟩
  | 59 => ⟨S_, .f32⟩
  | 60 => ⟨S16x4x4352, .f32⟩
  | 61 => ⟨S_, .i1⟩
  | 62 => ⟨S4352x4352, .i1⟩
  | 63 => ⟨S4352x4352, .i32⟩
  | 64 => ⟨S_, .i32⟩
  | 65 => ⟨S4352x4352, .i32⟩
  | 66 => ⟨S4352x4352, .i32⟩
  | 67 => ⟨S4352x4352, .i32⟩
  | 68 => ⟨S4352x4352, .i1⟩
  | 69 => ⟨S_, .i1⟩
  | 70 => ⟨S4352x4352, .i1⟩
  | 71 => ⟨S4352x4352, .i1⟩
  | 72 => ⟨S16x4x4352x1, .f32⟩
  | 73 => ⟨S16x4x1x4352, .f32⟩
  | 74 => ⟨S16x4x4352x4352, .f32⟩
  | 75 => ⟨S16x4x4352x4352, .f32⟩
  | 76 => ⟨S16x4x4352x4352, .f32⟩
  | 77 => ⟨S_, .f32⟩
  | 78 => ⟨S_, .f32⟩
  | 79 => ⟨S16x4x4352x4352, .i1⟩
  | 80 => ⟨S16x4x4352x4352, .f32⟩
  | 81 => ⟨S16x4x4352x4352, .f32⟩
  | 82 => ⟨S16x4x4352x4352, .f32⟩
  | 83 => ⟨S16x4x4352x4352, .f32⟩
  | 84 => ⟨S16x4x4352x4352, .f32⟩
  | 85 => ⟨S16x4x4352x512, .f32⟩
  | 86 => ⟨S16x4x256x512, .f32⟩
  | 87 => ⟨S16x4x256x512, .f32⟩
  | 88 => ⟨S16x4x4096x512, .f32⟩
  | 89 => ⟨S16x4x4096x512, .f32⟩
  | 90 => ⟨S16x4x256x512, .f32⟩
  | 91 => ⟨S16x4x4096x512, .f32⟩
  | 92 => ⟨S16x256x4x512, .f32⟩
  | 93 => ⟨S_, .f32⟩
  | 94 => ⟨S16x256x4, .f32⟩
  | 95 => ⟨S16x256x4x1, .f32⟩
  | 96 => ⟨S_, .f32⟩
  | 97 => ⟨S16x256x4x1, .f32⟩
  | 98 => ⟨S16x256x4x1, .f32⟩
  | 99 => ⟨S16x256x4x512, .f32⟩
  | 100 => ⟨S16x256x4x512, .f32⟩
  | 101 => ⟨S16x256x4x512, .f32⟩
  | 102 => ⟨S_, .f32⟩
  | 103 => ⟨S16x256x4, .f32⟩
  | 104 => ⟨S16x256x4x1, .f32⟩
  | 105 => ⟨S_, .f32⟩
  | 106 => ⟨S16x256x4x1, .f32⟩
  | 107 => ⟨S16x256x4x1, .f32⟩
  | 108 => ⟨S_, .f32⟩
  | 109 => ⟨S16x256x4x1, .f32⟩
  | 110 => ⟨S16x256x4x1, .f32⟩
  | 111 => ⟨S16x256x4x1, .f32⟩
  | 112 => ⟨S16x256x4x512, .f32⟩
  | 113 => ⟨S16x256x4x512, .f32⟩
  | 114 => ⟨S16x256x2048, .f32⟩
  | 115 => ⟨S1x1x2048, .f32⟩
  | 116 => ⟨S16x256x2048, .f32⟩
  | 117 => ⟨S16x256x2048, .f32⟩
  | 118 => ⟨S16x256x2048, .f32⟩
  | 119 => ⟨S16x256x2048, .f32⟩
  | 120 => ⟨S_, .f32⟩
  | 121 => ⟨S16x256x2048, .f32⟩
  | 122 => ⟨S16x256x2048, .f32⟩
  | 123 => ⟨S_, .f32⟩
  | 124 => ⟨S16x256x2048, .f32⟩
  | 125 => ⟨S16x256x2048, .f32⟩
  | 126 => ⟨S16x256x2048, .f32⟩
  | 127 => ⟨S16x256x2048, .f32⟩
  | _ => ⟨S16x256x6144, .bf16⟩

abbrev hbmTy0_3 (i : Nat) : BufTy := match i % 128 with
  | 0 => ⟨S16x256x2048, .bf16⟩
  | 1 => ⟨S16x4096x4x512, .f32⟩
  | 2 => ⟨S_, .f32⟩
  | 3 => ⟨S16x4096x4, .f32⟩
  | 4 => ⟨S16x4096x4x1, .f32⟩
  | 5 => ⟨S_, .f32⟩
  | 6 => ⟨S16x4096x4x1, .f32⟩
  | 7 => ⟨S16x4096x4x1, .f32⟩
  | 8 => ⟨S16x4096x4x512, .f32⟩
  | 9 => ⟨S16x4096x4x512, .f32⟩
  | 10 => ⟨S16x4096x4x512, .f32⟩
  | 11 => ⟨S_, .f32⟩
  | 12 => ⟨S16x4096x4, .f32⟩
  | 13 => ⟨S16x4096x4x1, .f32⟩
  | 14 => ⟨S_, .f32⟩
  | 15 => ⟨S16x4096x4x1, .f32⟩
  | 16 => ⟨S16x4096x4x1, .f32⟩
  | 17 => ⟨S_, .f32⟩
  | 18 => ⟨S16x4096x4x1, .f32⟩
  | 19 => ⟨S16x4096x4x1, .f32⟩
  | 20 => ⟨S16x4096x4x1, .f32⟩
  | 21 => ⟨S16x4096x4x512, .f32⟩
  | 22 => ⟨S16x4096x4x512, .f32⟩
  | 23 => ⟨S16x4096x2048, .f32⟩
  | 24 => ⟨S1x1x2048, .f32⟩
  | 25 => ⟨S16x4096x2048, .f32⟩
  | 26 => ⟨S16x4096x2048, .f32⟩
  | 27 => ⟨S16x4096x2048, .f32⟩
  | 28 => ⟨S16x4096x2048, .f32⟩
  | 29 => ⟨S_, .f32⟩
  | 30 => ⟨S16x4096x2048, .f32⟩
  | 31 => ⟨S16x4096x2048, .f32⟩
  | 32 => ⟨S_, .f32⟩
  | 33 => ⟨S16x4096x2048, .f32⟩
  | 34 => ⟨S16x4096x2048, .f32⟩
  | 35 => ⟨S16x4096x2048, .f32⟩
  | 36 => ⟨S16x4096x2048, .f32⟩
  | 37 => ⟨S16x4096x2048, .bf16⟩
  | _ => ⟨S16x256x6144, .bf16⟩

abbrev hbmTy (i : Nat) : BufTy := match i / 128 with
  | 0 => hbmTy0_0 i
  | 1 => hbmTy0_1 i
  | 2 => hbmTy0_2 i
  | 3 => hbmTy0_3 i
  | _ => ⟨S16x256x6144, .bf16⟩

abbrev bufTy : (tb : Table) → Fin (tcTables nBuf tb) → BufTy
  | .hbm, ⟨i, _⟩ => hbmTy i
  | _, _ => ⟨S16x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v34 : Ref sig .tc := ⟨.hbm, 72, rfl⟩
abbrev main_v35 : Ref sig .tc := ⟨.hbm, 73, rfl⟩
abbrev main_c_1 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_2 : Ref sig .tc := ⟨.hbm, 99, rfl⟩
abbrev main_v40 : Ref sig .tc := ⟨.hbm, 100, rfl⟩
abbrev main_v41 : Ref sig .tc := ⟨.hbm, 101, rfl⟩
abbrev main_cst_3 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_c_4 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_c : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_c_0 : Ref sig .tc := ⟨.hbm, 171, rfl⟩
abbrev main_call3_v12 : Ref sig .tc := ⟨.hbm, 172, rfl⟩
abbrev main_call3_v13 : Ref sig .tc := ⟨.hbm, 173, rfl⟩
abbrev main_v96 : Ref sig .tc := ⟨.hbm, 174, rfl⟩
abbrev main_v97 : Ref sig .tc := ⟨.hbm, 175, rfl⟩
abbrev main_c_5 : Ref sig .tc := ⟨.hbm, 176, rfl⟩
abbrev main_call4_v0 : Ref sig .tc := ⟨.hbm, 177, rfl⟩
abbrev main_call4_c : Ref sig .tc := ⟨.hbm, 178, rfl⟩
abbrev main_call4_v1 : Ref sig .tc := ⟨.hbm, 179, rfl⟩
abbrev main_call4_c_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_c_1 : Ref sig .tc := ⟨.hbm, 184, rfl⟩
abbrev main_call4_v5 : Ref sig .tc := ⟨.hbm, 185, rfl⟩
abbrev main_call4_v6 : Ref sig .tc := ⟨.hbm, 186, rfl⟩
abbrev main_call4_c_2 : Ref sig .tc := ⟨.hbm, 187, rfl⟩
abbrev main_call4_v7 : Ref sig .tc := ⟨.hbm, 188, rfl⟩
abbrev main_call4_v8 : Ref sig .tc := ⟨.hbm, 189, rfl⟩
abbrev main_call4_c_3 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_v12 : Ref sig .tc := ⟨.hbm, 194, rfl⟩
abbrev main_call4_v13 : Ref sig .tc := ⟨.hbm, 195, rfl⟩
abbrev main_call4_v14 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_cst_6 : Ref sig .tc := ⟨.hbm, 201, rfl⟩
abbrev main_v102 : Ref sig .tc := ⟨.hbm, 202, rfl⟩
abbrev main_v103 : Ref sig .tc := ⟨.hbm, 203, rfl⟩
abbrev main_cst_7 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_call5_call0_cst : Ref sig .tc := ⟨.hbm, 272, rfl⟩
abbrev main_call5_call0_v0 : Ref sig .tc := ⟨.hbm, 273, rfl⟩
abbrev main_v171 : Ref sig .tc := ⟨.hbm, 274, rfl⟩
abbrev main_c_8 : Ref sig .tc := ⟨.hbm, 275, rfl⟩
abbrev main_v172 : Ref sig .tc := ⟨.hbm, 276, rfl⟩
abbrev main_call6_v0 : Ref sig .tc := ⟨.hbm, 277, rfl⟩
abbrev main_call6_c : Ref sig .tc := ⟨.hbm, 278, rfl⟩
abbrev main_call6_v1 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_call6_c_0 : Ref sig .tc := ⟨.hbm, 283, rfl⟩
abbrev main_call6_v5 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_cst_9 : Ref sig .tc := ⟨.hbm, 291, rfl⟩
abbrev main_call7_v0 : Ref sig .tc := ⟨.hbm, 292, rfl⟩
abbrev main_call7_v1 : Ref sig .tc := ⟨.hbm, 293, rfl⟩
abbrev main_call7_v2 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_call16_call0_cst : Ref sig .tc := ⟨.hbm, 314, rfl⟩
abbrev main_call16_call0_v0 : Ref sig .tc := ⟨.hbm, 315, rfl⟩
abbrev main_v198 : Ref sig .tc := ⟨.hbm, 316, rfl⟩
abbrev main_c_10 : Ref sig .tc := ⟨.hbm, 317, rfl⟩
abbrev main_v199 : Ref sig .tc := ⟨.hbm, 318, rfl⟩
abbrev main_call17_v0 : Ref sig .tc := ⟨.hbm, 319, rfl⟩
abbrev main_call17_c : Ref sig .tc := ⟨.hbm, 320, rfl⟩
abbrev main_call17_v1 : Ref sig .tc := ⟨.hbm, 321, rfl⟩
abbrev main_call17_v2 : Ref sig .tc := ⟨.hbm, 322, rfl⟩
abbrev main_call17_v3 : Ref sig .tc := ⟨.hbm, 323, rfl⟩
abbrev main_call17_v4 : Ref sig .tc := ⟨.hbm, 324, rfl⟩
abbrev main_call17_c_0 : Ref sig .tc := ⟨.hbm, 325, rfl⟩
abbrev main_call17_v5 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_cst_11 : Ref sig .tc := ⟨.hbm, 333, rfl⟩
abbrev main_call18_v0 : Ref sig .tc := ⟨.hbm, 334, rfl⟩
abbrev main_call18_v1 : Ref sig .tc := ⟨.hbm, 335, rfl⟩
abbrev main_call18_v2 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_cst_12 : Ref sig .tc := ⟨.hbm, 349, rfl⟩
abbrev main_v218 : Ref sig .tc := ⟨.hbm, 350, rfl⟩
abbrev main_v219 : Ref sig .tc := ⟨.hbm, 351, rfl⟩
abbrev main_cst_13 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_cst_14 : Ref sig .tc := ⟨.hbm, 358, rfl⟩
abbrev main_v225 : Ref sig .tc := ⟨.hbm, 359, rfl⟩
abbrev main_v226 : Ref sig .tc := ⟨.hbm, 360, rfl⟩
abbrev main_cst_15 : Ref sig .tc := ⟨.hbm, 361, rfl⟩
abbrev main_v227 : Ref sig .tc := ⟨.hbm, 362, rfl⟩
abbrev main_v228 : Ref sig .tc := ⟨.hbm, 363, rfl⟩
abbrev main_cst_16 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_call21_v0 : Ref sig .tc := ⟨.hbm, 374, rfl⟩
abbrev main_call21_v1 : Ref sig .tc := ⟨.hbm, 375, rfl⟩
abbrev main_call21_cst : Ref sig .tc := ⟨.hbm, 376, rfl⟩
abbrev main_call21_v2 : Ref sig .tc := ⟨.hbm, 377, rfl⟩
abbrev main_call21_v3 : Ref sig .tc := ⟨.hbm, 378, rfl⟩
abbrev main_call21_cst_0 : Ref sig .tc := ⟨.hbm, 379, rfl⟩
abbrev main_call21_v4 : Ref sig .tc := ⟨.hbm, 380, rfl⟩
abbrev main_call21_v5 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_v241 : Ref sig .tc := ⟨.hbm, 385, rfl⟩
abbrev main_cst_17 : Ref sig .tc := ⟨.hbm, 386, rfl⟩
abbrev main_v242 : Ref sig .tc := ⟨.hbm, 387, rfl⟩
abbrev main_v243 : Ref sig .tc := ⟨.hbm, 388, rfl⟩
abbrev main_cst_18 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_v247 : Ref sig .tc := ⟨.hbm, 393, rfl⟩
abbrev main_v248 : Ref sig .tc := ⟨.hbm, 394, rfl⟩
abbrev main_cst_19 : Ref sig .tc := ⟨.hbm, 395, rfl⟩
abbrev main_v249 : Ref sig .tc := ⟨.hbm, 396, rfl⟩
abbrev main_v250 : Ref sig .tc := ⟨.hbm, 397, rfl⟩
abbrev main_cst_20 : Ref sig .tc := ⟨.hbm, 398, rfl⟩
abbrev main_v251 : Ref sig .tc := ⟨.hbm, 399, rfl⟩
abbrev main_v252 : Ref sig .tc := ⟨.hbm, 400, rfl⟩
abbrev main_cst_21 : Ref sig .tc := ⟨.hbm, 401, rfl⟩
abbrev main_v253 : Ref sig .tc := ⟨.hbm, 402, rfl⟩
abbrev main_v254 : Ref sig .tc := ⟨.hbm, 403, rfl⟩
abbrev main_v255 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_call22_v0 : Ref sig .tc := ⟨.hbm, 411, rfl⟩
abbrev main_call22_v1 : Ref sig .tc := ⟨.hbm, 412, rfl⟩
abbrev main_call22_cst : Ref sig .tc := ⟨.hbm, 413, rfl⟩
abbrev main_call22_v2 : Ref sig .tc := ⟨.hbm, 414, rfl⟩
abbrev main_call22_v3 : Ref sig .tc := ⟨.hbm, 415, rfl⟩
abbrev main_call22_cst_0 : Ref sig .tc := ⟨.hbm, 416, rfl⟩
abbrev main_call22_v4 : Ref sig .tc := ⟨.hbm, 417, rfl⟩
abbrev main_call22_v5 : Ref sig .tc := ⟨.hbm, 418, rfl⟩
abbrev main_v262 : Ref sig .tc := ⟨.hbm, 419, rfl⟩
abbrev main_v263 : Ref sig .tc := ⟨.hbm, 420, rfl⟩
abbrev main_v264 : Ref sig .tc := ⟨.hbm, 421, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S16x1x1024 : Shape := ⟨3, ![16, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x2816 : Shape := ⟨2, ![1024, 2816]⟩
abbrev S1x1024 : Shape := ⟨2, ![1, 1024]⟩
abbrev S1x2816 : Shape := ⟨2, ![1, 2816]⟩
abbrev S1x512x1024 : Shape := ⟨3, ![1, 512, 1024]⟩
abbrev S1x1x1024 : Shape := ⟨3, ![1, 1, 1024]⟩
abbrev S256x1 : Shape := ⟨2, ![256, 1]⟩
abbrev S1x256x1024 : Shape := ⟨3, ![1, 256, 1024]⟩
abbrev S256x1024 : Shape := ⟨2, ![256, 1024]⟩
abbrev S256 : Shape := ⟨1, ![256]⟩
abbrev S256x2816 : Shape := ⟨2, ![256, 2816]⟩

abbrev nBuf : Space → Nat
  | .hbm => 19
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S16x1x1024, .f32⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1x2816, .f32⟩
  | .hbm, ⟨17, _⟩ => ⟨S1x1024, .f32⟩
  | .hbm, ⟨18, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S1024x64x2816 : Shape := ⟨3, ![1024, 64, 2816]⟩
abbrev S1024x66x2816 : Shape := ⟨3, ![1024, 66, 2816]⟩
abbrev S1x2816 : Shape := ⟨2, ![1, 2816]⟩
abbrev S1x1x2816 : Shape := ⟨3, ![1, 1, 2816]⟩

abbrev nBuf : Space → Nat
  | .hbm => 102
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S16x1x1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x5632, .f32⟩
  | .hbm, ⟨34, _⟩ => ⟨S16x4096x2816, .f32⟩
  | .hbm, ⟨35, _⟩ => ⟨S16x4096x2816, .f32⟩
  | .hbm, ⟨36, _⟩ => ⟨S1024x64x2816, .f32⟩
  | .hbm, ⟨37, _⟩ => ⟨S_, .i32⟩
  | .hbm, ⟨38, _⟩ => ⟨S_, .f32⟩
  | .hbm, ⟨39, _⟩ => ⟨S1024x66x2816, .f32⟩
  | .hbm, ⟨40, _⟩ => ⟨S1024x64x2816, .f32⟩
  | .hbm, ⟨41, _⟩ => ⟨S1x2816, .f32⟩
  | .hbm, ⟨42, _⟩ => ⟨S2816, .f32⟩
  | .hbm, ⟨43, _⟩ => ⟨S1x1x2816, .f32⟩
  | .hbm, ⟨44, _⟩ => ⟨S1024x64x2816, .f32⟩
  | .hbm, ⟨45, _⟩ => ⟨S1024x64x2816, .f32⟩
  | .hbm, ⟨46, _⟩ => ⟨S1024x64x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S1024x64x2816, .f32⟩
  | .hbm, ⟨51, _⟩ => ⟨S1024x64x2816, .f32⟩
  | .hbm, ⟨52, _⟩ => ⟨S1024x64x2816, .f32⟩
  | .hbm, ⟨53, _⟩ => ⟨S1024x64x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S1024x64x2816, .f32⟩
  | .hbm, ⟨58, _⟩ => ⟨S1024x64x2816, .f32⟩
  | .hbm, ⟨59, _⟩ => ⟨S1024x64x2816, .f32⟩
  | .hbm, ⟨60, _⟩ => ⟨S1x1x2816, .f32⟩
  | .hbm, ⟨61, _⟩ => ⟨S1024x64x2816, .f32⟩
  | .hbm, ⟨62, _⟩ => ⟨S1024x64x2816, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S_, .f32⟩
  | .hbm, ⟨67, _⟩ => ⟨S16x4096x2816, .f32⟩
  | .hbm, ⟨68, _⟩ => ⟨S16x4096x2816, .f32⟩
  | .hbm, ⟨69, _⟩ => ⟨S16x4096x2816, .f32⟩
  | .hbm, ⟨70, _⟩ => ⟨S_, .f32⟩
  | .hbm, ⟨71, _⟩ => ⟨S16x4096x2816, .f32⟩
  | .hbm, ⟨72, _⟩ => ⟨S16x4096x2816, .f32⟩
  | .hbm, ⟨73, _⟩ => ⟨S16x4096x2816, .f32⟩
  | .hbm, ⟨74, _⟩ => ⟨S_, .f32⟩
  | .hbm, ⟨75, _⟩ => ⟨S16x4096x2816, .f32⟩
  | .hbm, ⟨76, _⟩ => ⟨S16x4096x2816, .f32⟩
  | .hbm, ⟨77, _⟩ => ⟨S_, .f32⟩
  | .hbm, ⟨78, _⟩ => ⟨S16x4096x2816, .f32⟩
  | .hbm, ⟨79, _⟩ => ⟨S16x4096x2816, .f32⟩
  | .hbm, ⟨80, _⟩ => ⟨S16x4096x2816, .f32⟩
  | .hbm, ⟨81, _⟩ => ⟨S16x4096x2816, .f32⟩
  | .hbm, ⟨82, _⟩ => ⟨S16x4096x1024, .f32⟩
  | .hbm, ⟨83, _⟩ => ⟨S16x4096x1024, .f32⟩
  | .hbm, ⟨84, _⟩ => ⟨S_, .f32⟩
  | .hbm, ⟨85, _⟩ => ⟨S16x4096, .f32⟩
  | .hbm, ⟨86, _⟩ => ⟨S16x4096x1, .f32⟩
  | .hbm, ⟨87, _⟩ => ⟨S_, .f32⟩
  | .hbm, ⟨88, _⟩ => ⟨S16x4096x1, .f32⟩
  | .hbm, ⟨89, _⟩ => ⟨S16x4096x1, .f32⟩
  | .hbm, ⟨90, _⟩ => ⟨S_, .f32⟩
  | .hbm, ⟨91, _⟩ => ⟨S16x4096x1, .f32⟩
  | .hbm, ⟨92, _⟩ => ⟨S16x4096x1, .f32⟩
  | .hbm, ⟨93, _⟩ => ⟨S16x4096x1, .f32⟩
  | .hbm, ⟨94, _⟩ => ⟨S16x4096x1024, .f32⟩
  | .hbm, ⟨95, _⟩ => ⟨S16x4096x1024, .f32⟩
  | .hbm, ⟨96, _⟩ => ⟨S1x1x1024, .f32⟩
  | .hbm, ⟨97, _⟩ => ⟨S16x4096x1024, .f32⟩
  | .hbm, ⟨98, _⟩ => ⟨S16x4096x1024, .f32⟩
  | .hbm, ⟨99, _⟩ => ⟨S16x4096x1024, .f32⟩
  | .hbm, ⟨100, _⟩ => ⟨S16x4096x1024, .f32⟩
  | .hbm, ⟨101, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Project.lean ====
abbrev S16x4096x1024 : Shape := ⟨3, ![16, 4096, 1024]⟩
abbrev S1024 : Shape := ⟨1, ![1024]⟩
abbrev S16x1x1024 : Shape := ⟨3, ![16, 1, 1024]⟩
abbrev S1024x6144 : Shape := ⟨2, ![1024, 6144]⟩
abbrev S1x1024 : Shape := ⟨2, ![1, 1024]⟩
abbrev S16x4096x6144 : Shape := ⟨3, ![16, 4096, 6144]⟩
abbrev S1x512x1024 : Shape := ⟨3, ![1, 512, 1024]⟩
abbrev S1x1x1024 : Shape := ⟨3, ![1, 1, 1024]⟩
abbrev S1x512x6144 : Shape := ⟨3, ![1, 512, 6144]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x6144, .f32⟩
  | .hbm, ⟨5, _⟩ => ⟨S1024x6144, .bf16⟩
  | .hbm, ⟨6, _⟩ => ⟨S1x1024, .f32⟩
  | .hbm, ⟨7, _⟩ => ⟨S16x4096x6144, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6144, .bf16⟩
  | .local _ .vmem, ⟨8, _⟩ => ⟨S1x512x6144, .bf16⟩
  | .local _ .vmem, ⟨9, _⟩ => ⟨S1x512x6144, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjectReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x6144 : Shape := ⟨2, ![1024, 6144]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x6144 : Shape := ⟨3, ![16, 4096, 6144]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x6144, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x6144, .f32⟩
  | .hbm, ⟨29, _⟩ => ⟨S16x4096x6144, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Output.lean ====
abbrev S16x4096x2048 : Shape := ⟨3, ![16, 4096, 2048]⟩
abbrev S2048x1024 : Shape := ⟨2, ![2048, 1024]⟩
abbrev S16x4096x1024 : Shape := ⟨3, ![16, 4096, 1024]⟩
abbrev S1024 : Shape := ⟨1, ![1024]⟩
abbrev S16x1x1024 : Shape := ⟨3, ![16, 1, 1024]⟩
abbrev S1x1024 : Shape := ⟨2, ![1, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x2048, .bf16⟩
  | .hbm, ⟨1, _⟩ => ⟨S2048x1024, .f32⟩
  | .hbm, ⟨2, _⟩ => ⟨S16x4096x1024, .f32⟩
  | .hbm, ⟨3, _⟩ => ⟨S1024, .f32⟩
  | .hbm, ⟨4, _⟩ => ⟨S16x1x1024, .f32⟩
  | .hbm, ⟨5, _⟩ => ⟨S2048x1024, .bf16⟩
  | .hbm, ⟨6, _⟩ => ⟨S1x1024, .f32⟩
  | .hbm, ⟨7, _⟩ => ⟨S16x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutputIdeal.lean ====
abbrev S16x4096x2048 : Shape := ⟨3, ![16, 4096, 2048]⟩
abbrev S2048x1024 : Shape := ⟨2, ![2048, 1024]⟩
abbrev S16x4096x1024 : Shape := ⟨3, ![16, 4096, 1024]⟩
abbrev S1024 : Shape := ⟨1, ![1024]⟩
abbrev S16x1x1024 : Shape := ⟨3, ![16, 1, 1024]⟩
abbrev S1x1024 : Shape := ⟨2, ![1, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x2048, .bf16⟩
  | .hbm, ⟨1, _⟩ => ⟨S2048x1024, .f32⟩
  | .hbm, ⟨2, _⟩ => ⟨S16x4096x1024, .f32⟩
  | .hbm, ⟨3, _⟩ => ⟨S1024, .f32⟩
  | .hbm, ⟨4, _⟩ => ⟨S16x1x1024, .f32⟩
  | .hbm, ⟨5, _⟩ => ⟨S2048x1024, .bf16⟩
  | .hbm, ⟨6, _⟩ => ⟨S1x1024, .f32⟩
  | .hbm, ⟨7, _⟩ => ⟨S16x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutputReferenceIdeal.lean ====
abbrev S16x4096x2048 : Shape := ⟨3, ![16, 4096, 2048]⟩
abbrev S2048x1024 : Shape := ⟨2, ![2048, 1024]⟩
abbrev S16x4096x1024 : Shape := ⟨3, ![16, 4096, 1024]⟩
abbrev S1024 : Shape := ⟨1, ![1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S2048x1024, .f32⟩
  | .hbm, ⟨2, _⟩ => ⟨S16x4096x1024, .f32⟩
  | .hbm, ⟨3, _⟩ => ⟨S1024, .f32⟩
  | .hbm, ⟨4, _⟩ => ⟨S16x1x1024, .f32⟩
  | .hbm, ⟨5, _⟩ => ⟨S16x4096x2048, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== GatedProject.lean ====
abbrev S16x4096x1024 : Shape := ⟨3, ![16, 4096, 1024]⟩
abbrev S1024 : Shape := ⟨1, ![1024]⟩
abbrev S16x1x1024 : Shape := ⟨3, ![16, 1, 1024]⟩
abbrev S1024x5120 : Shape := ⟨2, ![1024, 5120]⟩
abbrev S1024x1024 : Shape := ⟨2, ![1024, 1024]⟩
abbrev S1024x3072 : Shape := ⟨2, ![1024, 3072]⟩
abbrev S1024x2048 : Shape := ⟨2, ![1024, 2048]⟩
abbrev S1x1024 : Shape := ⟨2, ![1, 1024]⟩
abbrev S16x4096x3072 : Shape := ⟨3, ![16, 4096, 3072]⟩
abbrev S16x4096x2048 : Shape := ⟨3, ![16, 4096, 2048]⟩
abbrev S1x512x1024 : Shape := ⟨3, ![1, 512, 1024]⟩
abbrev S1x1x1024 : Shape := ⟨3, ![1, 1, 1024]⟩
abbrev S1x512x3072 : Shape := ⟨3, ![1, 512, 3072]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 17
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5120, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S1024x2048, .f32⟩
  | .hbm, ⟨13, _⟩ => ⟨S1024x2048, .bf16⟩
  | .hbm, ⟨14, _⟩ => ⟨S1x1024, .f32⟩
  | .hbm, ⟨15, _⟩ => ⟨S16x4096x3072, .bf16⟩
  | .hbm, ⟨16, _⟩ => ⟨S16x4096x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x2048, .bf16⟩
  | .local _ .vmem, ⟨9, _⟩ => ⟨S1x512x3072, .bf16⟩
  | .local _ .vmem, ⟨10, _⟩ => ⟨S1x512x3072, .bf16⟩
  | .local _ .vmem, ⟨11, _⟩ => ⟨S1x512x2048, .f32⟩
  | .local _ .vmem, ⟨12, _⟩ => ⟨S1x512x2048, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GatedProjectReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x5120 : Shape := ⟨2, ![1024, 5120]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5120 : Shape := ⟨3, ![16, 4096, 5120]⟩
abbrev S16x4096x3072 : Shape := ⟨3, ![16, 4096, 3072]⟩
abbrev S16x4096x2048 : Shape := ⟨3, ![16, 4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5120, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x5120, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x3072, .f32⟩
  | .hbm, ⟨35, _⟩ => ⟨S16x4096x3072, .bf16⟩
  | .hbm, ⟨36, _⟩ => ⟨S16x4096x2048, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== StateProject.lean ====
abbrev S16x4096x1024 : Shape := ⟨3, ![16, 4096, 1024]⟩
abbrev S1024 : Shape := ⟨1, ![1024]⟩
abbrev S16x1x1024 : Shape := ⟨3, ![16, 1, 1024]⟩
abbrev S1024x5184 : Shape := ⟨2, ![1024, 5184]⟩
abbrev S1024x5120 : Shape := ⟨2, ![1024, 5120]⟩
abbrev S1024x64 : Shape := ⟨2, ![1024, 64]⟩
abbrev S1024x2x4x8 : Shape := ⟨4, ![1024, 2, 4, 8]⟩
abbrev S1024x4x2x8 : Shape := ⟨4, ![1024, 4, 2, 8]⟩
abbrev S1024x4x16 : Shape := ⟨3, ![1024, 4, 16]⟩
abbrev S_ : Shape := ⟨0, ![]⟩
abbrev S1024x4x112 : Shape := ⟨3, ![1024, 4, 112]⟩
abbrev S1024x4x128 : Shape := ⟨3, ![1024, 4, 128]⟩
abbrev S1024x512 : Shape := ⟨2, ![1024, 512]⟩
abbrev S1x1024 : Shape := ⟨2, ![1, 1024]⟩
abbrev S16x4096x5120 : Shape := ⟨3, ![16, 4096, 5120]⟩
abbrev S16x4096x512 : Shape := ⟨3, ![16, 4096, 512]⟩
abbrev S1x512x1024 : Shape := ⟨3, ![1, 512, 1024]⟩
abbrev S1x1x1024 : Shape := ⟨3, ![1, 1, 1024]⟩
abbrev S1x512x5120 : Shape := ⟨3, ![1, 512, 5120]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5184, .f32⟩
  | .hbm, ⟨5, _⟩ => ⟨S1024x5120, .f32⟩
  | .hbm, ⟨6, _⟩ => ⟨S1024x5120, .bf16⟩
  | .hbm, ⟨7, _⟩ => ⟨S1024x64, .f32⟩
  | .hbm, ⟨8, _⟩ => ⟨S1024x2x4x8, .f32⟩
  | .hbm, ⟨9, _⟩ => ⟨S1024x4x2x8, .f32⟩
  | .hbm, ⟨10, _⟩ => ⟨S1024x4x16, .f32⟩
  | .hbm, ⟨11, _⟩ => ⟨S_, .f32⟩
  | .hbm, ⟨12, _⟩ => ⟨S1024x4x112, .f32⟩
  | .hbm, ⟨13, _⟩ => ⟨S1024x4x128, .f32⟩
  | .hbm, ⟨14, _⟩ => ⟨S1024x512, .f32⟩
  | .hbm, ⟨15, _⟩ => ⟨S1024x512, .bf16⟩
  | .hbm, ⟨16, _⟩ => ⟨S1x1024, .f32⟩
  | .hbm, ⟨17, _⟩ => ⟨S16x4096x5120, .bf16⟩
  | .hbm, ⟨18, _⟩ => ⟨S16x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5120, .bf16⟩
  | .local _ .vmem, ⟨8, _⟩ => ⟨S1024x512, .bf16⟩
  | .local _ .vmem, ⟨9, _⟩ => ⟨S1x512x5120, .bf16⟩
  | .local _ .vmem, ⟨10, _⟩ => ⟨S1x512x5120, .bf16⟩
  | .local _ .vmem, ⟨11, _⟩ => ⟨S1x512x512, .f32⟩
  | .local _ .vmem, ⟨12, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StateProjectReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x5184 : Shape := ⟨2, ![1024, 5184]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5184 : Shape := ⟨3, ![16, 4096, 5184]⟩
abbrev S16x4096x2048 : Shape := ⟨3, ![16, 4096, 2048]⟩
abbrev S16x4096x3072 : Shape := ⟨3, ![16, 4096, 3072]⟩
abbrev S16x4096x64 : Shape := ⟨3, ![16, 4096, 64]⟩
abbrev S16x4096x2x4x8 : Shape := ⟨5, ![16, 4096, 2, 4, 8]⟩
abbrev S16x4096x4x2x8 : Shape := ⟨5, ![16, 4096, 4, 2, 8]⟩
abbrev S16x4096x4x16 : Shape := ⟨4, ![16, 4096, 4, 16]⟩
abbrev S16x4096x4x128 : Shape := ⟨4, ![16, 4096, 4, 128]⟩
abbrev S16x4096x512 : Shape := ⟨3, ![16, 4096, 512]⟩
abbrev S16x4096x5120 : Shape := ⟨3, ![16, 4096, 5120]⟩

abbrev nBuf : Space → Nat
  | .hbm => 41
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5184, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x5184, .f32⟩
  | .hbm, ⟨29, _⟩ => ⟨S16x4096x2048, .f32⟩
  | .hbm, ⟨30, _⟩ => ⟨S16x4096x3072, .f32⟩
  | .hbm, ⟨31, _⟩ => ⟨S16x4096x64, .f32⟩
  | .hbm, ⟨32, _⟩ => ⟨S16x4096x2x4x8, .f32⟩
  | .hbm, ⟨33, _⟩ => ⟨S16x4096x4x2x8, .f32⟩
  | .hbm, ⟨34, _⟩ => ⟨S16x4096x4x16, .f32⟩
  | .hbm, ⟨35, _⟩ => ⟨S_, .i32⟩
  | .hbm, ⟨36, _⟩ => ⟨S_, .f32⟩
  | .hbm, ⟨37, _⟩ => ⟨S16x4096x4x128, .f32⟩
  | .hbm, ⟨38, _⟩ => ⟨S16x4096x512, .f32⟩
  | .hbm, ⟨39, _⟩ => ⟨S16x4096x5120, .f32⟩
  | .hbm, ⟨40, _⟩ => ⟨S16x4096x5120, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== NarrowOutput.lean ====
abbrev S16x4096x1024 : Shape := ⟨3, ![16, 4096, 1024]⟩
abbrev S1024x1024 : Shape := ⟨2, ![1024, 1024]⟩
abbrev S1024 : Shape := ⟨1, ![1024]⟩
abbrev S16x1x1024 : Shape := ⟨3, ![16, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S1024, .f32⟩
  | .hbm, ⟨4, _⟩ => ⟨S16x1x1024, .f32⟩
  | .hbm, ⟨5, _⟩ => ⟨S1024x1024, .bf16⟩
  | .hbm, ⟨6, _⟩ => ⟨S1x1024, .f32⟩
  | .hbm, ⟨7, _⟩ => ⟨S16x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NarrowOutputReferenceIdeal.lean ====
abbrev S16x4096x1024 : Shape := ⟨3, ![16, 4096, 1024]⟩
abbrev S1024x1024 : Shape := ⟨2, ![1024, 1024]⟩
abbrev S1024 : Shape := ⟨1, ![1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S1024x1024, .f32⟩
  | .hbm, ⟨2, _⟩ => ⟨S16x4096x1024, .f32⟩
  | .hbm, ⟨3, _⟩ => ⟨S1024, .f32⟩
  | .hbm, ⟨4, _⟩ => ⟨S16x1x1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Modulation.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S4x1x6144, .f32⟩
  | .hbm, ⟨9, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩
abbrev S4x7x6144 : Shape := ⟨3, ![4, 7, 6144]⟩
abbrev S4x24x6144 : Shape := ⟨3, ![4, 24, 6144]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S4x6144x16, .f32⟩
  | .hbm, ⟨14, _⟩ => ⟨S4x16x6144, .f32⟩
  | .hbm, ⟨15, _⟩ => ⟨S4x1x6144, .f32⟩
  | .hbm, ⟨16, _⟩ => ⟨S4x16x6144, .f32⟩
  | .hbm, ⟨17, _⟩ => ⟨S4x16x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x6144, .f32⟩
  | .hbm, ⟨28, _⟩ => ⟨S4x6144, .f32⟩
  | .hbm, ⟨29, _⟩ => ⟨S4x1x6144, .f32⟩
  | .hbm, ⟨30, _⟩ => ⟨S4x7x6144, .f32⟩
  | .hbm, ⟨31, _⟩ => ⟨S4x1x6144, .f32⟩
  | .hbm, ⟨32, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.Row.lean ====
/-
  What the layer does to one token's row of 1024 channels: the root mean square that scales it, the adaptive shift, and the gated
  addition to the stream.
-/
module

public import Idealize.ShloMosaic.Lib.Pointwise

@[expose] public section

noncomputable section

namespace Cert.Row

open Idealize.ShloMosaic

/-- One over the root mean square of a row. -/
def scale (x : Fin 1024 → EReal) : EReal :=
  Ideal.rsqrt (Ideal.div (∑ k, x k * x k) (Ideal.ofBits .f32 0x44800000#32) + Ideal.ofBits .f32 0x358637BD#32)

/-- A row scaled, weighted and shifted. -/
def shifted (x g s a : Fin 1024 → EReal) (e : Fin 1024) : EReal := x e * scale x * (g e * (1 + s e)) + a e

/-- A row scaled, weighted, gated, and added to the stream's. -/
def added (x h n g : Fin 1024 → EReal) (e : Fin 1024) : EReal := h e + g e * (x e * scale x * n e)

/-- The gate's smooth step, by its hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The same with the factors in another order. -/
def step (x : EReal) : EReal :=
  Ideal.ofBits .f32 0x3F000000#32 * x * (1 + Ideal.tanh (Ideal.ofBits .f32 0x3F4C422A#32 * (x + Ideal.ofBits .f32 0x3D372713#32 * (x * x * x))))

theorem step_eq (x : EReal) : step x = gelu x := by
  unfold step gelu
  rw [mul_comm (Ideal.ofBits .f32 0x3F000000#32) x, mul_assoc]

end Cert.Row

end
-- ==== Proof.Ffn.Pay.lean ====
/-
  What the ConvGLU kernel computes for 256 tokens, entry by entry. The kernel spells it out twice, once for each half of its block.
-/
module

public import proofs.«01_k».proof.Proof.Row
public import proofs.«01_k».proof.Proof.Gen.FfnIdeal.Value
public import Idealize.ShloMosaic.Lib.Pointwise
public import Idealize.ShloMosaic.Lib.Pipeline.ValueKit

@[expose] public section

set_option maxRecDepth 16384
set_option maxHeartbeats 4000000

noncomputable section

namespace Cert.FfnIdeal.Entry

open Cert.FfnIdeal Cert.FfnIdeal.Gen Cert.Row
open Idealize.ShloMosaic Idealize.ShloMosaic.TcCoe Idealize.ShloMosaic.Pointwise

/-- A branch of 256 tokens' normed rows. -/
def branch (h : Fin 256 → Fin 1024 → EReal) (g s a : Fin 1024 → EReal) (w : Fin 1024 → Fin 2816 → EReal) (r : Fin 256) (j : Fin 2816) : EReal :=
  ∑ k : Fin 1024, shifted (h r) g s a k * w k j

/-- The convolution along rows of 64 tokens. -/
def along (x : Fin 256 → Fin 2816 → EReal) (c : Fin 3 → Fin 2816 → EReal) (b : Fin 2816 → EReal) (r : Fin 256) (j : Fin 2816) : EReal :=
  (if r.val % 64 = 0 then 0 else x ⟨r.val - 1, by omega⟩ j) * c 0 j + x r j * c 1 j
    + (if h : r.val % 64 = 63 then 0 else x ⟨r.val + 1, by omega⟩ j) * c 2 j + b j

/-- The sub-layer's result for 256 tokens. -/
def result (h : Fin 256 → Fin 1024 → EReal) (g s a : Fin 1024 → EReal) (wa wv : Fin 1024 → Fin 2816 → EReal) (c : Fin 3 → Fin 2816 → EReal) (b : Fin 2816 → EReal)
    (wd : Fin 2816 → Fin 1024 → EReal) (n o : Fin 1024 → EReal) (r : Fin 256) (e : Fin 1024) : EReal :=
  added (fun k => ∑ j : Fin 2816, gelu (along (branch h g s a wa) c b r j) * branch h g s a wv r j * wd j k) (h r) n o e

theorem first : ∀ r : Fin 256, k0_pay3 (ix2 r 0) = if r.val % 64 = 0 then 0#1 else 1#1 := by decide +kernel
theorem last : ∀ r : Fin 256, k0_pay4 (ix2 r 0) = if r.val % 64 = 63 then 0#1 else 1#1 := by decide +kernel

theorem prev_eq (x : Fin 256 → EReal) (r : Fin 256) (w : EReal) (q : Fin 256) (hq : q.val = (r.val + 256 - 1) % 256) :
    Scalar.select (k0_pay3 (ix2 r 0)) (w * x q) 0 = (if r.val % 64 = 0 then 0 else x ⟨r.val - 1, by omega⟩) * w := by
  rw [first]
  by_cases h : r.val % 64 = 0
  · rw [if_pos h, if_pos h, zero_mul]
    rfl
  · rw [if_neg h, if_neg h, mul_comm]
    have e : q = ⟨r.val - 1, by omega⟩ := Fin.ext (by show q.val = r.val - 1; omega)
    rw [e]
    rfl

theorem next_eq (x : Fin 256 → EReal) (r : Fin 256) (w : EReal) (q : Fin 256) (hq : q.val = (r.val + 256 - 255) % 256) :
    Scalar.select (k0_pay4 (ix2 r 0)) (w * x q) 0 = (if h : r.val % 64 = 63 then 0 else x ⟨r.val + 1, by omega⟩) * w := by
  rw [last]
  by_cases h : r.val % 64 = 63
  · rw [if_pos h, dif_pos h, zero_mul]
    rfl
  · rw [if_neg h, dif_neg h, mul_comm]
    have e : q = ⟨r.val + 1, by omega⟩ := Fin.ext (by show q.val = r.val + 1; omega)
    rw [e]
    rfl

section
variable (h : Vec Ideal S1x256x1024 .f32) (g : Vec Ideal S1x1024 .f32) (s a : Vec Ideal S1x1x1024 .f32) (w wv : Vec Ideal S1024x2816 .bf16)
  (c0 c1 c2 b : Vec Ideal S1x2816 .f32) (wd : Vec Ideal S2816x1024 .bf16) (n : Vec Ideal S1x1024 .f32) (o : Vec Ideal S1x1x1024 .f32)

/-- The three taps as one table. -/
def taps (i : Fin 3) (j : Fin 2816) : EReal := match i with
  | 0 => c0 (ix2 0 j)
  | 1 => c1 (ix2 0 j)
  | 2 => c2 (ix2 0 j)

theorem normed_fst (r : Fin 256) (k : Fin 1024) :
    (k0_pay10 (k0_pay5 h) (k0_pay6 g) (k0_pay7 s) (k0_pay8 a) (k0_pay9 h) (ix2 r k) : EReal)
      = shifted (fun k => h (ix3 0 r k)) (fun k => g (ix2 0 k)) (fun k => s (ix3 0 0 k)) (fun k => a (ix3 0 0 k)) k := by
  pointwise [k0_pay10, k0_pay5, k0_pay6, k0_pay7, k0_pay8, k0_pay9]
  rfl

theorem normed_snd (r : Fin 256) (k : Fin 1024) :
    (k0_pay16 h g s a (ix2 r k) : EReal)
      = shifted (fun k => h (ix3 0 r k)) (fun k => g (ix2 0 k)) (fun k => s (ix3 0 0 k)) (fun k => a (ix3 0 0 k)) k := by
  pointwise [k0_pay16, k0_pay15]
  rfl

theorem value_fst (H : FVec Ideal S256x1024 .f32) (G S A : FVec Ideal S1x1024 .f32) (Q : FVec Ideal S256x1 .f32) (r : Fin 256) (j : Fin 2816) :
    (k0_pay11 H G S A Q wv (ix2 r j) : EReal) = ∑ k : Fin 1024, (k0_pay10 H G S A Q (ix2 r k) : EReal) * wv (ix2 k j) := by
  pointwise [k0_pay11]

theorem gate_snd (r : Fin 256) (j : Fin 2816) :
    (k0_pay17 h g s a w (ix2 r j) : EReal) = ∑ k : Fin 1024, (k0_pay16 h g s a (ix2 r k) : EReal) * w (ix2 k j) := by
  pointwise [k0_pay17]

theorem value_snd (r : Fin 256) (j : Fin 2816) :
    (k0_pay18 h g s a wv (ix2 r j) : EReal) = ∑ k : Fin 1024, (k0_pay16 h g s a (ix2 r k) : EReal) * wv (ix2 k j) := by
  pointwise [k0_pay18]

theorem conv_fst (p q : IVec S256x1 1) (H : FVec Ideal S256x1024 .f32) (G S A : FVec Ideal S1x1024 .f32) (Q : FVec Ideal S256x1 .f32) (r : Fin 256) (j : Fin 2816) :
    (k0_pay12 p q H G S A Q w c0 c1 c2 (ix2 r j) : EReal)
      = Scalar.select (p (ix2 r 0)) (c0 (ix2 0 j) * ∑ k, (k0_pay10 H G S A Q (ix2 ⟨(r.val + 256 - 1) % 256, by omega⟩ k) : EReal) * w (ix2 k j)) 0
        + c1 (ix2 0 j) * ∑ k, (k0_pay10 H G S A Q (ix2 r k) : EReal) * w (ix2 k j)
        + Scalar.select (q (ix2 r 0)) (c2 (ix2 0 j) * ∑ k, (k0_pay10 H G S A Q (ix2 ⟨(r.val + 256 - 255) % 256, by omega⟩ k) : EReal) * w (ix2 k j)) 0 := by
  pointwise [k0_pay12]

theorem prev_snd (p : IVec S256x1 1) (r : Fin 256) (j : Fin 2816) :
    (k0_pay19 p h g s a w (ix2 r j) : EReal) = Scalar.select (p (ix2 r 0)) (k0_pay17 h g s a w (ix2 ⟨(r.val + 256 - 1) % 256, by omega⟩ j) : EReal) 0 := by
  pointwise [k0_pay19]

theorem bias_fst (r : Fin 256) (j : Fin 2816) : (k0_pay13 b (ix2 r j) : EReal) = b (ix2 0 j) := by
  pointwise [k0_pay13]

theorem back_fst (H : FVec Ideal S256x1024 .f32) (X C B : FVec Ideal S256x2816 .f32) (r : Fin 256) (e : Fin 1024) :
    (k0_pay14 H X C B wd o n (ix3 0 r e) : EReal)
      = added (fun k => ∑ j : Fin 2816, step (C (ix2 r j) + B (ix2 r j)) * X (ix2 r j) * wd (ix2 j k)) (fun k => H (ix2 r k))
          (fun k => n (ix2 0 k)) (fun k => o (ix3 0 0 k)) e := by
  pointwise [k0_pay14]
  rfl

theorem rows_snd (q : IVec S256x1 1) (X V Z : FVec Ideal S256x2816 .f32) (r : Fin 256) (e : Fin 1024) :
    (k0_pay20 q X V Z c0 c1 c2 b wd (ix2 r e) : EReal)
      = ∑ j : Fin 2816, step (c0 (ix2 0 j) * Z (ix2 r j) + c1 (ix2 0 j) * X (ix2 r j)
          + Scalar.select (q (ix2 r 0)) (c2 (ix2 0 j) * X (ix2 ⟨(r.val + 256 - 255) % 256, by omega⟩ j)) 0 + b (ix2 0 j)) * V (ix2 r j) * wd (ix2 j e) := by
  pointwise [k0_pay20]
  rfl

theorem back_snd (R : FVec Ideal S256x1024 .f32) (r : Fin 256) (e : Fin 1024) :
    (k0_pay1 (k0_pay15 h) R (k0_pay21 o) n (ix3 0 r e) : EReal)
      = added (fun k => R (ix2 r k)) (fun k => h (ix3 0 r k)) (fun k => n (ix2 0 k)) (fun k => o (ix3 0 0 k)) e := by
  pointwise [k0_pay1, k0_pay15, k0_pay21]
  rfl

/-- The first half's rows. -/
theorem half_fst (r : Fin 256) (e : Fin 1024) :
    (k0_pay14 (k0_pay5 h) (k0_pay11 (k0_pay5 h) (k0_pay6 g) (k0_pay7 s) (k0_pay8 a) (k0_pay9 h) wv)
        (k0_pay12 k0_pay3 k0_pay4 (k0_pay5 h) (k0_pay6 g) (k0_pay7 s) (k0_pay8 a) (k0_pay9 h) w c0 c1 c2) (k0_pay13 b) wd o n (ix3 0 r e) : EReal)
      = result (fun r k => h (ix3 0 r k)) (fun k => g (ix2 0 k)) (fun k => s (ix3 0 0 k)) (fun k => a (ix3 0 0 k)) (fun k j => w (ix2 k j)) (fun k j => wv (ix2 k j))
          (taps c0 c1 c2) (fun j => b (ix2 0 j)) (fun j k => wd (ix2 j k)) (fun k => n (ix2 0 k)) (fun k => o (ix3 0 0 k)) r e := by
  have hH : ∀ k, (k0_pay5 h (ix2 r k) : EReal) = h (ix3 0 r k) := fun k => by pointwise [k0_pay5]
  rw [back_fst]
  simp only [hH, value_fst, conv_fst, bias_fst, normed_fst, step_eq]
  unfold result
  congr 1
  funext k
  refine Finset.sum_congr rfl fun j _ => ?_
  refine congrArg (· * (wd (ix2 j k) : EReal)) (congrArg₂ (· * ·) (congrArg gelu ?_) rfl)
  unfold along
  rw [← prev_eq (fun r => branch _ _ _ _ _ r j) r _ ⟨(r.val + 256 - 1) % 256, by omega⟩ rfl, ← next_eq (fun r => branch _ _ _ _ _ r j) r _ ⟨(r.val + 256 - 255) % 256, by omega⟩ rfl,
    mul_comm (branch _ _ _ _ _ r j)]
  rfl

/-- The second half's rows. -/
theorem half_snd (r : Fin 256) (e : Fin 1024) :
    (k0_pay1 (k0_pay15 h) (k0_pay20 k0_pay4 (k0_pay17 h g s a w) (k0_pay18 h g s a wv) (k0_pay19 k0_pay3 h g s a w) c0 c1 c2 b wd) (k0_pay21 o) n (ix3 0 r e) : EReal)
      = result (fun r k => h (ix3 0 r k)) (fun k => g (ix2 0 k)) (fun k => s (ix3 0 0 k)) (fun k => a (ix3 0 0 k)) (fun k j => w (ix2 k j)) (fun k j => wv (ix2 k j))
          (taps c0 c1 c2) (fun j => b (ix2 0 j)) (fun j k => wd (ix2 j k)) (fun k => n (ix2 0 k)) (fun k => o (ix3 0 0 k)) r e := by
  have sel : ∀ (p : BitVec 1) (y z : EReal), y * Scalar.select p z 0 = Scalar.select p (y * z) 0 := fun p y z => by
    unfold Scalar.select
    split
    · rfl
    · exact mul_zero y
  rw [back_snd]
  simp only [rows_snd, gate_snd, value_snd, prev_snd, normed_snd, step_eq, sel]
  unfold result
  congr 1
  funext k
  refine Finset.sum_congr rfl fun j _ => ?_
  refine congrArg (· * (wd (ix2 j k) : EReal)) (congrArg₂ (· * ·) (congrArg gelu ?_) rfl)
  unfold along
  rw [← prev_eq (fun r => branch _ _ _ _ _ r j) r _ ⟨(r.val + 256 - 1) % 256, by omega⟩ rfl, ← next_eq (fun r => branch _ _ _ _ _ r j) r _ ⟨(r.val + 256 - 255) % 256, by omega⟩ rfl,
    mul_comm (branch _ _ _ _ _ r j)]
  rfl

end

end Cert.FfnIdeal.Entry

end
-- ==== Proof.Ffn.Ref.lean ====
/-
  The ConvGLU's reference in its stages: the adaptive norm, the two branches, the convolution along each grid row, the gate, the
  projection back, and the addition to the stream; each read at an index.
-/
module

public import proofs.«01_k».proof.Proof.Row
public import proofs.«01_k».proof.Proof.Gen.FfnReferenceIdeal.Run
public import Idealize.ShloMosaic.Lib.Pointwise
public import Idealize.ShloMosaic.Lib.Pipeline.ValueKit

@[expose] public section

set_option maxRecDepth 16384
set_option maxHeartbeats 4000000

noncomputable section

namespace Cert.FfnReferenceIdeal.Entry

open Cert.FfnReferenceIdeal Cert.FfnReferenceIdeal.Gen
open Idealize.ShloMosaic Idealize.ShloMosaic.TcCoe Idealize.ShloMosaic.Pointwise Idealize.ShloMosaic.StableHlo

/-- The stream, normed and shifted. -/
def normed (H : FVec Ideal S16x4096x1024 .f32) (G : FVec Ideal S1024 .f32) (S A : FVec Ideal S16x1x1024 .f32) : FVec Ideal S16x4096x1024 .f32 :=
  addf (mulf (mulf (mulf H (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 G))) (broadcastInDim S16x4096x1024 ![0, 1, 2] bcast_S16x1x1024_S16x4096x1024_0_1_2 (addf (broadcastInDim S16x1x1024 ![] bcast_S_S16x1x1024 (constant S_ .f32 0x3F800000#32)) S))) (broadcastInDim S16x4096x1024 ![0, 1, 2] bcast_S16x1x1024_S16x4096x1024_0_1_2 A)

/-- Both branches. -/
def branches (U : FVec Ideal S16x4096x1024 .f32) (W : FVec Ideal S1024x5632 .f32) : FVec Ideal S16x4096x5632 .f32 :=
  Host.dotGeneral dot_S16x4096x1024_S1024x5632_S16x4096x5632_2_0_01_1_n_n none U W

/-- The gate branch, row by row of the grid, with a zero at either end of each row. -/
def padded (X : FVec Ideal S16x4096x5632 .f32) : FVec Ideal S1024x66x2816 .f32 :=
  pad S1024x66x2816 ![0, 1, 0] ![0, 1, 0] ![0, 0, 0] (shapeCast _ (extractStridedSlice S16x4096x2816 ![0, 0, 0] X slices_S16x4096x5632_S16x4096x2816_0_0_0) shapeCasts_S16x4096x2816_S1024x64x2816) (sitofp .f32 (constantI S_ 32 0#32)) pads_S1024x64x2816_S1024x66x2816_000_110_000 h_S_

/-- The convolution along the rows. -/
def conv (P : FVec Ideal S1024x66x2816 .f32) (C : FVec Ideal S3x2816 .f32) (B : FVec Ideal S2816 .f32) : FVec Ideal S16x4096x2816 .f32 :=
  shapeCast _ (addf (addf (addf (mulf (extractStridedSlice S1024x64x2816 ![0, 0, 0] P slices_S1024x66x2816_S1024x64x2816_0_0_0) (broadcastInDim S1024x64x2816 ![0, 1, 2] bcast_S1x1x2816_S1024x64x2816_0_1_2 (broadcastInDim S1x1x2816 ![2] bcast_S2816_S1x1x2816_2 (shapeCast _ (extractStridedSlice S1x2816 ![0, 0] C slices_S3x2816_S1x2816_0_0) shapeCasts_S1x2816_S2816)))) (mulf (extractStridedSlice S1024x64x2816 ![0, 1, 0] P slices_S1024x66x2816_S1024x64x2816_0_1_0) (broadcastInDim S1024x64x2816 ![0, 1, 2] bcast_S1x1x2816_S1024x64x2816_0_1_2 (broadcastInDim S1x1x2816 ![2] bcast_S2816_S1x1x2816_2 (shapeCast _ (extractStridedSlice S1x2816 ![1, 0] C slices_S3x2816_S1x2816_1_0) shapeCasts_S1x2816_S2816))))) (mulf (extractStridedSlice S1024x64x2816 ![0, 2, 0] P slices_S1024x66x2816_S1024x64x2816_0_2_0) (broadcastInDim S1024x64x2816 ![0, 1, 2] bcast_S1x1x2816_S1024x64x2816_0_1_2 (broadcastInDim S1x1x2816 ![2] bcast_S2816_S1x1x2816_2 (shapeCast _ (extractStridedSlice S1x2816 ![2, 0] C slices_S3x2816_S1x2816_2_0) shapeCasts_S1x2816_S2816))))) (broadcastInDim S1024x64x2816 ![0, 1, 2] bcast_S1x1x2816_S1024x64x2816_0_1_2 (broadcastInDim S1x1x2816 ![2] bcast_S2816_S1x1x2816_2 B))) shapeCasts_S1024x64x2816_S16x4096x2816

/-- The gated values. -/
def hidden (V : FVec Ideal S16x4096x2816 .f32) (X : FVec Ideal S16x4096x5632 .f32) : FVec Ideal S16x4096x2816 .f32 :=
  mulf (mulf V (mulf (broadcastInDim S16x4096x2816 ![] bcast_S_S16x4096x2816 (constant S_ .f32 0x3F000000#32)) (addf (broadcastInDim S16x4096x2816 ![] bcast_S_S16x4096x2816 (constant S_ .f32 0x3F800000#32)) (Host.tanh (mulf (broadcastInDim S16x4096x2816 ![] bcast_S_S16x4096x2816 (constant S_ .f32 0x3F4C422A#32)) (addf V (mulf (broadcastInDim S16x4096x2816 ![] bcast_S_S16x4096x2816 (constant S_ .f32 0x3D372713#32)) (mulf (mulf V V) V)))))))) (extractStridedSlice S16x4096x2816 ![0, 0, 2816] X slices_S16x4096x5632_S16x4096x2816_0_0_2816)

/-- The rows projected back. -/
def rows (M : FVec Ideal S16x4096x2816 .f32) (D : FVec Ideal S2816x1024 .f32) : FVec Ideal S16x4096x1024 .f32 :=
  Host.dotGeneral dot_S16x4096x2816_S2816x1024_S16x4096x1024_2_0_01_1_n_n none M D

/-- What becomes of the rows. -/
def onto (R H : FVec Ideal S16x4096x1024 .f32) (N : FVec Ideal S1024 .f32) (E : FVec Ideal S16x1x1024 .f32) : FVec Ideal S16x4096x1024 .f32 :=
  addf H (mulf (broadcastInDim S16x4096x1024 ![0, 1, 2] bcast_S16x1x1024_S16x4096x1024_0_1_2 E) (mulf (mulf R (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf R R) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 N))))

theorem normed_at (H : FVec Ideal S16x4096x1024 .f32) (G : FVec Ideal S1024 .f32) (S A : FVec Ideal S16x1x1024 .f32) (b : Fin 16) (t : Fin 4096) (e : Fin 1024) :
    (normed H G S A (ix3 b t e) : EReal)
      = Cert.Row.shifted (fun k => H (ix3 b t k)) (fun k => G (ix1 k)) (fun k => S (ix3 b 0 k)) (fun k => A (ix3 b 0 k)) e := by
  unfold Cert.Row.shifted
  rw [← mul_assoc]
  pointwise [normed]
  rfl

theorem branches_at (U : FVec Ideal S16x4096x1024 .f32) (W : FVec Ideal S1024x5632 .f32) (b : Fin 16) (t : Fin 4096) (j : Fin 5632) :
    (branches U W (ix3 b t j) : EReal) = ∑ k : Fin 1024, U (ix3 b t k) * W (ix2 k j) := by
  pointwise [branches]

theorem conv_at (P : FVec Ideal S1024x66x2816 .f32) (C : FVec Ideal S3x2816 .f32) (B : FVec Ideal S2816 .f32) (b : Fin 16) (t : Fin 4096) (j : Fin 2816)
    (q : Fin 1024) (h : q.val = 64 * b.val + t.val / 64) :
    (conv P C B (ix3 b t j) : EReal)
      = P (ix3 q ⟨t.val % 64, by omega⟩ j) * C (ix2 0 j) + P (ix3 q ⟨1 + t.val % 64, by omega⟩ j) * C (ix2 1 j)
        + P (ix3 q ⟨2 + t.val % 64, by omega⟩ j) * C (ix2 2 j) + B (ix1 j) := by
  pointwise [conv]
  blk_point []

theorem padded_at (X : FVec Ideal S16x4096x5632 .f32) (q : Fin 1024) (r : Fin 66) (j : Fin 2816) :
    (padded X (ix3 q r j) : EReal)
      = if h : 1 ≤ r.val ∧ r.val - 1 < 64 then X (ix3 ⟨q.val / 64, by omega⟩ ⟨q.val % 64 * 64 + (r.val - 1), by omega⟩ ⟨j.val, by omega⟩) else 0 := by
  have z : (FloatOps.sitofp (F := Ideal) FTy.f32 (0#32) : EReal) = 0 := by
    show (((0#32 : BitVec 32).toInt : ℝ) : EReal) = 0
    simp
  rw [← z]
  pointwise [padded]

/-- The gate branch of the token before, zero at a row's first token; and of the token after, zero at a row's last. -/
def before (X : FVec Ideal S16x4096x5632 .f32) (b : Fin 16) (t : Fin 4096) (j : Fin 2816) : EReal :=
  if t.val % 64 = 0 then 0 else X (ix3 b ⟨t.val - 1, by omega⟩ ⟨j.val, by omega⟩)
@[inherit_doc before] def after (X : FVec Ideal S16x4096x5632 .f32) (b : Fin 16) (t : Fin 4096) (j : Fin 2816) : EReal :=
  if h : t.val % 64 = 63 then 0 else X (ix3 b ⟨t.val + 1, by omega⟩ ⟨j.val, by omega⟩)

theorem gate_at (X : FVec Ideal S16x4096x5632 .f32) (C : FVec Ideal S3x2816 .f32) (B : FVec Ideal S2816 .f32) (b : Fin 16) (t : Fin 4096) (j : Fin 2816) :
    (conv (padded X) C B (ix3 b t j) : EReal)
      = before X b t j * C (ix2 0 j) + X (ix3 b t ⟨j.val, by omega⟩) * C (ix2 1 j) + after X b t j * C (ix2 2 j) + B (ix1 j) := by
  have hq : 64 * b.val + t.val / 64 < 1024 := by omega
  rw [conv_at (padded X) C B b t j ⟨64 * b.val + t.val / 64, hq⟩ rfl]
  have e0 : (padded X (ix3 ⟨64 * b.val + t.val / 64, hq⟩ ⟨t.val % 64, by omega⟩ j) : EReal) = before X b t j := by
    rw [padded_at]
    unfold before
    by_cases h : t.val % 64 = 0
    · rw [if_pos h, dif_neg (by show ¬ (1 ≤ t.val % 64 ∧ _); omega)]
    · rw [if_neg h, dif_pos (by show 1 ≤ t.val % 64 ∧ t.val % 64 - 1 < 64; omega)]
      refine congrArg X ?_
      blk_ext []
  have e1 : (padded X (ix3 ⟨64 * b.val + t.val / 64, hq⟩ ⟨1 + t.val % 64, by omega⟩ j) : EReal) = X (ix3 b t ⟨j.val, by omega⟩) := by
    rw [padded_at, dif_pos (by show 1 ≤ 1 + t.val % 64 ∧ 1 + t.val % 64 - 1 < 64; omega)]
    refine congrArg X ?_
    blk_ext []
  have e2 : (padded X (ix3 ⟨64 * b.val + t.val / 64, hq⟩ ⟨2 + t.val % 64, by omega⟩ j) : EReal) = after X b t j := by
    rw [padded_at]
    unfold after
    by_cases h : t.val % 64 = 63
    · rw [dif_pos h, dif_neg (by show ¬ (1 ≤ 2 + t.val % 64 ∧ 2 + t.val % 64 - 1 < 64); omega)]
    · rw [dif_neg h, dif_pos (by show 1 ≤ 2 + t.val % 64 ∧ 2 + t.val % 64 - 1 < 64; omega)]
      refine congrArg X ?_
      blk_ext []
  rw [e0, e1, e2]

theorem hidden_at (V : FVec Ideal S16x4096x2816 .f32) (X : FVec Ideal S16x4096x5632 .f32) (b : Fin 16) (t : Fin 4096) (j : Fin 2816) :
    (hidden V X (ix3 b t j) : EReal)
      = Cert.Row.gelu (V (ix3 b t j)) * X (ix3 b t ⟨2816 + j.val, by have := j.isLt; omega⟩) := by
  unfold Cert.Row.gelu
  pointwise [hidden]

theorem rows_at (M : FVec Ideal S16x4096x2816 .f32) (D : FVec Ideal S2816x1024 .f32) (b : Fin 16) (t : Fin 4096) (e : Fin 1024) :
    (rows M D (ix3 b t e) : EReal) = ∑ j : Fin 2816, M (ix3 b t j) * D (ix2 j e) := by
  pointwise [rows]

theorem onto_at (R H : FVec Ideal S16x4096x1024 .f32) (N : FVec Ideal S1024 .f32) (E : FVec Ideal S16x1x1024 .f32) (b : Fin 16) (t : Fin 4096) (e : Fin 1024) :
    (onto R H N E (ix3 b t e) : EReal)
      = Cert.Row.added (fun k => R (ix3 b t k)) (fun k => H (ix3 b t k)) (fun k => N (ix1 k)) (fun k => E (ix3 b 0 k)) e := by
  pointwise [onto]
  rfl

/-- The stages in their order. -/
def whole (H : FVec Ideal S16x4096x1024 .f32) (G : FVec Ideal S1024 .f32) (S A : FVec Ideal S16x1x1024 .f32) (W : FVec Ideal S1024x5632 .f32)
    (C : FVec Ideal S3x2816 .f32) (B : FVec Ideal S2816 .f32) (D : FVec Ideal S2816x1024 .f32) (N : FVec Ideal S1024 .f32) (E : FVec Ideal S16x1x1024 .f32) :
    FVec Ideal S16x4096x1024 .f32 :=
  onto (rows (hidden (conv (padded (branches (normed H G S A) W)) C B) (branches (normed H G S A) W)) D) H N E

theorem res_eq (m : (ℓ : Loc nD τ sig) → Buf (Elt Ideal) ℓ) (c : Dev nD) :
    Cert.FfnReferenceIdeal.Value.res_main_v78 m c
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Cert.FfnReferenceIdeal.Entry

end
-- ==== Proof.Ffn.Tie.lean ====
/-
  The ConvGLU: the array the kernel leaves is the reference's result.
-/
module

public import proofs.«01_k».proof.Proof.Ffn.Pay
public import proofs.«01_k».proof.Proof.Ffn.Ref
public import Idealize.ShloMosaic.Lib.StableHlo.ReadAt
public import Idealize.ShloMosaic.Lib.StableHlo.RunRead

@[expose] public section

set_option maxRecDepth 16384
set_option maxHeartbeats 400000

noncomputable section

namespace Cert.FfnIdeal.Entry

open Cert.FfnIdeal Cert.FfnIdeal.Gen Cert.Row
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, 0, 0] := by decide +kernel
theorem idx3 : ∀ t : Fin cfg0.N, win0_3.index t = ![(grid0.coords t 0).val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![(grid0.coords t 0).val, 0, 0] := by decide +kernel
theorem idx11 : ∀ t : Fin cfg0.N, win0_11.index t = ![(grid0.coords t 0).val, (grid0.coords t 1).val, 0] := by decide +kernel

/-- The step's batch entry. -/
def bOf : Fin 16 := ⟨(grid0.coords t 0).val, (grid0.coords t 0).isLt⟩
/-- The token a row of the step's block is, for the block's half `p`. -/
def rOf (p : Fin 2) (r : Fin 256) : Fin 4096 :=
  ⟨512 * (grid0.coords t 1).val + 256 * p.val + r.val, by have h : (grid0.coords t 1).val < 8 := (grid0.coords t 1).isLt; have := r.isLt; have := p.isLt; omega⟩

theorem gV (e : Fin 1024) : (V m c main_v5 (ix2 0 e) : EReal) = m ((c : Thread nD τ).loc main_arg1) (ix1 e) := by
  unfold V
  after_reads_at
theorem waV (k : Fin 1024) (j : Fin 2816) : (V m c main_v1 (ix2 k j) : EReal) = m ((c : Thread nD τ).loc main_arg4) (ix2 k ⟨j.val, by omega⟩) := by
  unfold V
  after_reads_at
theorem wvV (k : Fin 1024) (j : Fin 2816) : (V m c main_v3 (ix2 k j) : EReal) = m ((c : Thread nD τ).loc main_arg4) (ix2 k ⟨2816 + j.val, by omega⟩) := by
  unfold V
  after_reads_at
theorem bV (j : Fin 2816) : (V m c main_v6 (ix2 0 j) : EReal) = m ((c : Thread nD τ).loc main_arg6) (ix1 j) := by
  unfold V
  after_reads_at
theorem wdV (j : Fin 2816) (e : Fin 1024) : (V m c main_v4 (ix2 j e) : EReal) = m ((c : Thread nD τ).loc main_arg7) (ix2 j e) := by
  unfold V
  after_reads_at
theorem nV (e : Fin 1024) : (V m c main_v7 (ix2 0 e) : EReal) = m ((c : Thread nD τ).loc main_arg8) (ix1 e) := by
  unfold V
  after_reads_at

theorem ld_fst (x : Vec Ideal S1x512x1024 .f32) (r : Fin 256) (k : Fin 1024) : View.ld x r0_0 (ix3 0 r k) = x (ix3 0 ⟨r.val, by omega⟩ k) := by
  pointwise
theorem ld_snd (x : Vec Ideal S1x512x1024 .f32) (r : Fin 256) (k : Fin 1024) : View.ld x r0_9 (ix3 0 r k) = x (ix3 0 ⟨256 + r.val, by omega⟩ k) := by
  pointwise
theorem ld_vec (x : Vec Ideal S1x1024 .f32) : View.ld x r0_1 = x := by frame_out
theorem ld_row (x : Vec Ideal S1x1x1024 .f32) : View.ld x r0_2 = x := by frame_out
theorem ld_up (x : Vec Ideal S1024x2816 .bf16) : View.ld x r0_3 = x := by frame_out
theorem ld_tap0 (x : Vec Ideal S3x2816 .f32) (j : Fin 2816) : View.ld x r0_4 (ix2 0 j) = x (ix2 0 j) := by pointwise
theorem ld_tap1 (x : Vec Ideal S3x2816 .f32) (j : Fin 2816) : View.ld x r0_5 (ix2 0 j) = x (ix2 1 j) := by pointwise
theorem ld_tap2 (x : Vec Ideal S3x2816 .f32) (j : Fin 2816) : View.ld x r0_6 (ix2 0 j) = x (ix2 2 j) := by pointwise
theorem ld_bias (x : Vec Ideal S1x2816 .f32) : View.ld x r0_7 = x := by frame_out
theorem ld_down (x : Vec Ideal S2816x1024 .bf16) : View.ld x r0_8 = x := by frame_out

theorem blk0_fst (r : Fin 256) (k : Fin 1024) : (View.ld (iblk m c 0 t) r0_0 (ix3 0 r k) : EReal) = m ((c : Thread nD τ).loc main_arg0) (ix3 (bOf t) (rOf t 0 r) k) := by
  rw [ld_fst]
  blk_ext [iblk, V_main_arg0, idx0 t, bOf, rOf]
theorem blk0_snd (r : Fin 256) (k : Fin 1024) : (View.ld (iblk m c 0 t) r0_9 (ix3 0 r k) : EReal) = m ((c : Thread nD τ).loc main_arg0) (ix3 (bOf t) (rOf t 1 r) k) := by
  rw [ld_snd]
  blk_ext [iblk, V_main_arg0, idx0 t, bOf, rOf]
theorem blk1 (k : Fin 1024) : (View.ld (iblk m c 1 t) r0_1 (ix2 0 k) : EReal) = m ((c : Thread nD τ).loc main_arg1) (ix1 k) := by
  rw [ld_vec]
  refine Eq.trans ?_ (gV m c k)
  blk_ext [iblk, idx1 t]
theorem blk2 (k : Fin 1024) : (View.ld (iblk m c 2 t) r0_2 (ix3 0 0 k) : EReal) = m ((c : Thread nD τ).loc main_arg2) (ix3 (bOf t) 0 k) := by
  rw [ld_row]
  blk_ext [iblk, V_main_arg2, idx2 t, bOf]
theorem blk3 (k : Fin 1024) : (View.ld (iblk m c 3 t) r0_2 (ix3 0 0 k) : EReal) = m ((c : Thread nD τ).loc main_arg3) (ix3 (bOf t) 0 k) := by
  rw [ld_row]
  blk_ext [iblk, V_main_arg3, idx3 t, bOf]
theorem blk4 (k : Fin 1024) (j : Fin 2816) : (View.ld (iblk m c 4 t) r0_3 (ix2 k j) : EReal) = m ((c : Thread nD τ).loc main_arg4) (ix2 k ⟨j.val, by omega⟩) := by
  rw [ld_up]
  refine Eq.trans ?_ (waV m c k j)
  blk_ext [iblk, idx4 t]
theorem blk5 (k : Fin 1024) (j : Fin 2816) : (View.ld (iblk m c 5 t) r0_3 (ix2 k j) : EReal) = m ((c : Thread nD τ).loc main_arg4) (ix2 k ⟨2816 + j.val, by omega⟩) := by
  rw [ld_up]
  refine Eq.trans ?_ (wvV m c k j)
  blk_ext [iblk, idx5 t]
theorem tap0 (j : Fin 2816) : (View.ld (iblk m c 6 t) r0_4 (ix2 0 j) : EReal) = m ((c : Thread nD τ).loc main_arg5) (ix2 0 j) := by
  rw [ld_tap0]
  blk_ext [iblk, V_main_arg5, idx6 t]
theorem tap1 (j : Fin 2816) : (View.ld (iblk m c 6 t) r0_5 (ix2 0 j) : EReal) = m ((c : Thread nD τ).loc main_arg5) (ix2 1 j) := by
  rw [ld_tap1]
  blk_ext [iblk, V_main_arg5, idx6 t]
theorem tap2 (j : Fin 2816) : (View.ld (iblk m c 6 t) r0_6 (ix2 0 j) : EReal) = m ((c : Thread nD τ).loc main_arg5) (ix2 2 j) := by
  rw [ld_tap2]
  blk_ext [iblk, V_main_arg5, idx6 t]
theorem blk7 (j : Fin 2816) : (View.ld (iblk m c 7 t) r0_7 (ix2 0 j) : EReal) = m ((c : Thread nD τ).loc main_arg6) (ix1 j) := by
  rw [ld_bias]
  refine Eq.trans ?_ (bV m c j)
  blk_ext [iblk, idx7 t]
theorem blk8 (j : Fin 2816) (k : Fin 1024) : (View.ld (iblk m c 8 t) r0_8 (ix2 j k) : EReal) = m ((c : Thread nD τ).loc main_arg7) (ix2 j k) := by
  rw [ld_down]
  refine Eq.trans ?_ (wdV m c j k)
  blk_ext [iblk, idx8 t]
theorem blk9 (k : Fin 1024) : (View.ld (iblk m c 9 t) r0_1 (ix2 0 k) : EReal) = m ((c : Thread nD τ).loc main_arg8) (ix1 k) := by
  rw [ld_vec]
  refine Eq.trans ?_ (nV m c k)
  blk_ext [iblk, idx9 t]
theorem blk10 (k : Fin 1024) : (View.ld (iblk m c 10 t) r0_2 (ix3 0 0 k) : EReal) = m ((c : Thread nD τ).loc main_arg9) (ix3 (bOf t) 0 k) := by
  rw [ld_row]
  blk_ext [iblk, V_main_arg9, idx10 t, bOf]

theorem taps_eq : taps (View.ld (iblk m c 6 t) r0_4) (View.ld (iblk m c 6 t) r0_5) (View.ld (iblk m c 6 t) r0_6)
    = fun i j => (m ((c : Thread nD τ).loc main_arg5) (ix2 i j) : EReal) := by
  funext i j
  match i with
  | 0 => exact tap0 m c t j
  | 1 => exact tap1 m c t j
  | 2 => exact tap2 m c t j

open Cert.FfnReferenceIdeal.Entry (whole normed branches padded conv hidden rows onto normed_at branches_at gate_at hidden_at rows_at onto_at before after)

/-- The reference's result over the kernel's arguments. -/
def goal : FVec Ideal Cert.FfnReferenceIdeal.S16x4096x1024 .f32 :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The reference's result, read as 256 consecutive tokens' of one grid's rows. -/
theorem whole_at (H : FVec Ideal Cert.FfnReferenceIdeal.S16x4096x1024 .f32) (G : FVec Ideal Cert.FfnReferenceIdeal.S1024 .f32)
    (S A : FVec Ideal Cert.FfnReferenceIdeal.S16x1x1024 .f32) (W : FVec Ideal Cert.FfnReferenceIdeal.S1024x5632 .f32)
    (C : FVec Ideal Cert.FfnReferenceIdeal.S3x2816 .f32) (B : FVec Ideal Cert.FfnReferenceIdeal.S2816 .f32) (D : FVec Ideal Cert.FfnReferenceIdeal.S2816x1024 .f32)
    (N : FVec Ideal Cert.FfnReferenceIdeal.S1024 .f32) (E : FVec Ideal Cert.FfnReferenceIdeal.S16x1x1024 .f32)
    (b : Fin 16) (q : ℕ) (hq : q < 16) (r : Fin 256) (e : Fin 1024) :
    (whole H G S A W C B D N E (ix3 b ⟨256 * q + r.val, by omega⟩ e) : EReal)
      = result (fun r k => H (ix3 b ⟨256 * q + r.val, by omega⟩ k)) (fun k => G (ix1 k)) (fun k => S (ix3 b 0 k)) (fun k => A (ix3 b 0 k))
          (fun k j => W (ix2 k ⟨j.val, by omega⟩)) (fun k j => W (ix2 k ⟨2816 + j.val, by omega⟩)) (fun i j => C (ix2 i j)) (fun j => B (ix1 j))
          (fun j k => D (ix2 j k)) (fun k => N (ix1 k)) (fun k => E (ix3 b 0 k)) r e := by
  unfold whole
  rw [onto_at]
  unfold result
  congr 1
  funext k
  rw [rows_at]
  refine Finset.sum_congr rfl fun j _ => ?_
  rw [hidden_at, gate_at]
  have hx : ∀ (r : Fin 256) (j : Fin 5632), (branches (normed H G S A) W (ix3 b ⟨256 * q + r.val, by omega⟩ j) : EReal)
      = ∑ k : Fin 1024, shifted (fun k => H (ix3 b ⟨256 * q + r.val, by omega⟩ k)) (fun k => G (ix1 k)) (fun k => S (ix3 b 0 k)) (fun k => A (ix3 b 0 k)) k * W (ix2 k j) := fun r j => by
    rw [branches_at]
    exact Finset.sum_congr rfl fun k _ => congrArg (· * (W (ix2 k j) : EReal)) (normed_at H G S A b _ k)
  refine congrArg (· * (D (ix2 j k) : EReal)) (congrArg₂ (· * ·) (congrArg gelu ?_) (hx r _))
  unfold along
  refine congrArg (· + (B (ix1 j) : EReal)) (congrArg₂ (· + ·) (congrArg₂ (· + ·) ?_ ?_) ?_)
  · refine congrArg (· * (C (ix2 0 j) : EReal)) ?_
    unfold before
    by_cases h : r.val % 64 = 0
    · rw [if_pos h, if_pos (by show (256 * q + r.val) % 64 = 0; omega)]
    · rw [if_neg h, if_neg (by show ¬ (256 * q + r.val) % 64 = 0; omega)]
      refine Eq.trans (congrArg (fun p => (branches (normed H G S A) W (ix3 b p ⟨j.val, by omega⟩) : EReal)) (Fin.ext ?_)) (hx ⟨r.val - 1, by omega⟩ _)
      show 256 * q + r.val - 1 = 256 * q + (r.val - 1)
      omega
  · exact congrArg (· * (C (ix2 1 j) : EReal)) (hx r _)
  · refine congrArg (· * (C (ix2 2 j) : EReal)) ?_
    unfold after
    by_cases h : r.val % 64 = 63
    · rw [dif_pos h, dif_pos (by show (256 * q + r.val) % 64 = 63; omega)]
    · rw [dif_neg h, dif_neg (by show ¬ (256 * q + r.val) % 64 = 63; omega)]
      exact hx ⟨r.val + 1, by omega⟩ _

/-- The same at a step's rows. -/
theorem goal_at (p : Fin 2) (r : Fin 256) (e : Fin 1024) :
    (goal m c (ix3 (bOf t) (rOf t p r) e) : EReal)
      = result (fun r k => m ((c : Thread nD τ).loc main_arg0) (ix3 (bOf t) (rOf t p r) k)) (fun k => m ((c : Thread nD τ).loc main_arg1) (ix1 k))
          (fun k => m ((c : Thread nD τ).loc main_arg2) (ix3 (bOf t) 0 k)) (fun k => m ((c : Thread nD τ).loc main_arg3) (ix3 (bOf t) 0 k))
          (fun k j => m ((c : Thread nD τ).loc main_arg4) (ix2 k ⟨j.val, by omega⟩)) (fun k j => m ((c : Thread nD τ).loc main_arg4) (ix2 k ⟨2816 + j.val, by omega⟩))
          (fun i j => m ((c : Thread nD τ).loc main_arg5) (ix2 i j)) (fun j => m ((c : Thread nD τ).loc main_arg6) (ix1 j))
          (fun j k => m ((c : Thread nD τ).loc main_arg7) (ix2 j k)) (fun k => m ((c : Thread nD τ).loc main_arg8) (ix1 k))
          (fun k => m ((c : Thread nD τ).loc main_arg9) (ix3 (bOf t) 0 k)) r e := by
  have h : (grid0.coords t 1).val < 8 := (grid0.coords t 1).isLt
  have hp := p.isLt
  have hr : ∀ r : Fin 256, rOf t p r = ⟨256 * (2 * (grid0.coords t 1).val + p.val) + r.val, by have := r.isLt; omega⟩ := fun r => Fin.ext (by
    show 512 * (grid0.coords t 1).val + 256 * p.val + r.val = 256 * (2 * (grid0.coords t 1).val + p.val) + r.val
    omega)
  simp only [hr]
  exact whole_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (bOf t) (2 * (grid0.coords t 1).val + p.val) (by omega) r e

/-- An index of half a block of one batch entry. -/
theorem split (y : (⟨3, ![1, 256, 1024]⟩ : Shape).Idx) : y = ix3 0 (y 1) (y 2) := by
  funext i
  match i with
  | ⟨0, _⟩ => exact Fin.ext (by have h := (y 0).isLt; show (y 0).val = 0; change (y 0).val < 1 at h; omega)
  | ⟨1, _⟩ => rfl
  | ⟨2, _⟩ => rfl

theorem half_fst_step (x : S1x256x1024.Idx) :
    (k0_pay14 (F := Ideal) (k0_pay5 (View.ld (iblk m c 0 t) r0_0)) (k0_pay11 (k0_pay5 (View.ld (iblk m c 0 t) r0_0)) (k0_pay6 (View.ld (iblk m c 1 t) r0_1)) (k0_pay7 (View.ld (iblk m c 2 t) r0_2)) (k0_pay8 (View.ld (iblk m c 3 t) r0_2)) (k0_pay9 (View.ld (iblk m c 0 t) r0_0)) (View.ld (iblk m c 5 t) r0_3)) (k0_pay12 k0_pay3 k0_pay4 (k0_pay5 (View.ld (iblk m c 0 t) r0_0)) (k0_pay6 (View.ld (iblk m c 1 t) r0_1)) (k0_pay7 (View.ld (iblk m c 2 t) r0_2)) (k0_pay8 (View.ld (iblk m c 3 t) r0_2)) (k0_pay9 (View.ld (iblk m c 0 t) r0_0)) (View.ld (iblk m c 4 t) r0_3) (View.ld (iblk m c 6 t) r0_4) (View.ld (iblk m c 6 t) r0_5) (View.ld (iblk m c 6 t) r0_6)) (k0_pay13 (View.ld (iblk m c 7 t) r0_7)) (View.ld (iblk m c 8 t) r0_8) (View.ld (iblk m c 10 t) r0_2) (View.ld (iblk m c 9 t) r0_1) x : EReal) = goal m c (ix3 (bOf t) (rOf t 0 (x 1)) (x 2)) := by
  have key : ∀ (r : Fin 256) (e : Fin 1024), (k0_pay14 (F := Ideal) (k0_pay5 (View.ld (iblk m c 0 t) r0_0)) (k0_pay11 (k0_pay5 (View.ld (iblk m c 0 t) r0_0)) (k0_pay6 (View.ld (iblk m c 1 t) r0_1)) (k0_pay7 (View.ld (iblk m c 2 t) r0_2)) (k0_pay8 (View.ld (iblk m c 3 t) r0_2)) (k0_pay9 (View.ld (iblk m c 0 t) r0_0)) (View.ld (iblk m c 5 t) r0_3)) (k0_pay12 k0_pay3 k0_pay4 (k0_pay5 (View.ld (iblk m c 0 t) r0_0)) (k0_pay6 (View.ld (iblk m c 1 t) r0_1)) (k0_pay7 (View.ld (iblk m c 2 t) r0_2)) (k0_pay8 (View.ld (iblk m c 3 t) r0_2)) (k0_pay9 (View.ld (iblk m c 0 t) r0_0)) (View.ld (iblk m c 4 t) r0_3) (View.ld (iblk m c 6 t) r0_4) (View.ld (iblk m c 6 t) r0_5) (View.ld (iblk m c 6 t) r0_6)) (k0_pay13 (View.ld (iblk m c 7 t) r0_7)) (View.ld (iblk m c 8 t) r0_8) (View.ld (iblk m c 10 t) r0_2) (View.ld (iblk m c 9 t) r0_1) (ix3 0 r e) : EReal) = goal m c (ix3 (bOf t) (rOf t 0 r) e) := fun r e => by
    rw [goal_at, half_fst, taps_eq]
    simp only [blk0_fst m c t, blk1 m c t, blk2 m c t, blk3 m c t, blk4 m c t, blk5 m c t, blk7 m c t, blk8 m c t, blk9 m c t, blk10 m c t]
  exact (congrArg _ (split x)).trans (key (x 1) (x 2))

theorem half_snd_step (x : S1x256x1024.Idx) :
    (k0_pay1 (F := Ideal) (k0_pay15 (View.ld (iblk m c 0 t) r0_9)) (k0_pay20 k0_pay4 (k0_pay17 (View.ld (iblk m c 0 t) r0_9) (View.ld (iblk m c 1 t) r0_1) (View.ld (iblk m c 2 t) r0_2) (View.ld (iblk m c 3 t) r0_2) (View.ld (iblk m c 4 t) r0_3)) (k0_pay18 (View.ld (iblk m c 0 t) r0_9) (View.ld (iblk m c 1 t) r0_1) (View.ld (iblk m c 2 t) r0_2) (View.ld (iblk m c 3 t) r0_2) (View.ld (iblk m c 5 t) r0_3)) (k0_pay19 k0_pay3 (View.ld (iblk m c 0 t) r0_9) (View.ld (iblk m c 1 t) r0_1) (View.ld (iblk m c 2 t) r0_2) (View.ld (iblk m c 3 t) r0_2) (View.ld (iblk m c 4 t) r0_3)) (View.ld (iblk m c 6 t) r0_4) (View.ld (iblk m c 6 t) r0_5) (View.ld (iblk m c 6 t) r0_6) (View.ld (iblk m c 7 t) r0_7) (View.ld (iblk m c 8 t) r0_8)) (k0_pay21 (View.ld (iblk m c 10 t) r0_2)) (View.ld (iblk m c 9 t) r0_1) x : EReal) = goal m c (ix3 (bOf t) (rOf t 1 (x 1)) (x 2)) := by
  have key : ∀ (r : Fin 256) (e : Fin 1024), (k0_pay1 (F := Ideal) (k0_pay15 (View.ld (iblk m c 0 t) r0_9)) (k0_pay20 k0_pay4 (k0_pay17 (View.ld (iblk m c 0 t) r0_9) (View.ld (iblk m c 1 t) r0_1) (View.ld (iblk m c 2 t) r0_2) (View.ld (iblk m c 3 t) r0_2) (View.ld (iblk m c 4 t) r0_3)) (k0_pay18 (View.ld (iblk m c 0 t) r0_9) (View.ld (iblk m c 1 t) r0_1) (View.ld (iblk m c 2 t) r0_2) (View.ld (iblk m c 3 t) r0_2) (View.ld (iblk m c 5 t) r0_3)) (k0_pay19 k0_pay3 (View.ld (iblk m c 0 t) r0_9) (View.ld (iblk m c 1 t) r0_1) (View.ld (iblk m c 2 t) r0_2) (View.ld (iblk m c 3 t) r0_2) (View.ld (iblk m c 4 t) r0_3)) (View.ld (iblk m c 6 t) r0_4) (View.ld (iblk m c 6 t) r0_5) (View.ld (iblk m c 6 t) r0_6) (View.ld (iblk m c 7 t) r0_7) (View.ld (iblk m c 8 t) r0_8)) (k0_pay21 (View.ld (iblk m c 10 t) r0_2)) (View.ld (iblk m c 9 t) r0_1) (ix3 0 r e) : EReal) = goal m c (ix3 (bOf t) (rOf t 1 r) e) := fun r e => by
    rw [goal_at, half_snd, taps_eq]
    simp only [blk0_snd m c t, blk1 m c t, blk2 m c t, blk3 m c t, blk4 m c t, blk5 m c t, blk7 m c t, blk8 m c t, blk9 m c t, blk10 m c t]
  exact (congrArg _ (split x)).trans (key (x 1) (x 2))

/-- Where a row of the step's block of the result lies. -/
theorem place (p : Fin 2) (r : Fin 256) (e : Fin 1024) (q : Fin 512) (hq : q.val = 256 * p.val + r.val) :
    ((win0_11.blk t).view.emb (ix3 0 q e) : (⟨3, ![16, 4096, 1024]⟩ : Shape).Idx) = ix3 (bOf t) (rOf t p r) e := by
  blk_ext [idx11 t, bOf, rOf]

theorem final : (dats m 0 c).arrAt 11 cfg0.N = goal m c := by
  refine (dats m 0 c).arrAt_eq_of_covers 11 _ (by decide +kernel) fun t hf y => ?_
  blk_simp
  rw [after0_11]
  unfold_out out0_11
  canon_tiles x h
  · refine (half_snd_step m c t x).trans (congrArg (goal m c) ?_)
    have e : (y : (⟨3, ![1, 512, 1024]⟩ : Shape).Idx) = ix3 0 ⟨256 + (x 1).val, by omega⟩ (x 2) := by blk_ext []
    exact (place t 1 (x 1) (x 2) ⟨256 + (x 1).val, by omega⟩ rfl).symm.trans (congrArg _ e.symm)
  · refine (half_fst_step m c t x).trans (congrArg (goal m c) ?_)
    have e : (y : (⟨3, ![1, 512, 1024]⟩ : Shape).Idx) = ix3 0 ⟨(x 1).val, by omega⟩ (x 2) := by blk_ext []
    exact (place t 0 (x 1) (x 2) ⟨(x 1).val, by omega⟩ (by show (x 1).val = 256 * 0 + (x 1).val; omega)).symm.trans (congrArg _ e.symm)

end Cert.FfnIdeal.Entry

end
-- ==== Proof.Project.Tie.lean ====
/-
  The retention layer's in-projection: the array the kernel leaves is the reference's result.
-/
module

public import proofs.«01_k».proof.Proof.Row
public import proofs.«01_k».proof.Proof.Gen.ProjectIdeal.Value
public import proofs.«01_k».proof.Proof.Gen.ProjectReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 400000

noncomputable section

namespace Cert.ProjectReferenceIdeal.Entry

open Cert.ProjectReferenceIdeal Cert.ProjectReferenceIdeal.Gen
open Idealize.ShloMosaic Idealize.ShloMosaic.TcCoe Idealize.ShloMosaic.Pointwise Idealize.ShloMosaic.StableHlo

/-- The stream, normed and shifted. -/
def normed (H : FVec Ideal S16x4096x1024 .f32) (G : FVec Ideal S1024 .f32) (S A : FVec Ideal S16x1x1024 .f32) : FVec Ideal S16x4096x1024 .f32 :=
  addf (mulf (mulf (mulf H (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 G))) (broadcastInDim S16x4096x1024 ![0, 1, 2] bcast_S16x1x1024_S16x4096x1024_0_1_2 (addf (broadcastInDim S16x1x1024 ![] bcast_S_S16x1x1024 (constant S_ .f32 0x3F800000#32)) S))) (broadcastInDim S16x4096x1024 ![0, 1, 2] bcast_S16x1x1024_S16x4096x1024_0_1_2 A)

/-- The projected rows. -/
def project (U : FVec Ideal S16x4096x1024 .f32) (W : FVec Ideal S1024x6144 .f32) : FVec Ideal S16x4096x6144 .bf16 :=
  truncf .bf16 (Host.dotGeneral dot_S16x4096x1024_S1024x6144_S16x4096x6144_2_0_01_1_n_n none U W) bitsLt_bf16_f32

theorem normed_at (H : FVec Ideal S16x4096x1024 .f32) (G : FVec Ideal S1024 .f32) (S A : FVec Ideal S16x1x1024 .f32) (b : Fin 16) (t : Fin 4096) (e : Fin 1024) :
    (normed H G S A (ix3 b t e) : EReal)
      = Cert.Row.shifted (fun k => H (ix3 b t k)) (fun k => G (ix1 k)) (fun k => S (ix3 b 0 k)) (fun k => A (ix3 b 0 k)) e := by
  unfold Cert.Row.shifted
  rw [← mul_assoc]
  pointwise [normed]
  rfl

theorem project_at (U : FVec Ideal S16x4096x1024 .f32) (W : FVec Ideal S1024x6144 .f32) (b : Fin 16) (t : Fin 4096) (j : Fin 6144) :
    (project U W (ix3 b t j) : EReal) = ∑ k : Fin 1024, U (ix3 b t k) * W (ix2 k j) := by
  pointwise [project]

end Cert.ProjectReferenceIdeal.Entry

namespace Cert.ProjectIdeal.Entry

open Cert.ProjectIdeal Cert.ProjectIdeal.Gen Cert.Row
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, 0, 0] := by decide +kernel
theorem idx3 : ∀ t : Fin cfg0.N, win0_3.index t = ![(grid0.coords t 0).val, 0, 0] := by decide +kernel
theorem idx4 : ∀ t : Fin cfg0.N, win0_4.index t = ![0, 0] := by decide +kernel
theorem idx5 : ∀ t : Fin cfg0.N, win0_5.index t = ![(grid0.coords t 0).val, (grid0.coords t 1).val, 0] := by decide +kernel

/-- The step's batch entry. -/
def bOf : Fin 16 := ⟨(grid0.coords t 0).val, (grid0.coords t 0).isLt⟩
/-- The token a row of the step's block is. -/
def rOf (r : Fin 512) : Fin 4096 :=
  ⟨512 * (grid0.coords t 1).val + r.val, by have h : (grid0.coords t 1).val < 8 := (grid0.coords t 1).isLt; have := r.isLt; omega⟩

theorem gV (e : Fin 1024) : (V m c main_v1 (ix2 0 e) : EReal) = m ((c : Thread nD τ).loc main_arg1) (ix1 e) := by
  unfold V
  after_reads_at
theorem wV (k : Fin 1024) (j : Fin 6144) : (V m c main_v0 (ix2 k j) : EReal) = m ((c : Thread nD τ).loc main_arg4) (ix2 k j) := by
  unfold V
  after_reads_at

theorem blk0 (r : Fin 512) (k : Fin 1024) : (View.ld (iblk m c 0 t) r0_0 (ix3 0 r k) : EReal) = m ((c : Thread nD τ).loc main_arg0) (ix3 (bOf t) (rOf t r) k) := by
  have e : ∀ x : Vec Ideal S1x512x1024 .f32, View.ld x r0_0 = x := fun x => by frame_out
  rw [e]
  blk_ext [iblk, V_main_arg0, idx0 t, bOf, rOf]
theorem blk1 (k : Fin 1024) : (View.ld (iblk m c 1 t) r0_1 (ix2 0 k) : EReal) = m ((c : Thread nD τ).loc main_arg1) (ix1 k) := by
  have e : ∀ x : Vec Ideal S1x1024 .f32, View.ld x r0_1 = x := fun x => by frame_out
  rw [e]
  refine Eq.trans ?_ (gV m c k)
  blk_ext [iblk, idx1 t]
theorem ld_row (x : Vec Ideal S1x1x1024 .f32) : View.ld x r0_2 = x := by frame_out
theorem blk2 (k : Fin 1024) : (View.ld (iblk m c 2 t) r0_2 (ix3 0 0 k) : EReal) = m ((c : Thread nD τ).loc main_arg2) (ix3 (bOf t) 0 k) := by
  rw [ld_row]
  blk_ext [iblk, V_main_arg2, idx2 t, bOf]
theorem blk3 (k : Fin 1024) : (View.ld (iblk m c 3 t) r0_2 (ix3 0 0 k) : EReal) = m ((c : Thread nD τ).loc main_arg3) (ix3 (bOf t) 0 k) := by
  rw [ld_row]
  blk_ext [iblk, V_main_arg3, idx3 t, bOf]
theorem blk4 (k : Fin 1024) (j : Fin 6144) : (iblk m c 4 t (ix2 k j) : EReal) = m ((c : Thread nD τ).loc main_arg4) (ix2 k j) := by
  refine Eq.trans ?_ (wV m c k j)
  blk_ext [iblk, idx4 t]

theorem rows_at (h : Vec Ideal S1x512x1024 .f32) (g : Vec Ideal S1x1024 .f32) (s a : Vec Ideal S1x1x1024 .f32) (r : Fin 512) (k : Fin 1024) :
    (k0_pay4 h g s a (ix2 r k) : EReal)
      = shifted (fun k => h (ix3 0 r k)) (fun k => g (ix2 0 k)) (fun k => s (ix3 0 0 k)) (fun k => a (ix3 0 0 k)) k := by
  pointwise [k0_pay4]
  rfl

/-- The rows a step norms and shifts. -/
def normedRows : FVec Ideal S512x1024 .bf16 :=
  k0_pay4 (F := Ideal) (View.ld (iblk m c 0 t) r0_0) (View.ld (iblk m c 1 t) r0_1) (View.ld (iblk m c 2 t) r0_2) (View.ld (iblk m c 3 t) r0_2)

open Cert.ProjectReferenceIdeal.Entry (normed project normed_at project_at)

/-- The reference's result over the kernel's arguments. -/
def goal : FVec Ideal Cert.ProjectReferenceIdeal.S16x4096x6144 .bf16 :=
  project (normed (m ((c : Thread nD τ).loc main_arg0)) (m ((c : Thread nD τ).loc main_arg1)) (m ((c : Thread nD τ).loc main_arg2)) (m ((c : Thread nD τ).loc main_arg3)))
    (m ((c : Thread nD τ).loc main_arg4))

theorem goal_at (r : Fin 512) (j : Fin 6144) :
    (goal m c (ix3 (bOf t) (rOf t r) j) : EReal) = ∑ k : Fin 1024, (normedRows m c t (ix2 r k) : EReal) * iblk m c 4 t (ix2 k j) := by
  unfold goal
  rw [project_at]
  refine Finset.sum_congr rfl fun k _ => ?_
  rw [blk4 m c t]
  refine congrArg (· * _) ?_
  unfold normedRows
  rw [normed_at, rows_at]
  simp only [blk0 m c t, blk1 m c t, blk2 m c t, blk3 m c t]

/-- Where a step's block of the result lies. -/
theorem place (r : Fin 512) (j : Fin 6144) :
    ((win0_5.blk t).view.emb (ix3 0 r j) : (⟨3, ![16, 4096, 6144]⟩ : Shape).Idx) = ix3 (bOf t) (rOf t r) j := by
  blk_ext [idx5 t, bOf, rOf]

/-- One tile of 512 columns, the first of them column `o`. -/
theorem tile512 (o : ℕ) (ho : o + 512 ≤ 6144) (pay : (⟨3, ![1, 512, 512]⟩ : Shape).Idx → EReal) (W : (⟨2, ![1024, 512]⟩ : Shape).Idx → EReal)
    (hp : ∀ (r : Fin 512) (j : Fin 512), pay (ix3 0 r j) = ∑ k : Fin 1024, (normedRows m c t (ix2 r k) : EReal) * W (ix2 k j))
    (hW : ∀ (k : Fin 1024) (j : Fin 512), W (ix2 k j) = iblk m c 4 t (ix2 k ⟨o + j.val, by omega⟩))
    (x : (⟨3, ![1, 512, 512]⟩ : Shape).Idx) (y : (⟨3, ![1, 512, 6144]⟩ : Shape).Idx)
    (h1 : (y 1).val = (x 1).val) (h2 : (y 2).val = o + (x 2).val) :
    pay x = (goal m c ((win0_5.blk t).view.emb y) : EReal) := by
  have hx : x = ix3 0 (x 1) (x 2) := by
    funext i
    match i with
    | ⟨0, _⟩ => exact Fin.ext (by have h := (x 0).isLt; show (x 0).val = 0; change (x 0).val < 1 at h; omega)
    | ⟨1, _⟩ => rfl
    | ⟨2, _⟩ => rfl
  have b2 : (x 2).val < 512 := (x 2).isLt
  have hy : y = ix3 0 (x 1) ⟨o + (x 2).val, by omega⟩ := by
    funext i
    match i with
    | ⟨0, _⟩ => exact Fin.ext (by have h := (y 0).isLt; show (y 0).val = 0; change (y 0).val < 1 at h; omega)
    | ⟨1, _⟩ => exact Fin.ext h1
    | ⟨2, _⟩ => exact Fin.ext h2
  have key : ∀ (r : Fin 512) (j : Fin 512), pay (ix3 0 r j) = (goal m c (ix3 (bOf t) (rOf t r) ⟨o + j.val, by omega⟩) : EReal) := fun r j => by
    rw [hp, goal_at]
    simp only [hW]
  exact (congrArg pay hx).trans ((key _ _).trans (congrArg (goal m c) ((congrArg _ hy).trans (place t _ _)).symm))

theorem final : (dats m 0 c).arrAt 5 cfg0.N = goal m c := by
  refine (dats m 0 c).arrAt_eq_of_covers 5 _ (by decide +kernel) fun t hf y => ?_
  blk_simp
  rw [after0_5]
  unfold_out out0_5
  canon_tiles x h
  · refine tile512 m c t 5632 (by decide) _ (View.ld (iblk m c 4 t) r0_25) (fun r j => ?_) (fun k j => ?_) x y h1 h2
    · unfold normedRows
      pointwise [k0_pay3]
      try rfl
    · pointwise
  · refine tile512 m c t 5120 (by decide) _ (View.ld (iblk m c 4 t) r0_23) (fun r j => ?_) (fun k j => ?_) x y h1 h2
    · unfold normedRows
      pointwise [k0_pay2]
      try rfl
    · pointwise
  · refine tile512 m c t 4608 (by decide) _ (View.ld (iblk m c 4 t) r0_21) (fun r j => ?_) (fun k j => ?_) x y h1 h2
    · unfold normedRows
      pointwise [k0_pay1, k0_pay15]
      try rfl
    · pointwise
  · refine tile512 m c t 4096 (by decide) _ (View.ld (iblk m c 4 t) r0_19) (fun r j => ?_) (fun k j => ?_) x y h1 h2
    · unfold normedRows
      pointwise [k0_pay14]
      try rfl
    · pointwise
  · refine tile512 m c t 3584 (by decide) _ (View.ld (iblk m c 4 t) r0_17) (fun r j => ?_) (fun k j => ?_) x y h1 h2
    · unfold normedRows
      pointwise [k0_pay13]
      try rfl
    · pointwise
  · refine tile512 m c t 3072 (by decide) _ (View.ld (iblk m c 4 t) r0_15) (fun r j => ?_) (fun k j => ?_) x y h1 h2
    · unfold normedRows
      pointwise [k0_pay12]
      try rfl
    · pointwise
  · refine tile512 m c t 2560 (by decide) _ (View.ld (iblk m c 4 t) r0_13) (fun r j => ?_) (fun k j => ?_) x y h1 h2
    · unfold normedRows
      pointwise [k0_pay11, k0_pay10]
      try rfl
    · pointwise
  · refine tile512 m c t 2048 (by decide) _ (View.ld (iblk m c 4 t) r0_11) (fun r j => ?_) (fun k j => ?_) x y h1 h2
    · unfold normedRows
      pointwise [k0_pay9]
      try rfl
    · pointwise
  · refine tile512 m c t 1536 (by decide) _ (View.ld (iblk m c 4 t) r0_9) (fun r j => ?_) (fun k j => ?_) x y h1 h2
    · unfold normedRows
      pointwise [k0_pay8]
      try rfl
    · pointwise
  · refine tile512 m c t 1024 (by decide) _ (View.ld (iblk m c 4 t) r0_7) (fun r j => ?_) (fun k j => ?_) x y h1 h2
    · unfold normedRows
      pointwise [k0_pay7]
      try rfl
    · pointwise
  · refine tile512 m c t 512 (by decide) _ (View.ld (iblk m c 4 t) r0_5) (fun r j => ?_) (fun k j => ?_) x y h1 h2
    · unfold normedRows
      pointwise [k0_pay6]
      try rfl
    · pointwise
  · refine tile512 m c t 0 (by decide) _ (View.ld (iblk m c 4 t) r0_3) (fun r j => ?_) (fun k j => ?_) x y h1 (h2.trans (Nat.zero_add _).symm)
    · unfold normedRows
      pointwise [k0_pay5]
      try rfl
    · pointwise

end Cert.ProjectIdeal.Entry

end
-- ==== Proof.Output.Tie.lean ====
/-
  The out-projection: the array the kernel leaves is the reference's result.
-/
module

public import proofs.«01_k».proof.Proof.Row
public import proofs.«01_k».proof.Proof.Gen.OutputIdeal.Value
public import proofs.«01_k».proof.Proof.Gen.OutputReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 4000000

noncomputable section

namespace Cert.OutputReferenceIdeal.Entry

open Cert.OutputReferenceIdeal Cert.OutputReferenceIdeal.Gen
open Idealize.ShloMosaic Idealize.ShloMosaic.TcCoe Idealize.ShloMosaic.Pointwise Idealize.ShloMosaic.StableHlo

/-- The projected rows. -/
def rows (Y : FVec Ideal S16x4096x2048 .bf16) (W : FVec Ideal S2048x1024 .f32) : FVec Ideal S16x4096x1024 .f32 :=
  Host.dotGeneral dot_S16x4096x2048_S2048x1024_S16x4096x1024_2_0_01_1_n_n none (extf .f32 Y bitsLt_bf16_f32) W

/-- What the reference makes of the projected rows. -/
def onto (D H : FVec Ideal S16x4096x1024 .f32) (N : FVec Ideal S1024 .f32) (G : FVec Ideal S16x1x1024 .f32) : FVec Ideal S16x4096x1024 .f32 :=
  addf H (mulf (broadcastInDim S16x4096x1024 ![0, 1, 2] bcast_S16x1x1024_S16x4096x1024_0_1_2 G) (mulf (mulf D (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf D D) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 N))))

theorem rows_at (Y : FVec Ideal S16x4096x2048 .bf16) (W : FVec Ideal S2048x1024 .f32) (b : Fin 16) (t : Fin 4096) (e : Fin 1024) :
    (rows Y W (ix3 b t e) : EReal) = ∑ k : Fin 2048, Y (ix3 b t k) * W (ix2 k e) := by
  pointwise [rows]

theorem onto_at (D H : FVec Ideal S16x4096x1024 .f32) (N : FVec Ideal S1024 .f32) (G : FVec Ideal S16x1x1024 .f32) (b : Fin 16) (t : Fin 4096) (e : Fin 1024) :
    (onto D H N G (ix3 b t e) : EReal)
      = Cert.Row.added (fun k => D (ix3 b t k)) (fun k => H (ix3 b t k)) (fun k => N (ix1 k)) (fun k => G (ix3 b 0 k)) e := by
  pointwise [onto]
  rfl

end Cert.OutputReferenceIdeal.Entry

namespace Cert.OutputIdeal.Entry

open Cert.OutputIdeal Cert.OutputIdeal.Gen
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, (grid0.coords t 1).val, 0] := by decide +kernel
theorem idx3 : ∀ t : Fin cfg0.N, win0_3.index t = ![0, 0] := by decide +kernel
theorem idx4 : ∀ t : Fin cfg0.N, win0_4.index t = ![(grid0.coords t 0).val, 0, 0] := by decide +kernel
theorem idx5 : ∀ t : Fin cfg0.N, win0_5.index t = ![(grid0.coords t 0).val, (grid0.coords t 1).val, 0] := by decide +kernel

/-- The step's batch entry. -/
def bOf : Fin 16 := ⟨(grid0.coords t 0).val, (grid0.coords t 0).isLt⟩
/-- The token a row of the step's block is. -/
def rOf (r : Fin 1024) : Fin 4096 :=
  ⟨1024 * (grid0.coords t 1).val + r.val, by have h : (grid0.coords t 1).val < 4 := (grid0.coords t 1).isLt; have := r.isLt; omega⟩

theorem blk0 (r : Fin 1024) (k : Fin 2048) : (iblk m c 0 t (ix3 0 r k) : EReal) = m ((c : Thread nD τ).loc main_arg0) (ix3 (bOf t) (rOf t r) k) := by
  blk_ext [iblk, V_main_arg0, idx0 t, bOf, rOf]

theorem wV (k : Fin 2048) (e : Fin 1024) : (V m c main_v0 (ix2 k e) : EReal) = m ((c : Thread nD τ).loc main_arg1) (ix2 k e) := by
  unfold V
  after_reads_at

theorem blk1 (k : Fin 2048) (e : Fin 1024) : (iblk m c 1 t (ix2 k e) : EReal) = m ((c : Thread nD τ).loc main_arg1) (ix2 k e) := by
  refine Eq.trans ?_ (wV m c k e)
  blk_ext [iblk, idx1 t]

theorem blk2 (r : Fin 1024) (e : Fin 1024) : (iblk m c 2 t (ix3 0 r e) : EReal) = m ((c : Thread nD τ).loc main_arg2) (ix3 (bOf t) (rOf t r) e) := by
  blk_ext [iblk, V_main_arg2, idx2 t, bOf, rOf]

theorem nV (e : Fin 1024) : (V m c main_v1 (ix2 0 e) : EReal) = m ((c : Thread nD τ).loc main_arg3) (ix1 e) := by
  unfold V
  after_reads_at

theorem blk3 (e : Fin 1024) : (iblk m c 3 t (ix2 0 e) : EReal) = m ((c : Thread nD τ).loc main_arg3) (ix1 e) := by
  refine Eq.trans ?_ (nV m c e)
  blk_ext [iblk, idx3 t]

theorem blk4 (e : Fin 1024) : (iblk m c 4 t (ix3 0 0 e) : EReal) = m ((c : Thread nD τ).loc main_arg4) (ix3 (bOf t) 0 e) := by
  blk_ext [iblk, V_main_arg4, idx4 t, bOf]

/-- A step's block, entry by entry. -/
theorem pay_at (y : Vec Ideal S1x1024x2048 .bf16) (w : Vec Ideal S2048x1024 .bf16) (h : Vec Ideal S1x1024x1024 .f32) (g : Vec Ideal S1x1x1024 .f32) (n : Vec Ideal S1x1024 .f32)
    (r e : Fin 1024) :
    (k0_pay1 y w h g n (ix3 0 r e) : EReal)
      = Cert.Row.added (fun j => ∑ k : Fin 2048, (y (ix3 0 r k) : EReal) * w (ix2 k j)) (fun k => h (ix3 0 r k)) (fun k => n (ix2 0 k)) (fun k => g (ix3 0 0 k)) e := by
  pointwise [k0_pay1]
  rfl

/-- An index of a block of one batch entry. -/
theorem split (y : (⟨3, ![1, 1024, 1024]⟩ : Shape).Idx) : y = ix3 0 (y 1) (y 2) := by
  funext i
  match i with
  | ⟨0, _⟩ => exact Fin.ext (by have h := (y 0).isLt; show (y 0).val = 0; change (y 0).val < 1 at h; omega)
  | ⟨1, _⟩ => rfl
  | ⟨2, _⟩ => rfl

/-- Where a step's block of the result lies. -/
theorem place (r e : Fin 1024) :
    ((win0_5.blk t).view.emb (ix3 0 r e) : (⟨3, ![16, 4096, 1024]⟩ : Shape).Idx) = ix3 (bOf t) (rOf t r) e := by
  blk_ext [idx5 t, bOf, rOf]

open Cert.OutputReferenceIdeal.Entry (rows onto rows_at onto_at)

/-- The reference's result over the kernel's arguments. -/
def goal : FVec Ideal Cert.OutputReferenceIdeal.S16x4096x1024 .f32 :=
  onto (rows (m ((c : Thread nD τ).loc main_arg0)) (m ((c : Thread nD τ).loc main_arg1))) (m ((c : Thread nD τ).loc main_arg2))
    (m ((c : Thread nD τ).loc main_arg3)) (m ((c : Thread nD τ).loc main_arg4))

theorem step (r e : Fin 1024) :
    (k0_pay1 (F := Ideal) (iblk m c 0 t) (iblk m c 1 t) (iblk m c 2 t) (iblk m c 4 t) (iblk m c 3 t) (ix3 0 r e) : EReal)
      = goal m c (ix3 (bOf t) (rOf t r) e) := by
  refine (pay_at _ _ _ _ _ r e).trans (Eq.trans ?_ (onto_at _ _ _ _ (bOf t) (rOf t r) e).symm)
  simp only [rows_at, blk0 m c t, blk1 m c t, blk2 m c t, blk3 m c t, blk4 m c t]

theorem final : (dats m 0 c).arrAt 5 cfg0.N = goal m c := by
  refine (dats m 0 c).arrAt_eq_of_covers 5 _ (by decide +kernel) fun t hf y => ?_
  blk_simp
  rw [after0_5]
  frame_out
  exact (congrArg (k0_pay1 (F := Ideal) (iblk m c 0 t) (iblk m c 1 t) (iblk m c 2 t) (iblk m c 4 t) (iblk m c 3 t)) (split y)).trans
    ((step m c t _ _).trans (congrArg (goal m c) ((congrArg _ (split y)).trans (place t _ _)).symm))

end Cert.OutputIdeal.Entry

end
-- ==== Proof.GatedProject.Tie.lean ====
/-
  The HGRN2 layer's in-projection: the two arrays the kernel leaves are the reference's results.
-/
module

public import proofs.«01_k».proof.Proof.Row
public import proofs.«01_k».proof.Proof.Gen.GatedProjectIdeal.Value
public import proofs.«01_k».proof.Proof.Gen.GatedProjectReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 400000

noncomputable section

namespace Cert.GatedProjectReferenceIdeal.Entry

open Cert.GatedProjectReferenceIdeal Cert.GatedProjectReferenceIdeal.Gen
open Idealize.ShloMosaic Idealize.ShloMosaic.TcCoe Idealize.ShloMosaic.Pointwise Idealize.ShloMosaic.StableHlo

/-- The stream, normed and shifted. -/
def normed (H : FVec Ideal S16x4096x1024 .f32) (G : FVec Ideal S1024 .f32) (S A : FVec Ideal S16x1x1024 .f32) : FVec Ideal S16x4096x1024 .f32 :=
  addf (mulf (mulf (mulf H (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 G))) (broadcastInDim S16x4096x1024 ![0, 1, 2] bcast_S16x1x1024_S16x4096x1024_0_1_2 (addf (broadcastInDim S16x1x1024 ![] bcast_S_S16x1x1024 (constant S_ .f32 0x3F800000#32)) S))) (broadcastInDim S16x4096x1024 ![0, 1, 2] bcast_S16x1x1024_S16x4096x1024_0_1_2 A)

/-- The projected rows. -/
def project (U : FVec Ideal S16x4096x1024 .f32) (W : FVec Ideal S1024x5120 .f32) : FVec Ideal S16x4096x5120 .f32 :=
  Host.dotGeneral dot_S16x4096x1024_S1024x5120_S16x4096x5120_2_0_01_1_n_n none U W

/-- The first result, of the projected rows. -/
def firstOf (P : FVec Ideal S16x4096x5120 .f32) : FVec Ideal S16x4096x3072 .bf16 :=
  truncf .bf16 ((concatenate S16x4096x3072 2 [⟨S16x4096x1024, ((extractStridedSlice S16x4096x1024 ![0, 0, 0] P slices_S16x4096x5120_S16x4096x1024_0_0_0) : (⟨S16x4096x1024, .f32⟩ : BufTy).Contents (Elt Ideal))⟩, ⟨S16x4096x1024, ((extractStridedSlice S16x4096x1024 ![0, 0, 3072] P slices_S16x4096x5120_S16x4096x1024_0_0_3072) : (⟨S16x4096x1024, .f32⟩ : BufTy).Contents (Elt Ideal))⟩, ⟨S16x4096x1024, ((extractStridedSlice S16x4096x1024 ![0, 0, 4096] P slices_S16x4096x5120_S16x4096x1024_0_0_4096) : (⟨S16x4096x1024, .f32⟩ : BufTy).Contents (Elt Ideal))⟩] concatenates_S16x4096x1024_S16x4096x1024_S16x4096x1024_S16x4096x3072_d2 : (⟨S16x4096x3072, .f32⟩ : BufTy).Contents (Elt Ideal))) bitsLt_bf16_f32

/-- The second result, of the projected rows. -/
def secondOf (P : FVec Ideal S16x4096x5120 .f32) : FVec Ideal S16x4096x2048 .f32 :=
  concatenate S16x4096x2048 2 [⟨S16x4096x1024, (extractStridedSlice S16x4096x1024 ![0, 0, 1024] P slices_S16x4096x5120_S16x4096x1024_0_0_1024)⟩, ⟨S16x4096x1024, (extractStridedSlice S16x4096x1024 ![0, 0, 2048] P slices_S16x4096x5120_S16x4096x1024_0_0_2048)⟩] concatenates_S16x4096x1024_S16x4096x1024_S16x4096x2048_d2

theorem normed_at (H : FVec Ideal S16x4096x1024 .f32) (G : FVec Ideal S1024 .f32) (S A : FVec Ideal S16x1x1024 .f32) (b : Fin 16) (t : Fin 4096) (e : Fin 1024) :
    (normed H G S A (ix3 b t e) : EReal)
      = Cert.Row.shifted (fun k => H (ix3 b t k)) (fun k => G (ix1 k)) (fun k => S (ix3 b 0 k)) (fun k => A (ix3 b 0 k)) e := by
  unfold Cert.Row.shifted
  rw [← mul_assoc]
  pointwise [normed]
  rfl

theorem project_at (U : FVec Ideal S16x4096x1024 .f32) (W : FVec Ideal S1024x5120 .f32) (b : Fin 16) (t : Fin 4096) (j : Fin 5120) :
    (project U W (ix3 b t j) : EReal) = ∑ k : Fin 1024, U (ix3 b t k) * W (ix2 k j) := by
  pointwise [project]

/-- The column of the weights that a column of the first result comes from: the queries, the inputs, the output gates. -/
def mainCol (j : Fin 3072) : Fin 5120 := ⟨if j.val < 1024 then j.val else j.val + 2048, by have := j.isLt; split <;> omega⟩
/-- The second result, of a row: its columns of the two forget gates. -/
def sideAt (f : Fin 5120 → EReal) (j : Fin 2048) : EReal := f ⟨1024 + j.val, by have := j.isLt; omega⟩

theorem main_at (P : FVec Ideal S16x4096x5120 .f32) (b : Fin 16) (t : Fin 4096) (j : Fin 3072) :
    (firstOf P (ix3 b t j) : EReal) = P (ix3 b t (mainCol j)) := by
  have hj := j.isLt
  pointwise [firstOf]
  split
  · exact congrArg (fun q => P (ix3 b t q)) (Fin.ext (by unfold mainCol; dsimp only; split <;> omega))
  · split
    · exact congrArg (fun q => P (ix3 b t q)) (Fin.ext (by unfold mainCol; dsimp only; split <;> omega))
    · exact congrArg (fun q => P (ix3 b t q)) (Fin.ext (by unfold mainCol; dsimp only; split <;> omega))

theorem side_at (P : FVec Ideal S16x4096x5120 .f32) (b : Fin 16) (t : Fin 4096) (j : Fin 2048) :
    (secondOf P (ix3 b t j) : EReal) = sideAt (fun q => P (ix3 b t q)) j := by
  have hj := j.isLt
  pointwise [secondOf]
  split
  · rfl
  · exact congrArg (fun q => P (ix3 b t q)) (Fin.ext (by dsimp only; omega))

theorem sideAt_sum (u : Fin 1024 → EReal) (w : Fin 1024 → Fin 5120 → EReal) (j : Fin 2048) :
    sideAt (fun q => ∑ k : Fin 1024, u k * w k q) j = ∑ k : Fin 1024, u k * sideAt (w k) j := rfl

end Cert.GatedProjectReferenceIdeal.Entry

namespace Cert.GatedProjectIdeal.Entry

open Cert.GatedProjectIdeal Cert.GatedProjectIdeal.Gen Cert.Row
open Cert.GatedProjectReferenceIdeal.Entry (normed project firstOf secondOf normed_at project_at main_at side_at mainCol sideAt sideAt_sum)
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, 0, 0] := by decide +kernel
theorem idx3 : ∀ t : Fin cfg0.N, win0_3.index t = ![(grid0.coords t 0).val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(grid0.coords t 0).val, (grid0.coords t 1).val, 0] := by decide +kernel
theorem idx7 : ∀ t : Fin cfg0.N, win0_7.index t = ![(grid0.coords t 0).val, (grid0.coords t 1).val, 0] := by decide +kernel

/-- The step's batch entry. -/
def bOf : Fin 16 := ⟨(grid0.coords t 0).val, (grid0.coords t 0).isLt⟩
/-- The token a row of the step's block is. -/
def rOf (r : Fin 512) : Fin 4096 :=
  ⟨512 * (grid0.coords t 1).val + r.val, by have h : (grid0.coords t 1).val < 8 := (grid0.coords t 1).isLt; have := r.isLt; omega⟩

theorem gV (e : Fin 1024) : (V m c main_v9 (ix2 0 e) : EReal) = m ((c : Thread nD τ).loc main_arg1) (ix1 e) := by
  unfold V
  after_reads_at

theorem wV (k : Fin 1024) (j : Fin 3072) : (V m c main_v6 (ix2 k j) : EReal) = m ((c : Thread nD τ).loc main_arg4) (ix2 k (mainCol j)) := by
  have hj := j.isLt
  unfold V
  after_reads_at
  split
  · after_reads_at
    exact congrArg (fun q => m ((c : Thread nD τ).loc main_arg4) (ix2 k q)) (Fin.ext (by unfold mainCol; dsimp only; split <;> omega))
  · split
    · after_reads_at
      exact congrArg (fun q => m ((c : Thread nD τ).loc main_arg4) (ix2 k q)) (Fin.ext (by unfold mainCol; dsimp only; split <;> omega))
    · after_reads_at
      exact congrArg (fun q => m ((c : Thread nD τ).loc main_arg4) (ix2 k q)) (Fin.ext (by unfold mainCol; dsimp only; split <;> omega))

theorem sideV (k : Fin 1024) (j : Fin 2048) :
    (V m c main_v8 (ix2 k j) : EReal) = sideAt (fun q => m ((c : Thread nD τ).loc main_arg4) (ix2 k q)) j := by
  have hj := j.isLt
  unfold V
  after_reads_at
  split
  · after_reads_at
    rfl
  · after_reads_at
    exact congrArg (fun q => m ((c : Thread nD τ).loc main_arg4) (ix2 k q)) (Fin.ext (by dsimp only; omega))

theorem ld0 (x : Vec Ideal S1x512x1024 .f32) : View.ld x r0_0 = x := by frame_out
theorem ld1 (x : Vec Ideal S1x1024 .f32) : View.ld x r0_1 = x := by frame_out
theorem ld_row (x : Vec Ideal S1x1x1024 .f32) : View.ld x r0_2 = x := by frame_out

theorem blk0 (r : Fin 512) (k : Fin 1024) : (iblk m c 0 t (ix3 0 r k) : EReal) = m ((c : Thread nD τ).loc main_arg0) (ix3 (bOf t) (rOf t r) k) := by
  blk_ext [iblk, V_main_arg0, idx0 t, bOf, rOf]
theorem blk1 (k : Fin 1024) : (iblk m c 1 t (ix2 0 k) : EReal) = m ((c : Thread nD τ).loc main_arg1) (ix1 k) := by
  refine Eq.trans ?_ (gV m c k)
  blk_ext [iblk, idx1 t]
theorem blk2 (k : Fin 1024) : (iblk m c 2 t (ix3 0 0 k) : EReal) = m ((c : Thread nD τ).loc main_arg2) (ix3 (bOf t) 0 k) := by
  blk_ext [iblk, V_main_arg2, idx2 t, bOf]
theorem blk3 (k : Fin 1024) : (iblk m c 3 t (ix3 0 0 k) : EReal) = m ((c : Thread nD τ).loc main_arg3) (ix3 (bOf t) 0 k) := by
  blk_ext [iblk, V_main_arg3, idx3 t, bOf]
theorem blk4 (k : Fin 1024) (j : Fin 3072) : (iblk m c 4 t (ix2 k j) : EReal) = m ((c : Thread nD τ).loc main_arg4) (ix2 k (mainCol j)) := by
  refine Eq.trans ?_ (wV m c k j)
  blk_ext [iblk, idx4 t]
theorem blk5 (k : Fin 1024) (j : Fin 2048) :
    (iblk m c 5 t (ix2 k j) : EReal) = sideAt (fun q => m ((c : Thread nD τ).loc main_arg4) (ix2 k q)) j := by
  refine Eq.trans ?_ (sideV m c k j)
  blk_ext [iblk, idx5 t]

theorem rows_at (h : Vec Ideal S1x512x1024 .f32) (g : Vec Ideal S1x1024 .f32) (s a : Vec Ideal S1x1x1024 .f32) (r : Fin 512) (k : Fin 1024) :
    (k0_pay3 h g s a (ix2 r k) : EReal)
      = shifted (fun k => h (ix3 0 r k)) (fun k => g (ix2 0 k)) (fun k => s (ix3 0 0 k)) (fun k => a (ix3 0 0 k)) k := by
  pointwise [k0_pay3]
  rfl

/-- The rows a step norms and shifts. -/
def normedRows : FVec Ideal S512x1024 .bf16 :=
  k0_pay3 (F := Ideal) (iblk m c 0 t) (iblk m c 1 t) (iblk m c 2 t) (iblk m c 3 t)

theorem normedRows_ld :
    k0_pay3 (F := Ideal) (View.ld (iblk m c 0 t) r0_0) (View.ld (iblk m c 1 t) r0_1) (View.ld (iblk m c 2 t) r0_2) (View.ld (iblk m c 3 t) r0_2)
      = normedRows m c t := by
  rw [ld0, ld1, ld_row, ld_row]
  rfl

/-- The reference's projected rows over the kernel's arguments. -/
def projected : FVec Ideal Cert.GatedProjectReferenceIdeal.S16x4096x5120 .f32 :=
  project (normed (m ((c : Thread nD τ).loc main_arg0)) (m ((c : Thread nD τ).loc main_arg1)) (m ((c : Thread nD τ).loc main_arg2)) (m ((c : Thread nD τ).loc main_arg3)))
    (m ((c : Thread nD τ).loc main_arg4))

theorem projected_at (r : Fin 512) (j : Fin 5120) :
    (projected m c (ix3 (bOf t) (rOf t r) j) : EReal)
      = ∑ k : Fin 1024, (normedRows m c t (ix2 r k) : EReal) * m ((c : Thread nD τ).loc main_arg4) (ix2 k j) := by
  unfold projected
  rw [project_at]
  refine Finset.sum_congr rfl fun k _ => ?_
  refine congrArg (· * _) ?_
  unfold normedRows
  rw [normed_at, rows_at]
  simp only [blk0 m c t, blk1 m c t, blk2 m c t, blk3 m c t]

/-- The reference's first result over the kernel's arguments. -/
def goal6 : FVec Ideal Cert.GatedProjectReferenceIdeal.S16x4096x3072 .bf16 := firstOf (projected m c)
/-- The reference's second result over the kernel's arguments. -/
def goal7 : FVec Ideal Cert.GatedProjectReferenceIdeal.S16x4096x2048 .f32 := secondOf (projected m c)

theorem goal6_at (r : Fin 512) (j : Fin 3072) :
    (goal6 m c (ix3 (bOf t) (rOf t r) j) : EReal) = ∑ k : Fin 1024, (normedRows m c t (ix2 r k) : EReal) * iblk m c 4 t (ix2 k j) := by
  unfold goal6
  rw [main_at, projected_at]
  simp only [blk4 m c t]

theorem goal7_at (r : Fin 512) (j : Fin 2048) :
    (goal7 m c (ix3 (bOf t) (rOf t r) j) : EReal) = ∑ k : Fin 1024, (normedRows m c t (ix2 r k) : EReal) * iblk m c 5 t (ix2 k j) := by
  unfold goal7
  rw [side_at]
  simp only [blk5 m c t, projected_at m c t]
  exact sideAt_sum (fun k => normedRows m c t (ix2 r k)) (fun k q => m ((c : Thread nD τ).loc main_arg4) (ix2 k q)) j

/-- Where a step's block of the result lies. -/
theorem place6 (r : Fin 512) (j : Fin 3072) :
    ((win0_6.blk t).view.emb (ix3 0 r j) : (⟨3, ![16, 4096, 3072]⟩ : Shape).Idx) = ix3 (bOf t) (rOf t r) j := by
  blk_ext [idx6 t, bOf, rOf]

/-- One tile of 512 columns, the first of them column `o`. -/
theorem tile6 (o : ℕ) (ho : o + 512 ≤ 3072) (pay : (⟨3, ![1, 512, 512]⟩ : Shape).Idx → EReal) (W : (⟨2, ![1024, 512]⟩ : Shape).Idx → EReal)
    (hp : ∀ (r : Fin 512) (j : Fin 512), pay (ix3 0 r j) = ∑ k : Fin 1024, (normedRows m c t (ix2 r k) : EReal) * W (ix2 k j))
    (hW : ∀ (k : Fin 1024) (j : Fin 512), W (ix2 k j) = iblk m c 4 t (ix2 k ⟨o + j.val, by omega⟩))
    (x : (⟨3, ![1, 512, 512]⟩ : Shape).Idx) (y : (⟨3, ![1, 512, 3072]⟩ : Shape).Idx)
    (h1 : (y 1).val = (x 1).val) (h2 : (y 2).val = o + (x 2).val) :
    pay x = (goal6 m c ((win0_6.blk t).view.emb y) : EReal) := by
  have hx : x = ix3 0 (x 1) (x 2) := by
    funext i
    match i with
    | ⟨0, _⟩ => exact Fin.ext (by have h := (x 0).isLt; show (x 0).val = 0; change (x 0).val < 1 at h; omega)
    | ⟨1, _⟩ => rfl
    | ⟨2, _⟩ => rfl
  have b2 : (x 2).val < 512 := (x 2).isLt
  have hy : y = ix3 0 (x 1) ⟨o + (x 2).val, by omega⟩ := by
    funext i
    match i with
    | ⟨0, _⟩ => exact Fin.ext (by have h := (y 0).isLt; show (y 0).val = 0; change (y 0).val < 1 at h; omega)
    | ⟨1, _⟩ => exact Fin.ext h1
    | ⟨2, _⟩ => exact Fin.ext h2
  have key : ∀ (r : Fin 512) (j : Fin 512), pay (ix3 0 r j) = (goal6 m c (ix3 (bOf t) (rOf t r) ⟨o + j.val, by omega⟩) : EReal) := fun r j => by
    rw [hp, goal6_at]
    simp only [hW]
  exact (congrArg pay hx).trans ((key _ _).trans (congrArg (goal6 m c) ((congrArg _ hy).trans (place6 t _ _)).symm))

/-- Where a step's block of the result lies. -/
theorem place7 (r : Fin 512) (j : Fin 2048) :
    ((win0_7.blk t).view.emb (ix3 0 r j) : (⟨3, ![16, 4096, 2048]⟩ : Shape).Idx) = ix3 (bOf t) (rOf t r) j := by
  blk_ext [idx7 t, bOf, rOf]

/-- One tile of 2048 columns, the first of them column `o`. -/
theorem tile7 (o : ℕ) (ho : o + 2048 ≤ 2048) (pay : (⟨3, ![1, 512, 2048]⟩ : Shape).Idx → EReal) (W : (⟨2, ![1024, 2048]⟩ : Shape).Idx → EReal)
    (hp : ∀ (r : Fin 512) (j : Fin 2048), pay (ix3 0 r j) = ∑ k : Fin 1024, (normedRows m c t (ix2 r k) : EReal) * W (ix2 k j))
    (hW : ∀ (k : Fin 1024) (j : Fin 2048), W (ix2 k j) = iblk m c 5 t (ix2 k ⟨o + j.val, by omega⟩))
    (x : (⟨3, ![1, 512, 2048]⟩ : Shape).Idx) (y : (⟨3, ![1, 512, 2048]⟩ : Shape).Idx)
    (h1 : (y 1).val = (x 1).val) (h2 : (y 2).val = o + (x 2).val) :
    pay x = (goal7 m c ((win0_7.blk t).view.emb y) : EReal) := by
  have hx : x = ix3 0 (x 1) (x 2) := by
    funext i
    match i with
    | ⟨0, _⟩ => exact Fin.ext (by have h := (x 0).isLt; show (x 0).val = 0; change (x 0).val < 1 at h; omega)
    | ⟨1, _⟩ => rfl
    | ⟨2, _⟩ => rfl
  have b2 : (x 2).val < 2048 := (x 2).isLt
  have hy : y = ix3 0 (x 1) ⟨o + (x 2).val, by omega⟩ := by
    funext i
    match i with
    | ⟨0, _⟩ => exact Fin.ext (by have h := (y 0).isLt; show (y 0).val = 0; change (y 0).val < 1 at h; omega)
    | ⟨1, _⟩ => exact Fin.ext h1
    | ⟨2, _⟩ => exact Fin.ext h2
  have key : ∀ (r : Fin 512) (j : Fin 2048), pay (ix3 0 r j) = (goal7 m c (ix3 (bOf t) (rOf t r) ⟨o + j.val, by omega⟩) : EReal) := fun r j => by
    rw [hp, goal7_at]
    simp only [hW]
  exact (congrArg pay hx).trans ((key _ _).trans (congrArg (goal7 m c) ((congrArg _ hy).trans (place7 t _ _)).symm))

theorem final6 : (dats m 0 c).arrAt 6 cfg0.N = goal6 m c := by
  refine (dats m 0 c).arrAt_eq_of_covers 6 _ (by decide +kernel) fun t hf y => ?_
  blk_simp
  rw [after0_6]
  unfold_out out0_6
  canon_tiles x h
  · refine tile6 m c t 2560 (by decide) _ (View.ld (iblk m c 4 t) r0_15) (fun r j => ?_) (fun k j => ?_) x y h1 h2
    · rw [← normedRows_ld]
      pointwise [k0_pay2]
      try rfl
    · pointwise
  · refine tile6 m c t 2048 (by decide) _ (View.ld (iblk m c 4 t) r0_13) (fun r j => ?_) (fun k j => ?_) x y h1 h2
    · rw [← normedRows_ld]
      pointwise [k0_pay1, k0_pay10]
      try rfl
    · pointwise
  · refine tile6 m c t 1536 (by decide) _ (View.ld (iblk m c 4 t) r0_11) (fun r j => ?_) (fun k j => ?_) x y h1 h2
    · rw [← normedRows_ld]
      pointwise [k0_pay9]
      try rfl
    · pointwise
  · refine tile6 m c t 1024 (by decide) _ (View.ld (iblk m c 4 t) r0_9) (fun r j => ?_) (fun k j => ?_) x y h1 h2
    · rw [← normedRows_ld]
      pointwise [k0_pay8]
      try rfl
    · pointwise
  · refine tile6 m c t 512 (by decide) _ (View.ld (iblk m c 4 t) r0_7) (fun r j => ?_) (fun k j => ?_) x y h1 h2
    · rw [← normedRows_ld]
      pointwise [k0_pay7]
      try rfl
    · pointwise
  · refine tile6 m c t 0 (by decide) _ (View.ld (iblk m c 4 t) r0_5) (fun r j => ?_) (fun k j => ?_) x y h1 (h2.trans (Nat.zero_add _).symm)
    · rw [← normedRows_ld]
      pointwise [k0_pay6, k0_pay5]
      try rfl
    · pointwise

theorem side_pay (h : Vec Ideal S1x512x1024 .f32) (g : Vec Ideal S1x1024 .f32) (s a : Vec Ideal S1x1x1024 .f32) (w : Vec Ideal S1024x2048 .bf16) (r : Fin 512) (j : Fin 2048) :
    (k0_pay4 (F := Ideal) h g s a w (ix3 0 r j) : EReal) = ∑ k : Fin 1024, (k0_pay3 (F := Ideal) h g s a (ix2 r k) : EReal) * w (ix2 k j) := by
  pointwise [k0_pay4]

theorem final7 : (dats m 0 c).arrAt 7 cfg0.N = goal7 m c := by
  refine (dats m 0 c).arrAt_eq_of_covers 7 _ (by decide +kernel) fun t hf y => ?_
  blk_simp
  rw [after0_7]
  frame_out
  exact tile7 m c t 0 (by decide) (k0_pay4 (F := Ideal) (iblk m c 0 t) (iblk m c 1 t) (iblk m c 2 t) (iblk m c 3 t) (iblk m c 5 t)) (iblk m c 5 t)
    (fun r j => side_pay _ _ _ _ _ r j) (fun k j => congrArg (fun q => iblk m c 5 t (ix2 k q)) (Fin.ext (Nat.zero_add _).symm)) y y rfl (Nat.zero_add _).symm

end Cert.GatedProjectIdeal.Entry

end
-- ==== Proof.StateProject.Tie.lean ====
/-
  The Mamba-2 layer's in-projection: the two arrays the kernel leaves are the reference's results.
-/
module

public import proofs.«01_k».proof.Proof.Row
public import proofs.«01_k».proof.Proof.Gen.StateProjectIdeal.Value
public import proofs.«01_k».proof.Proof.Gen.StateProjectReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 400000

noncomputable section

namespace Cert.StateProjectReferenceIdeal.Entry

open Cert.StateProjectReferenceIdeal Cert.StateProjectReferenceIdeal.Gen
open Idealize.ShloMosaic Idealize.ShloMosaic.TcCoe Idealize.ShloMosaic.Pointwise Idealize.ShloMosaic.StableHlo

/-- The stream, normed and shifted. -/
def normed (H : FVec Ideal S16x4096x1024 .f32) (G : FVec Ideal S1024 .f32) (S A : FVec Ideal S16x1x1024 .f32) : FVec Ideal S16x4096x1024 .f32 :=
  addf (mulf (mulf (mulf H (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 G))) (broadcastInDim S16x4096x1024 ![0, 1, 2] bcast_S16x1x1024_S16x4096x1024_0_1_2 (addf (broadcastInDim S16x1x1024 ![] bcast_S_S16x1x1024 (constant S_ .f32 0x3F800000#32)) S))) (broadcastInDim S16x4096x1024 ![0, 1, 2] bcast_S16x1x1024_S16x4096x1024_0_1_2 A)

/-- The projected rows. -/
def project (U : FVec Ideal S16x4096x1024 .f32) (W : FVec Ideal S1024x5184 .f32) : FVec Ideal S16x4096x5184 .f32 :=
  Host.dotGeneral dot_S16x4096x1024_S1024x5184_S16x4096x5184_2_0_01_1_n_n none U W

/-- The first result, of the projected rows. -/
def firstOf (P : FVec Ideal S16x4096x5184 .f32) : FVec Ideal S16x4096x5120 .bf16 :=
  truncf .bf16 (concatenate S16x4096x5120 2 [⟨S16x4096x2048, (extractStridedSlice S16x4096x2048 ![0, 0, 0] P slices_S16x4096x5184_S16x4096x2048_0_0_0)⟩, ⟨S16x4096x3072, (extractStridedSlice S16x4096x3072 ![0, 0, 2048] P slices_S16x4096x5184_S16x4096x3072_0_0_2048)⟩] concatenates_S16x4096x2048_S16x4096x3072_S16x4096x5120_d2) bitsLt_bf16_f32

/-- The second result, of the projected rows. -/
def secondOf (P : FVec Ideal S16x4096x5184 .f32) : FVec Ideal S16x4096x512 .f32 :=
  shapeCast _ (pad S16x4096x4x128 ![0, 0, 0, 0] ![0, 0, 0, 112] ![0, 0, 0, 0] (shapeCast _ (transpose S16x4096x4x2x8 [0, 1, 3, 2, 4] (shapeCast _ (extractStridedSlice S16x4096x64 ![0, 0, 5120] P slices_S16x4096x5184_S16x4096x64_0_0_5120) shapeCasts_S16x4096x64_S16x4096x2x4x8) transposes_S16x4096x2x4x8_S16x4096x4x2x8_0_1_3_2_4) shapeCasts_S16x4096x4x2x8_S16x4096x4x16) (sitofp .f32 (constantI S_ 32 0#32)) pads_S16x4096x4x16_S16x4096x4x128_000_000_000_01120 h_S_) shapeCasts_S16x4096x4x128_S16x4096x512

theorem normed_at (H : FVec Ideal S16x4096x1024 .f32) (G : FVec Ideal S1024 .f32) (S A : FVec Ideal S16x1x1024 .f32) (b : Fin 16) (t : Fin 4096) (e : Fin 1024) :
    (normed H G S A (ix3 b t e) : EReal)
      = Cert.Row.shifted (fun k => H (ix3 b t k)) (fun k => G (ix1 k)) (fun k => S (ix3 b 0 k)) (fun k => A (ix3 b 0 k)) e := by
  unfold Cert.Row.shifted
  rw [← mul_assoc]
  pointwise [normed]
  rfl

theorem project_at (U : FVec Ideal S16x4096x1024 .f32) (W : FVec Ideal S1024x5184 .f32) (b : Fin 16) (t : Fin 4096) (j : Fin 5184) :
    (project U W (ix3 b t j) : EReal) = ∑ k : Fin 1024, U (ix3 b t k) * W (ix2 k j) := by
  pointwise [project]

/-- The column of the weights that a column of the first result comes from: the same. -/
def mainCol (j : Fin 5120) : Fin 5184 := ⟨j.val, by have := j.isLt; omega⟩
/-- The second result, of a row: in each group's first sixteen lanes the group's steps, forward and then backward, and zero in the others. -/
def sideAt (f : Fin 5184 → EReal) (j : Fin 512) : EReal :=
  if h : j.val % 128 < 16 then f ⟨5120 + (j.val % 128 / 8 * 32 + j.val / 128 * 8 + j.val % 128 % 8), by have := j.isLt; omega⟩ else 0

theorem sideAt_pos (f : Fin 5184 → EReal) (j : Fin 512) (h : j.val % 128 < 16) :
    sideAt f j = f ⟨5120 + (j.val % 128 / 8 * 32 + j.val / 128 * 8 + j.val % 128 % 8), by have := j.isLt; omega⟩ := dif_pos h

theorem main_at (P : FVec Ideal S16x4096x5184 .f32) (b : Fin 16) (t : Fin 4096) (j : Fin 5120) :
    (firstOf P (ix3 b t j) : EReal) = P (ix3 b t (mainCol j)) := by
  have hj := j.isLt
  pointwise [firstOf]
  split
  · rfl
  · exact congrArg (fun q => P (ix3 b t q)) (Fin.ext (by unfold mainCol; dsimp only; omega))

theorem side_at (P : FVec Ideal S16x4096x5184 .f32) (b : Fin 16) (t : Fin 4096) (j : Fin 512) :
    (secondOf P (ix3 b t j) : EReal) = sideAt (fun q => P (ix3 b t q)) j := by
  have hj := j.isLt
  pointwise [secondOf]
  split
  · rename_i h
    refine Eq.trans ?_ (sideAt_pos (fun q => P (ix3 b t q)) j h.2).symm
    refine congrArg (fun q => P (ix3 b t q)) (Fin.ext ?_)
    dsimp only
  · rename_i h
    refine Eq.trans ?_ (dif_neg fun q => h ⟨by omega, q⟩).symm
    show (((0#32 : BitVec 32).toInt : ℝ) : EReal) = 0
    simp

theorem sideAt_sum (u : Fin 1024 → EReal) (w : Fin 1024 → Fin 5184 → EReal) (j : Fin 512) :
    sideAt (fun q => ∑ k : Fin 1024, u k * w k q) j = ∑ k : Fin 1024, u k * sideAt (w k) j := by
  unfold sideAt
  split
  · rfl
  · simp

end Cert.StateProjectReferenceIdeal.Entry

namespace Cert.StateProjectIdeal.Entry

open Cert.StateProjectIdeal Cert.StateProjectIdeal.Gen Cert.Row
open Cert.StateProjectReferenceIdeal.Entry (normed project firstOf secondOf normed_at project_at main_at side_at mainCol sideAt sideAt_sum)
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, 0, 0] := by decide +kernel
theorem idx3 : ∀ t : Fin cfg0.N, win0_3.index t = ![(grid0.coords t 0).val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(grid0.coords t 0).val, (grid0.coords t 1).val, 0] := by decide +kernel
theorem idx7 : ∀ t : Fin cfg0.N, win0_7.index t = ![(grid0.coords t 0).val, (grid0.coords t 1).val, 0] := by decide +kernel

/-- The step's batch entry. -/
def bOf : Fin 16 := ⟨(grid0.coords t 0).val, (grid0.coords t 0).isLt⟩
/-- The token a row of the step's block is. -/
def rOf (r : Fin 512) : Fin 4096 :=
  ⟨512 * (grid0.coords t 1).val + r.val, by have h : (grid0.coords t 1).val < 8 := (grid0.coords t 1).isLt; have := r.isLt; omega⟩

theorem gV (e : Fin 1024) : (V m c main_v10 (ix2 0 e) : EReal) = m ((c : Thread nD τ).loc main_arg1) (ix1 e) := by
  unfold V
  after_reads_at

theorem wV (k : Fin 1024) (j : Fin 5120) : (V m c main_v1 (ix2 k j) : EReal) = m ((c : Thread nD τ).loc main_arg4) (ix2 k (mainCol j)) := by
  unfold V
  after_reads_at
  rfl

theorem sideV (k : Fin 1024) (j : Fin 512) :
    (V m c main_v9 (ix2 k j) : EReal) = sideAt (fun q => m ((c : Thread nD τ).loc main_arg4) (ix2 k q)) j := by
  have hj := j.isLt
  unfold V sideAt
  after_reads_at
  split
  · after_reads_at
  · after_reads_at

theorem ld0 (x : Vec Ideal S1x512x1024 .f32) : View.ld x r0_0 = x := by frame_out
theorem ld1 (x : Vec Ideal S1x1024 .f32) : View.ld x r0_1 = x := by frame_out
theorem ld_row (x : Vec Ideal S1x1x1024 .f32) : View.ld x r0_2 = x := by frame_out

theorem blk0 (r : Fin 512) (k : Fin 1024) : (iblk m c 0 t (ix3 0 r k) : EReal) = m ((c : Thread nD τ).loc main_arg0) (ix3 (bOf t) (rOf t r) k) := by
  blk_ext [iblk, V_main_arg0, idx0 t, bOf, rOf]
theorem blk1 (k : Fin 1024) : (iblk m c 1 t (ix2 0 k) : EReal) = m ((c : Thread nD τ).loc main_arg1) (ix1 k) := by
  refine Eq.trans ?_ (gV m c k)
  blk_ext [iblk, idx1 t]
theorem blk2 (k : Fin 1024) : (iblk m c 2 t (ix3 0 0 k) : EReal) = m ((c : Thread nD τ).loc main_arg2) (ix3 (bOf t) 0 k) := by
  blk_ext [iblk, V_main_arg2, idx2 t, bOf]
theorem blk3 (k : Fin 1024) : (iblk m c 3 t (ix3 0 0 k) : EReal) = m ((c : Thread nD τ).loc main_arg3) (ix3 (bOf t) 0 k) := by
  blk_ext [iblk, V_main_arg3, idx3 t, bOf]
theorem blk4 (k : Fin 1024) (j : Fin 5120) : (iblk m c 4 t (ix2 k j) : EReal) = m ((c : Thread nD τ).loc main_arg4) (ix2 k (mainCol j)) := by
  refine Eq.trans ?_ (wV m c k j)
  blk_ext [iblk, idx4 t]
theorem blk5 (k : Fin 1024) (j : Fin 512) :
    (iblk m c 5 t (ix2 k j) : EReal) = sideAt (fun q => m ((c : Thread nD τ).loc main_arg4) (ix2 k q)) j := by
  refine Eq.trans ?_ (sideV m c k j)
  blk_ext [iblk, idx5 t]

theorem rows_at (h : Vec Ideal S1x512x1024 .f32) (g : Vec Ideal S1x1024 .f32) (s a : Vec Ideal S1x1x1024 .f32) (r : Fin 512) (k : Fin 1024) :
    (k0_pay3 h g s a (ix2 r k) : EReal)
      = shifted (fun k => h (ix3 0 r k)) (fun k => g (ix2 0 k)) (fun k => s (ix3 0 0 k)) (fun k => a (ix3 0 0 k)) k := by
  pointwise [k0_pay3]
  rfl

/-- The rows a step norms and shifts. -/
def normedRows : FVec Ideal S512x1024 .bf16 :=
  k0_pay3 (F := Ideal) (iblk m c 0 t) (iblk m c 1 t) (iblk m c 2 t) (iblk m c 3 t)

theorem normedRows_ld :
    k0_pay3 (F := Ideal) (View.ld (iblk m c 0 t) r0_0) (View.ld (iblk m c 1 t) r0_1) (View.ld (iblk m c 2 t) r0_2) (View.ld (iblk m c 3 t) r0_2)
      = normedRows m c t := by
  rw [ld0, ld1, ld_row, ld_row]
  rfl

/-- The reference's projected rows over the kernel's arguments. -/
def projected : FVec Ideal Cert.StateProjectReferenceIdeal.S16x4096x5184 .f32 :=
  project (normed (m ((c : Thread nD τ).loc main_arg0)) (m ((c : Thread nD τ).loc main_arg1)) (m ((c : Thread nD τ).loc main_arg2)) (m ((c : Thread nD τ).loc main_arg3)))
    (m ((c : Thread nD τ).loc main_arg4))

theorem projected_at (r : Fin 512) (j : Fin 5184) :
    (projected m c (ix3 (bOf t) (rOf t r) j) : EReal)
      = ∑ k : Fin 1024, (normedRows m c t (ix2 r k) : EReal) * m ((c : Thread nD τ).loc main_arg4) (ix2 k j) := by
  unfold projected
  rw [project_at]
  refine Finset.sum_congr rfl fun k _ => ?_
  refine congrArg (· * _) ?_
  unfold normedRows
  rw [normed_at, rows_at]
  simp only [blk0 m c t, blk1 m c t, blk2 m c t, blk3 m c t]

/-- The reference's first result over the kernel's arguments. -/
def goal6 : FVec Ideal Cert.StateProjectReferenceIdeal.S16x4096x5120 .bf16 := firstOf (projected m c)
/-- The reference's second result over the kernel's arguments. -/
def goal7 : FVec Ideal Cert.StateProjectReferenceIdeal.S16x4096x512 .f32 := secondOf (projected m c)

theorem goal6_at (r : Fin 512) (j : Fin 5120) :
    (goal6 m c (ix3 (bOf t) (rOf t r) j) : EReal) = ∑ k : Fin 1024, (normedRows m c t (ix2 r k) : EReal) * iblk m c 4 t (ix2 k j) := by
  unfold goal6
  rw [main_at, projected_at]
  simp only [blk4 m c t]

theorem goal7_at (r : Fin 512) (j : Fin 512) :
    (goal7 m c (ix3 (bOf t) (rOf t r) j) : EReal) = ∑ k : Fin 1024, (normedRows m c t (ix2 r k) : EReal) * iblk m c 5 t (ix2 k j) := by
  unfold goal7
  rw [side_at]
  simp only [blk5 m c t, projected_at m c t]
  exact sideAt_sum (fun k => normedRows m c t (ix2 r k)) (fun k q => m ((c : Thread nD τ).loc main_arg4) (ix2 k q)) j

/-- Where a step's block of the result lies. -/
theorem place6 (r : Fin 512) (j : Fin 5120) :
    ((win0_6.blk t).view.emb (ix3 0 r j) : (⟨3, ![16, 4096, 5120]⟩ : Shape).Idx) = ix3 (bOf t) (rOf t r) j := by
  blk_ext [idx6 t, bOf, rOf]

/-- One tile of 512 columns, the first of them column `o`. -/
theorem tile6 (o : ℕ) (ho : o + 512 ≤ 5120) (pay : (⟨3, ![1, 512, 512]⟩ : Shape).Idx → EReal) (W : (⟨2, ![1024, 512]⟩ : Shape).Idx → EReal)
    (hp : ∀ (r : Fin 512) (j : Fin 512), pay (ix3 0 r j) = ∑ k : Fin 1024, (normedRows m c t (ix2 r k) : EReal) * W (ix2 k j))
    (hW : ∀ (k : Fin 1024) (j : Fin 512), W (ix2 k j) = iblk m c 4 t (ix2 k ⟨o + j.val, by omega⟩))
    (x : (⟨3, ![1, 512, 512]⟩ : Shape).Idx) (y : (⟨3, ![1, 512, 5120]⟩ : Shape).Idx)
    (h1 : (y 1).val = (x 1).val) (h2 : (y 2).val = o + (x 2).val) :
    pay x = (goal6 m c ((win0_6.blk t).view.emb y) : EReal) := by
  have hx : x = ix3 0 (x 1) (x 2) := by
    funext i
    match i with
    | ⟨0, _⟩ => exact Fin.ext (by have h := (x 0).isLt; show (x 0).val = 0; change (x 0).val < 1 at h; omega)
    | ⟨1, _⟩ => rfl
    | ⟨2, _⟩ => rfl
  have b2 : (x 2).val < 512 := (x 2).isLt
  have hy : y = ix3 0 (x 1) ⟨o + (x 2).val, by omega⟩ := by
    funext i
    match i with
    | ⟨0, _⟩ => exact Fin.ext (by have h := (y 0).isLt; show (y 0).val = 0; change (y 0).val < 1 at h; omega)
    | ⟨1, _⟩ => exact Fin.ext h1
    | ⟨2, _⟩ => exact Fin.ext h2
  have key : ∀ (r : Fin 512) (j : Fin 512), pay (ix3 0 r j) = (goal6 m c (ix3 (bOf t) (rOf t r) ⟨o + j.val, by omega⟩) : EReal) := fun r j => by
    rw [hp, goal6_at]
    simp only [hW]
  exact (congrArg pay hx).trans ((key _ _).trans (congrArg (goal6 m c) ((congrArg _ hy).trans (place6 t _ _)).symm))

/-- Where a step's block of the result lies. -/
theorem place7 (r : Fin 512) (j : Fin 512) :
    ((win0_7.blk t).view.emb (ix3 0 r j) : (⟨3, ![16, 4096, 512]⟩ : Shape).Idx) = ix3 (bOf t) (rOf t r) j := by
  blk_ext [idx7 t, bOf, rOf]

/-- One tile of 512 columns, the first of them column `o`. -/
theorem tile7 (o : ℕ) (ho : o + 512 ≤ 512) (pay : (⟨3, ![1, 512, 512]⟩ : Shape).Idx → EReal) (W : (⟨2, ![1024, 512]⟩ : Shape).Idx → EReal)
    (hp : ∀ (r : Fin 512) (j : Fin 512), pay (ix3 0 r j) = ∑ k : Fin 1024, (normedRows m c t (ix2 r k) : EReal) * W (ix2 k j))
    (hW : ∀ (k : Fin 1024) (j : Fin 512), W (ix2 k j) = iblk m c 5 t (ix2 k ⟨o + j.val, by omega⟩))
    (x : (⟨3, ![1, 512, 512]⟩ : Shape).Idx) (y : (⟨3, ![1, 512, 512]⟩ : Shape).Idx)
    (h1 : (y 1).val = (x 1).val) (h2 : (y 2).val = o + (x 2).val) :
    pay x = (goal7 m c ((win0_7.blk t).view.emb y) : EReal) := by
  have hx : x = ix3 0 (x 1) (x 2) := by
    funext i
    match i with
    | ⟨0, _⟩ => exact Fin.ext (by have h := (x 0).isLt; show (x 0).val = 0; change (x 0).val < 1 at h; omega)
    | ⟨1, _⟩ => rfl
    | ⟨2, _⟩ => rfl
  have b2 : (x 2).val < 512 := (x 2).isLt
  have hy : y = ix3 0 (x 1) ⟨o + (x 2).val, by omega⟩ := by
    funext i
    match i with
    | ⟨0, _⟩ => exact Fin.ext (by have h := (y 0).isLt; show (y 0).val = 0; change (y 0).val < 1 at h; omega)
    | ⟨1, _⟩ => exact Fin.ext h1
    | ⟨2, _⟩ => exact Fin.ext h2
  have key : ∀ (r : Fin 512) (j : Fin 512), pay (ix3 0 r j) = (goal7 m c (ix3 (bOf t) (rOf t r) ⟨o + j.val, by omega⟩) : EReal) := fun r j => by
    rw [hp, goal7_at]
    simp only [hW]
  exact (congrArg pay hx).trans ((key _ _).trans (congrArg (goal7 m c) ((congrArg _ hy).trans (place7 t _ _)).symm))

theorem final6 : (dats m 0 c).arrAt 6 cfg0.N = goal6 m c := by
  refine (dats m 0 c).arrAt_eq_of_covers 6 _ (by decide +kernel) fun t hf y => ?_
  blk_simp
  rw [after0_6]
  unfold_out out0_6
  canon_tiles x h
  · refine tile6 m c t 4608 (by decide) _ (View.ld (iblk m c 4 t) r0_23) (fun r j => ?_) (fun k j => ?_) x y h1 h2
    · rw [← normedRows_ld]
      pointwise [k0_pay2]
      try rfl
    · pointwise
  · refine tile6 m c t 4096 (by decide) _ (View.ld (iblk m c 4 t) r0_21) (fun r j => ?_) (fun k j => ?_) x y h1 h2
    · rw [← normedRows_ld]
      pointwise [k0_pay1, k0_pay15]
      try rfl
    · pointwise
  · refine tile6 m c t 3584 (by decide) _ (View.ld (iblk m c 4 t) r0_19) (fun r j => ?_) (fun k j => ?_) x y h1 h2
    · rw [← normedRows_ld]
      pointwise [k0_pay14]
      try rfl
    · pointwise
  · refine tile6 m c t 3072 (by decide) _ (View.ld (iblk m c 4 t) r0_17) (fun r j => ?_) (fun k j => ?_) x y h1 h2
    · rw [← normedRows_ld]
      pointwise [k0_pay13]
      try rfl
    · pointwise
  · refine tile6 m c t 2560 (by decide) _ (View.ld (iblk m c 4 t) r0_15) (fun r j => ?_) (fun k j => ?_) x y h1 h2
    · rw [← normedRows_ld]
      pointwise [k0_pay12]
      try rfl
    · pointwise
  · refine tile6 m c t 2048 (by decide) _ (View.ld (iblk m c 4 t) r0_13) (fun r j => ?_) (fun k j => ?_) x y h1 h2
    · rw [← normedRows_ld]
      pointwise [k0_pay11, k0_pay10]
      try rfl
    · pointwise
  · refine tile6 m c t 1536 (by decide) _ (View.ld (iblk m c 4 t) r0_11) (fun r j => ?_) (fun k j => ?_) x y h1 h2
    · rw [← normedRows_ld]
      pointwise [k0_pay9]
      try rfl
    · pointwise
  · refine tile6 m c t 1024 (by decide) _ (View.ld (iblk m c 4 t) r0_9) (fun r j => ?_) (fun k j => ?_) x y h1 h2
    · rw [← normedRows_ld]
      pointwise [k0_pay8]
      try rfl
    · pointwise
  · refine tile6 m c t 512 (by decide) _ (View.ld (iblk m c 4 t) r0_7) (fun r j => ?_) (fun k j => ?_) x y h1 h2
    · rw [← normedRows_ld]
      pointwise [k0_pay7]
      try rfl
    · pointwise
  · refine tile6 m c t 0 (by decide) _ (View.ld (iblk m c 4 t) r0_5) (fun r j => ?_) (fun k j => ?_) x y h1 (h2.trans (Nat.zero_add _).symm)
    · rw [← normedRows_ld]
      pointwise [k0_pay6, k0_pay5]
      try rfl
    · pointwise

theorem side_pay (h : Vec Ideal S1x512x1024 .f32) (g : Vec Ideal S1x1024 .f32) (s a : Vec Ideal S1x1x1024 .f32) (w : Vec Ideal S1024x512 .bf16) (r : Fin 512) (j : Fin 512) :
    (k0_pay4 (F := Ideal) h g s a w (ix3 0 r j) : EReal) = ∑ k : Fin 1024, (k0_pay3 (F := Ideal) h g s a (ix2 r k) : EReal) * w (ix2 k j) := by
  pointwise [k0_pay4]

theorem final7 : (dats m 0 c).arrAt 7 cfg0.N = goal7 m c := by
  refine (dats m 0 c).arrAt_eq_of_covers 7 _ (by decide +kernel) fun t hf y => ?_
  blk_simp
  rw [after0_7]
  frame_out
  exact tile7 m c t 0 (by decide) (k0_pay4 (F := Ideal) (iblk m c 0 t) (iblk m c 1 t) (iblk m c 2 t) (iblk m c 3 t) (iblk m c 5 t)) (iblk m c 5 t)
    (fun r j => side_pay _ _ _ _ _ r j) (fun k j => congrArg (fun q => iblk m c 5 t (ix2 k q)) (Fin.ext (Nat.zero_add _).symm)) y y rfl (Nat.zero_add _).symm

end Cert.StateProjectIdeal.Entry

end
-- ==== Proof.NarrowOutput.Tie.lean ====
/-
  The out-projection: the array the kernel leaves is the reference's result.
-/
module

public import proofs.«01_k».proof.Proof.Row
public import proofs.«01_k».proof.Proof.Gen.NarrowOutputIdeal.Value
public import proofs.«01_k».proof.Proof.Gen.NarrowOutputReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 4000000

noncomputable section

namespace Cert.NarrowOutputReferenceIdeal.Entry

open Cert.NarrowOutputReferenceIdeal Cert.NarrowOutputReferenceIdeal.Gen
open Idealize.ShloMosaic Idealize.ShloMosaic.TcCoe Idealize.ShloMosaic.Pointwise Idealize.ShloMosaic.StableHlo

/-- The projected rows. -/
def rows (Y : FVec Ideal S16x4096x1024 .bf16) (W : FVec Ideal S1024x1024 .f32) : FVec Ideal S16x4096x1024 .f32 :=
  Host.dotGeneral dot_S16x4096x1024_S1024x1024_S16x4096x1024_2_0_01_1_n_n none (extf .f32 Y bitsLt_bf16_f32) W

/-- What the reference makes of the projected rows. -/
def onto (D H : FVec Ideal S16x4096x1024 .f32) (N : FVec Ideal S1024 .f32) (G : FVec Ideal S16x1x1024 .f32) : FVec Ideal S16x4096x1024 .f32 :=
  addf H (mulf (broadcastInDim S16x4096x1024 ![0, 1, 2] bcast_S16x1x1024_S16x4096x1024_0_1_2 G) (mulf (mulf D (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf D D) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 N))))

theorem rows_at (Y : FVec Ideal S16x4096x1024 .bf16) (W : FVec Ideal S1024x1024 .f32) (b : Fin 16) (t : Fin 4096) (e : Fin 1024) :
    (rows Y W (ix3 b t e) : EReal) = ∑ k : Fin 1024, Y (ix3 b t k) * W (ix2 k e) := by
  pointwise [rows]

theorem onto_at (D H : FVec Ideal S16x4096x1024 .f32) (N : FVec Ideal S1024 .f32) (G : FVec Ideal S16x1x1024 .f32) (b : Fin 16) (t : Fin 4096) (e : Fin 1024) :
    (onto D H N G (ix3 b t e) : EReal)
      = Cert.Row.added (fun k => D (ix3 b t k)) (fun k => H (ix3 b t k)) (fun k => N (ix1 k)) (fun k => G (ix3 b 0 k)) e := by
  pointwise [onto]
  rfl

end Cert.NarrowOutputReferenceIdeal.Entry

namespace Cert.NarrowOutputIdeal.Entry

open Cert.NarrowOutputIdeal Cert.NarrowOutputIdeal.Gen
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![(grid0.coords t 0).val, (grid0.coords t 1).val, 0] := by decide +kernel
theorem idx3 : ∀ t : Fin cfg0.N, win0_3.index t = ![0, 0] := by decide +kernel
theorem idx4 : ∀ t : Fin cfg0.N, win0_4.index t = ![(grid0.coords t 0).val, 0, 0] := by decide +kernel
theorem idx5 : ∀ t : Fin cfg0.N, win0_5.index t = ![(grid0.coords t 0).val, (grid0.coords t 1).val, 0] := by decide +kernel

/-- The step's batch entry. -/
def bOf : Fin 16 := ⟨(grid0.coords t 0).val, (grid0.coords t 0).isLt⟩
/-- The token a row of the step's block is. -/
def rOf (r : Fin 1024) : Fin 4096 :=
  ⟨1024 * (grid0.coords t 1).val + r.val, by have h : (grid0.coords t 1).val < 4 := (grid0.coords t 1).isLt; have := r.isLt; omega⟩

theorem blk0 (r : Fin 1024) (k : Fin 1024) : (iblk m c 0 t (ix3 0 r k) : EReal) = m ((c : Thread nD τ).loc main_arg0) (ix3 (bOf t) (rOf t r) k) := by
  blk_ext [iblk, V_main_arg0, idx0 t, bOf, rOf]

theorem wV (k : Fin 1024) (e : Fin 1024) : (V m c main_v0 (ix2 k e) : EReal) = m ((c : Thread nD τ).loc main_arg1) (ix2 k e) := by
  unfold V
  after_reads_at

theorem blk1 (k : Fin 1024) (e : Fin 1024) : (iblk m c 1 t (ix2 k e) : EReal) = m ((c : Thread nD τ).loc main_arg1) (ix2 k e) := by
  refine Eq.trans ?_ (wV m c k e)
  blk_ext [iblk, idx1 t]

theorem blk2 (r : Fin 1024) (e : Fin 1024) : (iblk m c 2 t (ix3 0 r e) : EReal) = m ((c : Thread nD τ).loc main_arg2) (ix3 (bOf t) (rOf t r) e) := by
  blk_ext [iblk, V_main_arg2, idx2 t, bOf, rOf]

theorem nV (e : Fin 1024) : (V m c main_v1 (ix2 0 e) : EReal) = m ((c : Thread nD τ).loc main_arg3) (ix1 e) := by
  unfold V
  after_reads_at

theorem blk3 (e : Fin 1024) : (iblk m c 3 t (ix2 0 e) : EReal) = m ((c : Thread nD τ).loc main_arg3) (ix1 e) := by
  refine Eq.trans ?_ (nV m c e)
  blk_ext [iblk, idx3 t]

theorem blk4 (e : Fin 1024) : (iblk m c 4 t (ix3 0 0 e) : EReal) = m ((c : Thread nD τ).loc main_arg4) (ix3 (bOf t) 0 e) := by
  blk_ext [iblk, V_main_arg4, idx4 t, bOf]

/-- A step's block, entry by entry. -/
theorem pay_at (y : Vec Ideal S1x1024x1024 .bf16) (w : Vec Ideal S1024x1024 .bf16) (h : Vec Ideal S1x1024x1024 .f32) (g : Vec Ideal S1x1x1024 .f32) (n : Vec Ideal S1x1024 .f32)
    (r e : Fin 1024) :
    (k0_pay1 y w h g n (ix3 0 r e) : EReal)
      = Cert.Row.added (fun j => ∑ k : Fin 1024, (y (ix3 0 r k) : EReal) * w (ix2 k j)) (fun k => h (ix3 0 r k)) (fun k => n (ix2 0 k)) (fun k => g (ix3 0 0 k)) e := by
  pointwise [k0_pay1]
  rfl

/-- An index of a block of one batch entry. -/
theorem split (y : (⟨3, ![1, 1024, 1024]⟩ : Shape).Idx) : y = ix3 0 (y 1) (y 2) := by
  funext i
  match i with
  | ⟨0, _⟩ => exact Fin.ext (by have h := (y 0).isLt; show (y 0).val = 0; change (y 0).val < 1 at h; omega)
  | ⟨1, _⟩ => rfl
  | ⟨2, _⟩ => rfl

/-- Where a step's block of the result lies. -/
theorem place (r e : Fin 1024) :
    ((win0_5.blk t).view.emb (ix3 0 r e) : (⟨3, ![16, 4096, 1024]⟩ : Shape).Idx) = ix3 (bOf t) (rOf t r) e := by
  blk_ext [idx5 t, bOf, rOf]

open Cert.NarrowOutputReferenceIdeal.Entry (rows onto rows_at onto_at)

/-- The reference's result over the kernel's arguments. -/
def goal : FVec Ideal Cert.NarrowOutputReferenceIdeal.S16x4096x1024 .f32 :=
  onto (rows (m ((c : Thread nD τ).loc main_arg0)) (m ((c : Thread nD τ).loc main_arg1))) (m ((c : Thread nD τ).loc main_arg2))
    (m ((c : Thread nD τ).loc main_arg3)) (m ((c : Thread nD τ).loc main_arg4))

theorem step (r e : Fin 1024) :
    (k0_pay1 (F := Ideal) (iblk m c 0 t) (iblk m c 1 t) (iblk m c 2 t) (iblk m c 4 t) (iblk m c 3 t) (ix3 0 r e) : EReal)
      = goal m c (ix3 (bOf t) (rOf t r) e) := by
  refine (pay_at _ _ _ _ _ r e).trans (Eq.trans ?_ (onto_at _ _ _ _ (bOf t) (rOf t r) e).symm)
  simp only [rows_at, blk0 m c t, blk1 m c t, blk2 m c t, blk3 m c t, blk4 m c t]

theorem final : (dats m 0 c).arrAt 5 cfg0.N = goal m c := by
  refine (dats m 0 c).arrAt_eq_of_covers 5 _ (by decide +kernel) fun t hf y => ?_
  blk_simp
  rw [after0_5]
  frame_out
  exact (congrArg (k0_pay1 (F := Ideal) (iblk m c 0 t) (iblk m c 1 t) (iblk m c 2 t) (iblk m c 4 t) (iblk m c 3 t)) (split y)).trans
    ((step m c t _ _).trans (congrArg (goal m c) ((congrArg _ (split y)).trans (place t _ _)).symm))

end Cert.NarrowOutputIdeal.Entry

end
-- ==== Proof.Modulation.Tie.lean ====
/-
  The modulation: the array the kernel leaves is the reference's result.
-/
module

public import proofs.«01_k».proof.Proof.Gen.ModulationIdeal.Value
public import proofs.«01_k».proof.Proof.Gen.ModulationReferenceIdeal.Run
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 400000

noncomputable section

namespace Cert.ModulationReferenceIdeal.Entry

open Cert.ModulationReferenceIdeal Cert.ModulationReferenceIdeal.Gen
open Idealize.ShloMosaic Idealize.ShloMosaic.TcCoe Idealize.ShloMosaic.Pointwise Idealize.ShloMosaic.StableHlo

/-- The reference's result, of the tokens' condition, the context's, the weights and the biases. -/
def whole (C : FVec Ideal S16x1024 .f32) (X : FVec Ideal S1024 .f32) (W : FVec Ideal S4x1024x6144 .f32) (B : FVec Ideal S4x6144 .f32) : FVec Ideal S4x24x6144 .f32 :=
  (concatenate S4x24x6144 1 [⟨S4x16x6144, ((addf (transpose S4x16x6144 [0, 2, 1] (Host.dotGeneral dot_S4x1024x6144_S16x1024_S4x6144x16_1_1_02_0_n_n none W (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C)))))) transposes_S4x6144x16_S4x16x6144_0_2_1) (broadcastInDim S4x16x6144 ![0, 1, 2] bcast_S4x1x6144_S4x16x6144_0_1_2 (broadcastInDim S4x1x6144 ![0, 2] bcast_S4x6144_S4x1x6144_0_2 B))) : (⟨S4x16x6144, .f32⟩ : BufTy).Contents (Elt Ideal))⟩, ⟨S4x1x6144, ((broadcastInDim S4x1x6144 ![0, 2] bcast_S4x6144_S4x1x6144_0_2 (addf (Host.dotGeneral dot_S1024_S4x1024x6144_S4x6144_0_1_n_02_n_n none (mulf X (Host.divf (broadcastInDim S1024 ![] bcast_S_S1024 (constant S_ .f32 0x3F800000#32)) (addf (broadcastInDim S1024 ![] bcast_S_S1024 (constant S_ .f32 0x3F800000#32)) (Host.exp (Host.negf X))))) W) B)) : (⟨S4x1x6144, .f32⟩ : BufTy).Contents (Elt Ideal))⟩, ⟨S4x7x6144, ((broadcastInDim S4x7x6144 ![0, 1, 2] bcast_S4x1x6144_S4x7x6144_0_1_2 (broadcastInDim S4x1x6144 ![0, 2] bcast_S4x6144_S4x1x6144_0_2 B)) : (⟨S4x7x6144, .f32⟩ : BufTy).Contents (Elt Ideal))⟩] concatenates_S4x16x6144_S4x1x6144_S4x7x6144_S4x24x6144_d1 : (⟨S4x24x6144, .f32⟩ : BufTy).Contents (Elt Ideal))

/-- The smooth step times its argument. -/
def silu (x : EReal) : EReal := x * Ideal.div 1 (1 + Ideal.exp (-x))

/-- One entry of the result, from a row of conditions, a column of weights and its bias. -/
def entry (f w : Fin 1024 → EReal) (b : EReal) : EReal := (∑ k : Fin 1024, silu (f k) * w k) + b

/-- The rows of conditions: the batch entries', the context's, and zeros. -/
def cond (C : FVec Ideal S16x1024 .f32) (X : FVec Ideal S1024 .f32) (r : Fin 24) (k : Fin 1024) : EReal :=
  if h : r.val < 16 then C (ix2 ⟨r.val, h⟩ k) else if r.val = 16 then X (ix1 k) else 0

theorem cond_tokens (C : FVec Ideal S16x1024 .f32) (X : FVec Ideal S1024 .f32) (r : Fin 24) (k : Fin 1024) (h : r.val < 16) :
    cond C X r k = C (ix2 ⟨r.val, h⟩ k) := dif_pos h
theorem cond_context (C : FVec Ideal S16x1024 .f32) (X : FVec Ideal S1024 .f32) (r : Fin 24) (k : Fin 1024) (h : ¬ r.val < 16) (e : r.val = 16) :
    cond C X r k = X (ix1 k) := (dif_neg h).trans (if_pos e)
theorem cond_rest (C : FVec Ideal S16x1024 .f32) (X : FVec Ideal S1024 .f32) (r : Fin 24) (k : Fin 1024) (h : ¬ r.val < 16) (e : ¬ r.val = 16) :
    cond C X r k = 0 := (dif_neg h).trans (if_neg e)

theorem entry_zero (w : Fin 1024 → EReal) (b : EReal) : entry (fun _ => 0) w b = b := by
  unfold entry silu
  simp

theorem whole_at (C : FVec Ideal S16x1024 .f32) (X : FVec Ideal S1024 .f32) (W : FVec Ideal S4x1024x6144 .f32) (B : FVec Ideal S4x6144 .f32)
    (i : Fin 4) (r : Fin 24) (n : Fin 6144) :
    (whole C X W B (ix3 i r n) : EReal) = entry (cond C X r) (fun k => W (ix3 i k n)) (B (ix2 i n)) := by
  have hr := r.isLt
  pointwise [whole]
  split
  · rename_i h
    have e : cond C X r = fun k => C (ix2 ⟨r.val, h⟩ k) := funext fun k => cond_tokens C X r k h
    rw [e]
    refine congrArg (· + B (ix2 i n)) (Finset.sum_congr rfl fun k _ => ?_)
    exact mul_comm _ _
  · rename_i h
    split
    · have e : cond C X r = fun k => X (ix1 k) := funext fun k => cond_context C X r k h (by omega)
      rw [e]
      rfl
    · have e : cond C X r = fun _ => 0 := funext fun k => cond_rest C X r k h (by omega)
      rw [e, entry_zero]

end Cert.ModulationReferenceIdeal.Entry

namespace Cert.ModulationIdeal.Entry

open Cert.ModulationIdeal Cert.ModulationIdeal.Gen
open Cert.ModulationReferenceIdeal.Entry (whole silu entry cond cond_tokens cond_context cond_rest whole_at)
open Idealize.ShloMosaic Idealize.ShloMosaic.TcCoe Idealize.ShloMosaic.Pointwise

variable (m : (ℓ : Loc nD τ sig) → Buf (Elt Ideal) ℓ) (c : Dev nD) (t : Fin cfg0.N)

theorem idx0 : ∀ t : Fin cfg0.N, win0_0.index t = ![0, 0] := by decide +kernel
theorem idx1 : ∀ t : Fin cfg0.N, win0_1.index t = ![(grid0.coords t 0).val, 0, (grid0.coords t 1).val] := by decide +kernel
theorem idx2 : ∀ t : Fin cfg0.N, win0_2.index t = ![(grid0.coords t 0).val, 0, (grid0.coords t 1).val] := by decide +kernel
theorem idx3 : ∀ t : Fin cfg0.N, win0_3.index t = ![(grid0.coords t 0).val, 0, (grid0.coords t 1).val] := by decide +kernel

/-- The step's layer. -/
def iOf : Fin 4 := ⟨(grid0.coords t 0).val, (grid0.coords t 0).isLt⟩
/-- The column that a column of the step's block is. -/
def nOf (j : Fin 1536) : Fin 6144 :=
  ⟨1536 * (grid0.coords t 1).val + j.val, by have h : (grid0.coords t 1).val < 4 := (grid0.coords t 1).isLt; have := j.isLt; omega⟩

theorem cV (r : Fin 24) (k : Fin 1024) :
    (V m c main_v2 (ix2 r k) : EReal) = cond (m ((c : Thread nD τ).loc main_arg0)) (m ((c : Thread nD τ).loc main_arg1)) r k := by
  have hr := r.isLt
  unfold V
  after_reads_at
  split
  · rename_i h
    exact (cond_tokens _ _ r k h).symm
  · rename_i h
    split
    · after_reads_at
      exact (cond_context _ _ r k h (by omega)).symm
    · after_reads_at
      exact (cond_rest _ _ r k h (by omega)).symm
theorem bV (i : Fin 4) (n : Fin 6144) : (V m c main_v3 (ix3 i 0 n) : EReal) = m ((c : Thread nD τ).loc main_arg3) (ix2 i n) := by
  unfold V
  after_reads_at

theorem blk0 (r : Fin 24) (k : Fin 1024) :
    (iblk m c 0 t (ix2 r k) : EReal) = cond (m ((c : Thread nD τ).loc main_arg0)) (m ((c : Thread nD τ).loc main_arg1)) r k := by
  refine Eq.trans ?_ (cV m c r k)
  blk_ext [iblk, idx0 t]
theorem blk1 (k : Fin 1024) (j : Fin 1536) : (iblk m c 1 t (ix3 0 k j) : EReal) = m ((c : Thread nD τ).loc main_arg2) (ix3 (iOf t) k (nOf t j)) := by
  blk_ext [iblk, V_main_arg2, idx1 t, iOf, nOf]
theorem blk2 (j : Fin 1536) : (iblk m c 2 t (ix3 0 0 j) : EReal) = m ((c : Thread nD τ).loc main_arg3) (ix2 (iOf t) (nOf t j)) := by
  refine Eq.trans ?_ (bV m c (iOf t) (nOf t j))
  blk_ext [iblk, idx2 t, iOf, nOf]

theorem pay_at (x : Vec Ideal S24x1024 .f32) (w : Vec Ideal S1x1024x1536 .f32) (b : Vec Ideal S1x1x1536 .f32) (r : Fin 24) (j : Fin 1536) :
    (k0_pay1 (F := Ideal) x w b (ix3 0 r j) : EReal) = entry (fun k => x (ix2 r k)) (fun k => w (ix3 0 k j)) (b (ix3 0 0 j)) := by
  unfold entry silu
  simp only [← zero_sub]
  pointwise [k0_pay1]

/-- The reference's result over the kernel's arguments. -/
def goal : FVec Ideal Cert.ModulationReferenceIdeal.S4x24x6144 .f32 :=
  whole (m ((c : Thread nD τ).loc main_arg0)) (m ((c : Thread nD τ).loc main_arg1)) (m ((c : Thread nD τ).loc main_arg2)) (m ((c : Thread nD τ).loc main_arg3))

theorem step (r : Fin 24) (j : Fin 1536) :
    (k0_pay1 (F := Ideal) (iblk m c 0 t) (iblk m c 1 t) (iblk m c 2 t) (ix3 0 r j) : EReal) = goal m c (ix3 (iOf t) r (nOf t j)) := by
  unfold goal
  rw [pay_at, whole_at, blk2 m c t]
  simp only [blk0 m c t, blk1 m c t]

/-- Where a step's block of the result lies. -/
theorem place (r : Fin 24) (j : Fin 1536) :
    ((win0_3.blk t).view.emb (ix3 0 r j) : (⟨3, ![4, 24, 6144]⟩ : Shape).Idx) = ix3 (iOf t) r (nOf t j) := by
  blk_ext [idx3 t, iOf, nOf]

theorem split (y : (⟨3, ![1, 24, 1536]⟩ : Shape).Idx) : y = ix3 0 (y 1) (y 2) := by
  funext i
  match i with
  | ⟨0, _⟩ => exact Fin.ext (by have h := (y 0).isLt; show (y 0).val = 0; change (y 0).val < 1 at h; omega)
  | ⟨1, _⟩ => rfl
  | ⟨2, _⟩ => rfl

theorem final : (dats m 0 c).arrAt 3 cfg0.N = goal m c := by
  refine (dats m 0 c).arrAt_eq_of_covers 3 _ (by decide +kernel) fun t hf y => ?_
  blk_simp
  rw [after0_3]
  frame_out
  exact (congrArg (k0_pay1 (F := Ideal) (iblk m c 0 t) (iblk m c 1 t) (iblk m c 2 t)) (split y)).trans
    ((step m c t _ _).trans (congrArg (goal m c) ((congrArg _ (split y)).trans (place t _ _)).symm))

end Cert.ModulationIdeal.Entry

end
-- ==== Proof.Ret.Chunks.lean ====
/-
  The pure contents of the retention scan: what each chunk of 256 tokens computes, as functions of the rotated
  queries and keys, the values, the gate and the decay tables of the head.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.Pointwise

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pointwise

variable {F : FTy → Type} [FloatOps F]

/-- Rows `o … o + 255` of a stack of 4096 rows of 256 numbers. -/
def rowsQ {e : EltTy} (q : Vec F S4096x256 e) (o : ℕ) : Vec F S256x256 e :=
  fun y => q (ix2 ⟨(o + (y 0).val) % 4096, Nat.mod_lt _ (by decide)⟩ (y 1))

/-- Rows `o … o + 255` of a block of 4096 rows of 512 numbers. -/
def rowsV {e : EltTy} (v : Vec F S1x4096x512 e) (o : ℕ) : Vec F S1x256x512 e :=
  fun y => v (ix3 0 ⟨(o + (y 1).val) % 4096, Nat.mod_lt _ (by decide)⟩ (y 2))

/-- Rows `o … o + 255` of a stack of 4096 rows of 512 numbers. -/
def rowsO {e : EltTy} (w : Vec F S4096x512 e) (o : ℕ) : Vec F S256x512 e :=
  fun y => w (ix2 ⟨(o + (y 0).val) % 4096, Nat.mod_lt _ (by decide)⟩ (y 1))

/-- The tables one head's decay gives: the weights of a chunk's queries, keys, states and scores. -/
structure Tab (F : FTy → Type) where
  /-- weights of the forward queries -/
  qf : FVec F S256x1 .f32
  /-- weights of the forward keys -/
  kf : FVec F S256x1 .f32
  /-- weights of the backward queries -/
  qb : FVec F S256x1 .f32
  /-- weights of the backward keys -/
  kb : FVec F S256x1 .f32
  /-- the forward state's weight over one chunk -/
  cf : FVec F S1x1 .f32
  /-- the backward state's weight over one chunk -/
  cb : FVec F S1x1 .f32
  /-- weights of the scores within a chunk -/
  m : FVec F S256x256 .f32

variable (T : Tab F) (Q K : Vec F S4096x256 .bf16) (V G : Vec F S1x4096x512 .bf16) (gn : Vec F S1x512 .f32) (s0 b0 : Vec F S256x512 .f32)

/-- The forward state before chunk `k`. -/
def SF : ℕ → Vec F S256x512 .f32
  | 0 => s0
  | k + 1 => k0_pay13 T.kf T.cf (rowsQ K (256 * k)) (rowsV V (256 * k)) (SF k)

/-- The backward state before the chunk visited at trip `k`, which is chunk `15 - k`. -/
def SB : ℕ → Vec F S256x512 .f32
  | 0 => b0
  | k + 1 => k0_pay2 T.kb T.cb (rowsQ K (3840 - 256 * k)) (rowsV V (3840 - 256 * k)) (SB k)

/-- The part of chunk `k` computed by the forward sweep. -/
def OF (k : ℕ) : FVec F S256x512 .f32 :=
  k0_pay12 T.qf T.m (rowsQ Q (256 * k)) (rowsQ K (256 * k)) (rowsV V (256 * k)) (SF T K V s0 k)

/-- The part of the chunk visited at trip `k` computed by the backward sweep. -/
def OB (k : ℕ) : FVec F S256x512 .f32 :=
  k0_pay17 T.qb (rowsQ Q (3840 - 256 * k)) (SB T K V b0 k)

/-- What the first half of the sweeps leaves in the scratch of partial results. -/
def OL : Vec F S4096x512 .f32 := fun y =>
  if (y 0).val < 2048 then
    k0_pay3 (OF T Q K V s0 ((y 0).val / 256)) (ix2 ⟨(y 0).val % 256, Nat.mod_lt _ (by decide)⟩ (y 1))
  else
    k0_pay3 (OB T Q K V b0 (15 - (y 0).val / 256)) (ix2 ⟨(y 0).val % 256, Nat.mod_lt _ (by decide)⟩ (y 1))

/-- The rows the forward sweep finishes at trip `k` of the second half. -/
def YF (k : ℕ) : Vec F S1x256x512 .bf16 :=
  k0_pay21 (k0_pay19 (OF T Q K V s0 (8 + k)) (rowsO (OL T Q K V s0 b0) (256 * k + 2048))) (k0_pay20 gn)
    (rowsV G (256 * k + 2048))

/-- The rows the backward sweep finishes at trip `k` of the second half. -/
def YB (k : ℕ) : Vec F S1x256x512 .bf16 :=
  k0_pay5 (k0_pay22 (OB T Q K V b0 (8 + k)) (rowsO (OL T Q K V s0 b0) (1792 - 256 * k)) gn)
    (rowsV G (1792 - 256 * k))

/-- The gated, normalised result over the latent tokens. -/
def YL : Vec F S1x4096x512 .bf16 := fun y =>
  if 2048 ≤ (y 1).val then
    YF T Q K V G gn s0 b0 ((y 1).val / 256 - 8) (ix3 0 ⟨(y 1).val % 256, Nat.mod_lt _ (by decide)⟩ (y 2))
  else
    YB T Q K V G gn s0 b0 (7 - (y 1).val / 256) (ix3 0 ⟨(y 1).val % 256, Nat.mod_lt _ (by decide)⟩ (y 2))

/-- Rows `o … o + 63` of a block of 4096 rows of 256 numbers. -/
def rows64 {e : EltTy} (x : Vec F S1x4096x256 e) (o : ℕ) : Vec F S1x64x256 e :=
  fun y => x (ix3 0 ⟨(o + (y 1).val) % 4096, Nat.mod_lt _ (by decide)⟩ (y 2))

/-- Row `o` of a table of 64 rows. -/
def row1 {e : EltTy} (x : Vec F S64x128 e) (o : ℕ) : Vec F S1x128 e :=
  fun y => x (ix2 ⟨(o + (y 0).val) % 64, Nat.mod_lt _ (by decide)⟩ (y 1))

/-- The rotated queries of the latent tokens: token `64 i + j` is rotated in its first half by row `i` of the row tables,
in its second half by row `j` of the column tables. -/
def ropeQ (x : Vec F S1x4096x256 .bf16) (rc rs cc cs : Vec F S64x128 .f32) : Vec F S4096x256 .bf16 := fun y =>
  if (y 1).val < 128 then
    k0_pay9 (row1 rc ((y 0).val / 64)) (row1 rs ((y 0).val / 64)) (rows64 x (64 * ((y 0).val / 64)))
      (ix2 ⟨(y 0).val % 64, Nat.mod_lt _ (by decide)⟩ ⟨(y 1).val % 128, Nat.mod_lt _ (by decide)⟩)
  else
    k0_pay10 (rows64 x (64 * ((y 0).val / 64))) cc cs
      (ix2 ⟨(y 0).val % 64, Nat.mod_lt _ (by decide)⟩ ⟨(y 1).val % 128, Nat.mod_lt _ (by decide)⟩)

/-- The rotated keys of the latent tokens, scaled. -/
def ropeK (x : Vec F S1x4096x256 .bf16) (rc rs cc cs : Vec F S64x128 .f32) : Vec F S4096x256 .bf16 := fun y =>
  if (y 1).val < 128 then
    k0_pay37 (k0_pay6 (row1 rc ((y 0).val / 64))) (k0_pay7 (row1 rs ((y 0).val / 64))) (rows64 x (64 * ((y 0).val / 64)))
      (ix2 ⟨(y 0).val % 64, Nat.mod_lt _ (by decide)⟩ ⟨(y 1).val % 128, Nat.mod_lt _ (by decide)⟩)
  else
    k0_pay38 (rows64 x (64 * ((y 0).val / 64))) cc cs
      (ix2 ⟨(y 0).val % 64, Nat.mod_lt _ (by decide)⟩ ⟨(y 1).val % 128, Nat.mod_lt _ (by decide)⟩)

/-! ## Loads as rows -/

section Loads

variable {sig : RefSig} {κ : Kind} {sp : Space} {e : EltTy}

theorem readAt_rowsQ (v : View sig κ sp S4096x256 e) (f : v.ty.Contents (Elt F)) {off : Fin 2 → ℕ} {o : ℕ} (h : off = ![o, 0])
    (inb : ∀ a, off a + S256x256.size a ≤ S4096x256.size a) :
    v.readAt (Elt F) (Rect.unit (s := S4096x256) off S256x256.size inb).toLoadRect f = rowsQ (v.read (Elt F) f) o := by
  subst h
  funext y
  refine congrArg (v.read (Elt F) f) (funext fun a => Fin.ext ?_)
  have h0 : o + 256 ≤ 4096 := inb 0
  have hy : (y 0).val < 256 := (y 0).isLt
  match a with
  | ⟨0, _⟩ =>
    show o + 1 * (y 0).val = (o + (y 0).val) % 4096
    omega
  | ⟨1, _⟩ =>
    show 0 + 1 * (y 1).val = (y 1).val
    omega

theorem readAt_rowsO (v : View sig κ sp S4096x512 e) (f : v.ty.Contents (Elt F)) {off : Fin 2 → ℕ} {o : ℕ} (h : off = ![o, 0])
    (inb : ∀ a, off a + S256x512.size a ≤ S4096x512.size a) :
    v.readAt (Elt F) (Rect.unit (s := S4096x512) off S256x512.size inb).toLoadRect f = rowsO (v.read (Elt F) f) o := by
  subst h
  funext y
  refine congrArg (v.read (Elt F) f) (funext fun a => Fin.ext ?_)
  have h0 : o + 256 ≤ 4096 := inb 0
  have hy : (y 0).val < 256 := (y 0).isLt
  match a with
  | ⟨0, _⟩ =>
    show o + 1 * (y 0).val = (o + (y 0).val) % 4096
    omega
  | ⟨1, _⟩ =>
    show 0 + 1 * (y 1).val = (y 1).val
    omega

theorem readAt_rowsV (v : View sig κ sp S1x4096x512 e) (f : v.ty.Contents (Elt F)) {off : Fin 3 → ℕ} {o : ℕ} (h : off = ![0, o, 0])
    (inb : ∀ a, off a + S1x256x512.size a ≤ S1x4096x512.size a) :
    v.readAt (Elt F) (Rect.unit (s := S1x4096x512) off S1x256x512.size inb).toLoadRect f = rowsV (v.read (Elt F) f) o := by
  subst h
  funext y
  refine congrArg (v.read (Elt F) f) (funext fun a => Fin.ext ?_)
  have h0 : o + 256 ≤ 4096 := inb 1
  have hy : (y 1).val < 256 := (y 1).isLt
  have hz : (y 0).val < 1 := (y 0).isLt
  match a with
  | ⟨0, _⟩ =>
    show 0 + 1 * (y 0).val = 0
    omega
  | ⟨1, _⟩ =>
    show o + 1 * (y 1).val = (o + (y 1).val) % 4096
    omega
  | ⟨2, _⟩ =>
    show 0 + 1 * (y 2).val = (y 2).val
    omega

theorem readAt_rows64 (v : View sig κ sp S1x4096x256 e) (f : v.ty.Contents (Elt F)) {off : Fin 3 → ℕ} {o : ℕ} (h : off = ![0, o, 0])
    (inb : ∀ a, off a + S1x64x256.size a ≤ S1x4096x256.size a) :
    v.readAt (Elt F) (Rect.unit (s := S1x4096x256) off S1x64x256.size inb).toLoadRect f = rows64 (v.read (Elt F) f) o := by
  subst h
  funext y
  refine congrArg (v.read (Elt F) f) (funext fun a => Fin.ext ?_)
  have h0 : o + 64 ≤ 4096 := inb 1
  have hy : (y 1).val < 64 := (y 1).isLt
  have hz : (y 0).val < 1 := (y 0).isLt
  match a with
  | ⟨0, _⟩ =>
    show 0 + 1 * (y 0).val = 0
    omega
  | ⟨1, _⟩ =>
    show o + 1 * (y 1).val = (o + (y 1).val) % 4096
    omega
  | ⟨2, _⟩ =>
    show 0 + 1 * (y 2).val = (y 2).val
    omega

theorem readAt_row1 (v : View sig κ sp S64x128 e) (f : v.ty.Contents (Elt F)) {off : Fin 2 → ℕ} {o : ℕ} (h : off = ![o, 0])
    (inb : ∀ a, off a + S1x128.size a ≤ S64x128.size a) :
    v.readAt (Elt F) (Rect.unit (s := S64x128) off S1x128.size inb).toLoadRect f = row1 (v.read (Elt F) f) o := by
  subst h
  funext y
  refine congrArg (v.read (Elt F) f) (funext fun a => Fin.ext ?_)
  have h0 : o + 1 ≤ 64 := inb 0
  have hy : (y 0).val < 1 := (y 0).isLt
  match a with
  | ⟨0, _⟩ =>
    show o + 1 * (y 0).val = (o + (y 0).val) % 64
    omega
  | ⟨1, _⟩ =>
    show 0 + 1 * (y 1).val = (y 1).val
    omega

/-- The pieces two stores of one trip of the rotation leave: the trip's 64 rows, and the rows before. -/
theorem rope_pieces (v : View sig κ sp S4096x256 e) (f : v.ty.Contents (Elt F)) {off1 off2 : Fin 2 → ℕ} {k : ℕ}
    (inb1 : ∀ a, off1 a + S64x128.size a ≤ S4096x256.size a) (inb2 : ∀ a, off2 a + S64x128.size a ≤ S4096x256.size a)
    (h1 : off1 = ![64 * k, 0]) (h2 : off2 = ![64 * k, 128]) (w1 w2 : Vec F S64x128 e) (tgt : Vec F S4096x256 e)
    (hf : ∀ y : S4096x256.Idx, (y 0).val < 64 * k → v.read (Elt F) f y = tgt y)
    (ht : ∀ y : S4096x256.Idx, (y 0).val / 64 = k → tgt y = if (y 1).val < 128 then
        w1 (ix2 ⟨(y 0).val % 64, Nat.mod_lt _ (by decide)⟩ ⟨(y 1).val % 128, Nat.mod_lt _ (by decide)⟩)
      else w2 (ix2 ⟨(y 0).val % 64, Nat.mod_lt _ (by decide)⟩ ⟨(y 1).val % 128, Nat.mod_lt _ (by decide)⟩)) :
    ∀ y : S4096x256.Idx, (y 0).val < 64 * (k + 1) →
      v.read (Elt F) (v.writes (Elt F) f [⟨Rect.unit (s := S4096x256) off2 S64x128.size inb2, w2⟩,
        ⟨Rect.unit (s := S4096x256) off1 S64x128.size inb1, w1⟩]) y = tgt y := by
  intro y hy
  have hy1 : (y 1).val < 256 := (y 1).isLt
  by_cases hr : 64 * k ≤ (y 0).val
  · rw [ht y (by omega)]
    by_cases hc : (y 1).val < 128
    · rw [if_pos hc, View.read_writes_cons_unit_of_not_mem (size := S64x128.size) v f _ _ _ y h2 (1 : Fin 2) (by
        show (y 1).val < 128 ∨ 128 + 128 ≤ (y 1).val
        omega),
        View.read_writes_cons_unit_of_mem (size := S64x128.size) v f _ _ _ y
          (ix2 ⟨(y 0).val % 64, Nat.mod_lt _ (by decide)⟩ ⟨(y 1).val % 128, Nat.mod_lt _ (by decide)⟩ : S64x128.Idx) h1 (fun a => by
          match a with
          | ⟨0, _⟩ => show (y 0).val = 64 * k + (y 0).val % 64; omega
          | ⟨1, _⟩ => show (y 1).val = 0 + (y 1).val % 128; omega)]
    · rw [if_neg hc, View.read_writes_cons_unit_of_mem (size := S64x128.size) v f _ _ _ y
          (ix2 ⟨(y 0).val % 64, Nat.mod_lt _ (by decide)⟩ ⟨(y 1).val % 128, Nat.mod_lt _ (by decide)⟩ : S64x128.Idx) h2 (fun a => by
          match a with
          | ⟨0, _⟩ => show (y 0).val = 64 * k + (y 0).val % 64; omega
          | ⟨1, _⟩ => show (y 1).val = 128 + (y 1).val % 128; omega)]
  · rw [View.read_writes_cons_unit_of_not_mem (size := S64x128.size) v f _ _ _ y h2 (0 : Fin 2) (by
        show (y 0).val < 64 * k ∨ 64 * k + 64 ≤ (y 0).val
        omega),
      View.read_writes_cons_unit_of_not_mem (size := S64x128.size) v f _ _ _ y h1 (0 : Fin 2) (by
        show (y 0).val < 64 * k ∨ 64 * k + 64 ≤ (y 0).val
        omega), View.writes_nil]
    exact hf y (by omega)

end Loads

end Cert.KernelIdeal.Ret
end
-- ==== Proof.Ret.Loop1.lean ====
/-
  The rotation of the latent queries and keys: trip `k` rotates one row of 64 tokens of the grid.
-/
module

public import proofs.«01_k».proof.Proof.Ret.Chunks

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pointwise

variable (𝒱 : Variants) (c : Dev nD) (bd : Option 𝒱.V) (E : Set ℕ) (i : grid0.Coords) (arg2 : Memref sig .tc .smem S2x4 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x4096x512 .bf16) (harg9 : arg9.IsWhole) (arg10 : Memref sig .tc .vmem S1x4096x512 .bf16) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S1x256x512 .bf16) (harg16 : arg16.IsWhole) (arg17 : Memref sig .tc .vmem S1x4096x512 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S4096x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .f32) (harg25 : arg25.IsWhole)

/-- Before trip `k` of the rotation: the rows rotated so far. -/
def inv1 (X7 : BufTy.Contents (Elt F) arg7.view.ty) (X8 : BufTy.Contents (Elt F) arg8.view.ty) (X12 : BufTy.Contents (Elt F) arg12.view.ty) (X13 : BufTy.Contents (Elt F) arg13.view.ty) (X14 : BufTy.Contents (Elt F) arg14.view.ty) (X15 : BufTy.Contents (Elt F) arg15.view.ty) (k : ℕ) : sProp 𝕄G :=
  iprop((arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)
    ∗ (∃ f18, (arg18.view.loc (c : Thread nD τ) ↦[arg18.view.set]{fullShare} f18) ∗ ⌜∀ y : S4096x256.Idx, (y 0).val < 64 * k →
        arg18.view.read (Elt F) f18 y = ropeQ (arg7.view.read (Elt F) X7) (arg12.view.read (Elt F) X12) (arg13.view.read (Elt F) X13) (arg14.view.read (Elt F) X14) (arg15.view.read (Elt F) X15) y⌝)
    ∗ (∃ f19, (arg19.view.loc (c : Thread nD τ) ↦[arg19.view.set]{fullShare} f19) ∗ ⌜∀ y : S4096x256.Idx, (y 0).val < 64 * k →
        arg19.view.read (Elt F) f19 y = ropeK (arg8.view.read (Elt F) X8) (arg12.view.read (Elt F) X12) (arg13.view.read (Elt F) X13) (arg14.view.read (Elt F) X14) (arg15.view.read (Elt F) X15) y⌝))

/-- Loop 1 keeps its invariant. -/
@[instance_reducible]
def loop1 (X7 : BufTy.Contents (Elt F) arg7.view.ty) (X8 : BufTy.Contents (Elt F) arg8.view.ty) (X12 : BufTy.Contents (Elt F) arg12.view.ty) (X13 : BufTy.Contents (Elt F) arg13.view.ty) (X14 : BufTy.Contents (Elt F) arg14.view.ty) (X15 : BufTy.Contents (Elt F) arg15.view.ty) (v3 : Elt F .f32) (v34 : FVec F S256x256 .f32) (v43 : FVec F S256x256 .f32) (v45 : IVec S256x256 1) (v46 : FVec F S256x256 .f32) :
    LoopInv (M := 𝕄G) Idealize.ShloMosaic.frame (wpE (defs₀ (F := F)) 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v34 v43 v45 v46) where
  inv k _ := inv1 (F := F) c arg7 arg8 arg12 arg13 arg14 arg15 arg18 arg19 X7 X8 X12 X13 X14 X15 k
  step k acc := by
    unfold inv1
    iintro ⟨H7, H8, H12, H13, H14, H15, ⟨%f18, H18, %h18⟩, ⟨%f19, H19, %h19⟩⟩
    unfold k0_t1_body
    sl_exec
    sl_step
    isplitl [H7]; · iexact H7
    isplitl [H8]; · iexact H8
    isplitl [H12]; · iexact H12
    isplitl [H13]; · iexact H13
    isplitl [H14]; · iexact H14
    isplitl [H15]; · iexact H15
    isplitl [H18]
    · iexists _; isplitl [H18]; · iexact H18
      ipureintro
      refine rope_pieces (k := k.val) arg18.view f18 (Gen.k0_off5_inb k) (Gen.k0_off6_inb k) (k0_off5_eq k) (k0_off6_eq k) _ _ _ h18 ?_
      intro y hy
      rw [readAt_row1 _ _ (k0_off3_eq k), readAt_row1 _ _ (k0_off3_eq k), readAt_rows64 _ _ (k0_off4_eq k), View.readAt_full, View.readAt_full]
      unfold ropeQ
      rw [hy]
    · iexists _; isplitl [H19]; · iexact H19
      ipureintro
      refine rope_pieces (k := k.val) arg19.view f19 (Gen.k0_off5_inb k) (Gen.k0_off6_inb k) (k0_off5_eq k) (k0_off6_eq k) _ _ _ h19 ?_
      intro y hy
      rw [readAt_rows64 _ _ (k0_off4_eq k), View.readAt_full, View.readAt_full]
      unfold ropeK
      rw [hy, ← readAt_row1 arg12.view X12 (k0_off3_eq k) (Gen.k0_off3_inb k), ← readAt_row1 arg13.view X13 (k0_off3_eq k) (Gen.k0_off3_inb k)]
      rfl

end Cert.KernelIdeal.Ret
end
-- ==== Proof.Ret.Loop2.lean ====
/-
  The first half of the two sweeps: trip `k` computes the forward part of chunk `k` and the backward part of chunk `15 - k`.
-/
module

public import proofs.«01_k».proof.Proof.Ret.Chunks

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pointwise

section Step

variable {κ : Kind} {sp9 sp18 sp19 sp22 sp24 sp25 : Space} (v9 : View sig κ sp9 S1x4096x512 .bf16) (v18 : View sig κ sp18 S4096x256 .bf16)
  (v19 : View sig κ sp19 S4096x256 .bf16) (v22 : View sig κ sp22 S4096x512 .f32) (v24 : View sig κ sp24 S256x512 .f32) (v25 : View sig κ sp25 S256x512 .f32)
  (T : Tab F) (s0 b0 : Vec F S256x512 .f32) (X9 : v9.ty.Contents (Elt F)) (X18 : v18.ty.Contents (Elt F)) (X19 : v19.ty.Contents (Elt F))
  (f22 : v22.ty.Contents (Elt F)) (f24 : v24.ty.Contents (Elt F)) (f25 : v25.ty.Contents (Elt F)) (k : Fin k0_t2_loop.trips)

/-- The forward state after trip `k`. -/
theorem sf_step (h24 : v24.read (Elt F) f24 = SF T (v19.read (Elt F) X19) (v9.read (Elt F) X9) s0 k.val) :
    v24.read (Elt F) (v24.writes (Elt F) f24 [⟨Rect.unit (s := S256x512) ![0, 0] S256x512.size inb_S256x512_S256x512_0_0,
      k0_pay13 T.kf T.cf (v19.readAt (Elt F) (Rect.unit (s := S4096x256) (k0_off7 k) S256x256.size (Gen.k0_off7_inb k)).toLoadRect X19)
        (v9.readAt (Elt F) (Rect.unit (s := S1x4096x512) (k0_off8 k) S1x256x512.size (Gen.k0_off8_inb k)).toLoadRect X9)
        (v24.readAt (Elt F) (Rect.unit (s := S256x512) ![0, 0] S256x512.size inb_S256x512_S256x512_0_0).toLoadRect f24)⟩])
      = SF T (v19.read (Elt F) X19) (v9.read (Elt F) X9) s0 (k.val + 1) := by
  rw [View.read_writes_full, readAt_rowsQ _ _ (k0_off7_eq k), readAt_rowsV _ _ (k0_off8_eq k), View.readAt_full, h24]
  rfl

/-- The backward state after trip `k`. -/
theorem sb_step (h25 : v25.read (Elt F) f25 = SB T (v19.read (Elt F) X19) (v9.read (Elt F) X9) b0 k.val) :
    v25.read (Elt F) (v25.writes (Elt F) f25 [⟨Rect.unit (s := S256x512) ![0, 0] S256x512.size inb_S256x512_S256x512_0_0,
      k0_pay2 T.kb T.cb (v19.readAt (Elt F) (Rect.unit (s := S4096x256) (k0_off9 k) S256x256.size (Gen.k0_off9_inb k)).toLoadRect X19)
        (v9.readAt (Elt F) (Rect.unit (s := S1x4096x512) (k0_off10 k) S1x256x512.size (Gen.k0_off10_inb k)).toLoadRect X9)
        (v25.readAt (Elt F) (Rect.unit (s := S256x512) ![0, 0] S256x512.size inb_S256x512_S256x512_0_0).toLoadRect f25)⟩])
      = SB T (v19.read (Elt F) X19) (v9.read (Elt F) X9) b0 (k.val + 1) := by
  rw [View.read_writes_full, readAt_rowsQ _ _ (k0_off9_eq k), readAt_rowsV _ _ (k0_off10_eq k), View.readAt_full, h25]
  rfl

/-- The partial results after trip `k`. -/
theorem ol_step (hk : k.val < 8)
    (h22 : ∀ y : S4096x512.Idx, ((y 0).val < 256 * k.val ∨ 4096 ≤ (y 0).val + 256 * k.val) →
      v22.read (Elt F) f22 y = OL T (v18.read (Elt F) X18) (v19.read (Elt F) X19) (v9.read (Elt F) X9) s0 b0 y)
    (h24 : v24.read (Elt F) f24 = SF T (v19.read (Elt F) X19) (v9.read (Elt F) X9) s0 k.val)
    (h25 : v25.read (Elt F) f25 = SB T (v19.read (Elt F) X19) (v9.read (Elt F) X9) b0 k.val) :
    ∀ y : S4096x512.Idx, ((y 0).val < 256 * (k.val + 1) ∨ 4096 ≤ (y 0).val + 256 * (k.val + 1)) →
    v22.read (Elt F) (v22.writes (Elt F) f22 [⟨Rect.unit (s := S4096x512) (k0_off12 k) S256x512.size (Gen.k0_off12_inb k),
      k0_pay4 T.qb (v18.readAt (Elt F) (Rect.unit (s := S4096x256) (k0_off9 k) S256x256.size (Gen.k0_off9_inb k)).toLoadRect X18)
        (v25.readAt (Elt F) (Rect.unit (s := S256x512) ![0, 0] S256x512.size inb_S256x512_S256x512_0_0).toLoadRect f25)⟩,
      ⟨Rect.unit (s := S4096x512) (k0_off11 k) S256x512.size (Gen.k0_off11_inb k),
      k0_pay3 (k0_pay12 T.qf T.m (v18.readAt (Elt F) (Rect.unit (s := S4096x256) (k0_off7 k) S256x256.size (Gen.k0_off7_inb k)).toLoadRect X18)
        (v19.readAt (Elt F) (Rect.unit (s := S4096x256) (k0_off7 k) S256x256.size (Gen.k0_off7_inb k)).toLoadRect X19)
        (v9.readAt (Elt F) (Rect.unit (s := S1x4096x512) (k0_off8 k) S1x256x512.size (Gen.k0_off8_inb k)).toLoadRect X9)
        (v24.readAt (Elt F) (Rect.unit (s := S256x512) ![0, 0] S256x512.size inb_S256x512_S256x512_0_0).toLoadRect f24))⟩]) y
      = OL T (v18.read (Elt F) X18) (v19.read (Elt F) X19) (v9.read (Elt F) X9) s0 b0 y := by
  intro y hy
  have hy0 : (y 0).val < 4096 := (y 0).isLt
  rw [readAt_rowsQ _ _ (k0_off7_eq k), readAt_rowsQ _ _ (k0_off7_eq k), readAt_rowsQ _ _ (k0_off9_eq k), readAt_rowsV _ _ (k0_off8_eq k), View.readAt_full, View.readAt_full, h24, h25]
  by_cases hb : 3840 - 256 * k.val ≤ (y 0).val ∧ (y 0).val < 3840 - 256 * k.val + 256
  · have hd : (y 0).val / 256 = 15 - k.val := by omega
    rw [View.read_writes_cons_unit_of_mem (size := S256x512.size) v22 f22 _ _ _ y (ix2 ⟨(y 0).val % 256, Nat.mod_lt _ (by decide)⟩ (y 1) : S256x512.Idx) (k0_off12_eq k)
      (fun a => by
        match a with
        | ⟨0, _⟩ => show (y 0).val = 3840 - 256 * k.val + (y 0).val % 256; omega
        | ⟨1, _⟩ => show (y 1).val = 0 + (y 1).val; omega)]
    unfold OL
    rw [if_neg (by omega), hd, show 15 - (15 - k.val) = k.val by omega]
    rfl
  · rw [View.read_writes_cons_unit_of_not_mem (size := S256x512.size) v22 f22 _ _ _ y (k0_off12_eq k) (0 : Fin 2) (by
      show (y 0).val < 3840 - 256 * k.val ∨ 3840 - 256 * k.val + 256 ≤ (y 0).val
      omega)]
    by_cases hf : 256 * k.val ≤ (y 0).val ∧ (y 0).val < 256 * k.val + 256
    · have hd : (y 0).val / 256 = k.val := by omega
      rw [View.read_writes_cons_unit_of_mem (size := S256x512.size) v22 f22 _ _ _ y (ix2 ⟨(y 0).val % 256, Nat.mod_lt _ (by decide)⟩ (y 1) : S256x512.Idx) (k0_off11_eq k)
        (fun a => by
          match a with
          | ⟨0, _⟩ => show (y 0).val = 256 * k.val + (y 0).val % 256; omega
          | ⟨1, _⟩ => show (y 1).val = 0 + (y 1).val; omega)]
      unfold OL
      rw [if_pos (by omega), hd]
      rfl
    · rw [View.read_writes_cons_unit_of_not_mem (size := S256x512.size) v22 f22 _ _ _ y (k0_off11_eq k) (0 : Fin 2) (by
        show (y 0).val < 256 * k.val ∨ 256 * k.val + 256 ≤ (y 0).val
        omega), View.writes_nil]
      exact h22 y (by omega)

end Step

variable (𝒱 : Variants) (c : Dev nD) (bd : Option 𝒱.V) (E : Set ℕ) (i : grid0.Coords) (arg2 : Memref sig .tc .smem S2x4 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x4096x512 .bf16) (harg9 : arg9.IsWhole) (arg10 : Memref sig .tc .vmem S1x4096x512 .bf16) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S1x256x512 .bf16) (harg16 : arg16.IsWhole) (arg17 : Memref sig .tc .vmem S1x4096x512 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S4096x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .f32) (harg25 : arg25.IsWhole)

/-- Before trip `k` of the first half: the states, and the rows written so far. -/
def inv2 (T : Tab F) (s0 b0 : Vec F S256x512 .f32) (X9 : BufTy.Contents (Elt F) arg9.view.ty) (X18 : BufTy.Contents (Elt F) arg18.view.ty)
    (X19 : BufTy.Contents (Elt F) arg19.view.ty) (k : ℕ) : sProp 𝕄G :=
  iprop((arg9.view.loc (c : Thread nD τ) ↦[arg9.view.set]{fullShare} X9) ∗ (arg18.view.loc (c : Thread nD τ) ↦[arg18.view.set]{fullShare} X18) ∗ (arg19.view.loc (c : Thread nD τ) ↦[arg19.view.set]{fullShare} X19)
    ∗ (∃ f22, (arg22.view.loc (c : Thread nD τ) ↦[arg22.view.set]{fullShare} f22) ∗ ⌜∀ y : S4096x512.Idx, ((y 0).val < 256 * k ∨ 4096 ≤ (y 0).val + 256 * k) →
        arg22.view.read (Elt F) f22 y = OL T (arg18.view.read (Elt F) X18) (arg19.view.read (Elt F) X19) (arg9.view.read (Elt F) X9) s0 b0 y⌝)
    ∗ (∃ f24, (arg24.view.loc (c : Thread nD τ) ↦[arg24.view.set]{fullShare} f24) ∗ ⌜arg24.view.read (Elt F) f24 = SF T (arg19.view.read (Elt F) X19) (arg9.view.read (Elt F) X9) s0 k⌝)
    ∗ (∃ f25, (arg25.view.loc (c : Thread nD τ) ↦[arg25.view.set]{fullShare} f25) ∗ ⌜arg25.view.read (Elt F) f25 = SB T (arg19.view.read (Elt F) X19) (arg9.view.read (Elt F) X9) b0 k⌝))

/-- Loop 2 keeps its invariant. -/
@[instance_reducible]
def loop2 (T : Tab F) (s0 b0 : Vec F S256x512 .f32) (X9 : BufTy.Contents (Elt F) arg9.view.ty) (X18 : BufTy.Contents (Elt F) arg18.view.ty) (X19 : BufTy.Contents (Elt F) arg19.view.ty) :
    LoopInv (M := 𝕄G) Idealize.ShloMosaic.frame (wpE (defs₀ (F := F)) 𝒱 (c : Thread nD τ) bd) E
      k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 T.qf T.kf T.qb T.kb T.cf T.cb T.m) where
  inv k _ := inv2 (F := F) c arg9 arg18 arg19 arg22 arg24 arg25 T s0 b0 X9 X18 X19 k
  step k acc := by
    have hk : k.val < 8 := Nat.lt_of_lt_of_le k.isLt k0_t2_abs.2.1
    unfold inv2
    iintro ⟨H9, H18, H19, ⟨%f22, H22, %h22⟩, ⟨%f24, H24, %h24⟩, ⟨%f25, H25, %h25⟩⟩
    unfold k0_t2_body
    sl_exec
    sl_step
    isplitl [H9]; · iexact H9
    isplitl [H18]; · iexact H18
    isplitl [H19]; · iexact H19
    isplitl [H22]
    · iexists _; isplitl [H22]; · iexact H22
      ipureintro
      exact ol_step arg9.view arg18.view arg19.view arg22.view arg24.view arg25.view T s0 b0 X9 X18 X19 f22 f24 f25 k hk h22 h24 h25
    isplitl [H24]
    · iexists _; isplitl [H24]; · iexact H24
      ipureintro
      exact sf_step arg9.view arg19.view arg24.view T s0 X9 X19 f24 k h24
    · iexists _; isplitl [H25]; · iexact H25
      ipureintro
      exact sb_step arg9.view arg19.view arg25.view T b0 X9 X19 f25 k h25

end Cert.KernelIdeal.Ret
end
-- ==== Proof.Ret.Loop3.lean ====
/-
  The second half of the two sweeps: trip `k` finishes chunk `8 + k` by its forward part and chunk `7 - k` by its backward part.
-/
module

public import proofs.«01_k».proof.Proof.Ret.Chunks

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pointwise

section Step

variable {κ : Kind} {sp9 sp10 sp11 sp17 sp18 sp19 sp22 sp24 sp25 : Space} (v9 : View sig κ sp9 S1x4096x512 .bf16) (v10 : View sig κ sp10 S1x4096x512 .bf16)
  (v11 : View sig κ sp11 S1x512 .f32) (v17 : View sig κ sp17 S1x4096x512 .bf16) (v18 : View sig κ sp18 S4096x256 .bf16)
  (v19 : View sig κ sp19 S4096x256 .bf16) (v22 : View sig κ sp22 S4096x512 .f32) (v24 : View sig κ sp24 S256x512 .f32) (v25 : View sig κ sp25 S256x512 .f32)
  (T : Tab F) (s0 b0 : Vec F S256x512 .f32) (X9 : v9.ty.Contents (Elt F)) (X10 : v10.ty.Contents (Elt F)) (X11 : v11.ty.Contents (Elt F))
  (X18 : v18.ty.Contents (Elt F)) (X19 : v19.ty.Contents (Elt F)) (X22 : v22.ty.Contents (Elt F))
  (f17 : v17.ty.Contents (Elt F)) (f24 : v24.ty.Contents (Elt F)) (f25 : v25.ty.Contents (Elt F)) (k : Fin k0_t3_loop.trips)

/-- The forward state after trip `k` of the second half. -/
theorem sf_step3 (h24 : v24.read (Elt F) f24 = SF T (v19.read (Elt F) X19) (v9.read (Elt F) X9) s0 (8 + k.val)) :
    v24.read (Elt F) (v24.writes (Elt F) f24 [⟨Rect.unit (s := S256x512) ![0, 0] S256x512.size inb_S256x512_S256x512_0_0,
      k0_pay16 T.kf T.cf (v19.readAt (Elt F) (Rect.unit (s := S4096x256) (k0_off13 k) S256x256.size (Gen.k0_off13_inb k)).toLoadRect X19)
        (v9.readAt (Elt F) (Rect.unit (s := S1x4096x512) (k0_off14 k) S1x256x512.size (Gen.k0_off14_inb k)).toLoadRect X9)
        (v24.readAt (Elt F) (Rect.unit (s := S256x512) ![0, 0] S256x512.size inb_S256x512_S256x512_0_0).toLoadRect f24)⟩])
      = SF T (v19.read (Elt F) X19) (v9.read (Elt F) X9) s0 (8 + (k.val + 1)) := by
  rw [View.read_writes_full, readAt_rowsQ _ _ (k0_off13_eq k), readAt_rowsV _ _ (k0_off14_eq k), View.readAt_full, h24,
    show 256 * k.val + 2048 = 256 * (8 + k.val) by omega]
  rfl

/-- The backward state after trip `k` of the second half. -/
theorem sb_step3 (h25 : v25.read (Elt F) f25 = SB T (v19.read (Elt F) X19) (v9.read (Elt F) X9) b0 (8 + k.val)) :
    v25.read (Elt F) (v25.writes (Elt F) f25 [⟨Rect.unit (s := S256x512) ![0, 0] S256x512.size inb_S256x512_S256x512_0_0,
      k0_pay18 T.kb T.cb (v19.readAt (Elt F) (Rect.unit (s := S4096x256) (k0_off15 k) S256x256.size (Gen.k0_off15_inb k)).toLoadRect X19)
        (v9.readAt (Elt F) (Rect.unit (s := S1x4096x512) (k0_off16 k) S1x256x512.size (Gen.k0_off16_inb k)).toLoadRect X9)
        (v25.readAt (Elt F) (Rect.unit (s := S256x512) ![0, 0] S256x512.size inb_S256x512_S256x512_0_0).toLoadRect f25)⟩])
      = SB T (v19.read (Elt F) X19) (v9.read (Elt F) X9) b0 (8 + (k.val + 1)) := by
  rw [View.read_writes_full, readAt_rowsQ _ _ (k0_off15_eq k), readAt_rowsV _ _ (k0_off16_eq k), View.readAt_full, h25,
    show 1792 - 256 * k.val = 3840 - 256 * (8 + k.val) by omega]
  rfl

/-- The finished rows after trip `k` of the second half. -/
theorem yl_step (hk : k.val < 8)
    (h17 : ∀ y : S1x4096x512.Idx, (2048 ≤ (y 1).val + 256 * k.val ∧ (y 1).val < 2048 + 256 * k.val) →
      v17.read (Elt F) f17 y = YL T (v18.read (Elt F) X18) (v19.read (Elt F) X19) (v9.read (Elt F) X9) (v10.read (Elt F) X10) (v11.read (Elt F) X11) s0 b0 y)
    (h22 : v22.read (Elt F) X22 = OL T (v18.read (Elt F) X18) (v19.read (Elt F) X19) (v9.read (Elt F) X9) s0 b0)
    (h24 : v24.read (Elt F) f24 = SF T (v19.read (Elt F) X19) (v9.read (Elt F) X9) s0 (8 + k.val))
    (h25 : v25.read (Elt F) f25 = SB T (v19.read (Elt F) X19) (v9.read (Elt F) X9) b0 (8 + k.val)) :
    ∀ y : S1x4096x512.Idx, (2048 ≤ (y 1).val + 256 * (k.val + 1) ∧ (y 1).val < 2048 + 256 * (k.val + 1)) →
    v17.read (Elt F) (v17.writes (Elt F) f17 [⟨Rect.unit (s := S1x4096x512) (k0_off16 k) S1x256x512.size (Gen.k0_off16_inb k),
      k0_pay5 (k0_pay22 (k0_pay17 T.qb (v18.readAt (Elt F) (Rect.unit (s := S4096x256) (k0_off15 k) S256x256.size (Gen.k0_off15_inb k)).toLoadRect X18)
          (v25.readAt (Elt F) (Rect.unit (s := S256x512) ![0, 0] S256x512.size inb_S256x512_S256x512_0_0).toLoadRect f25))
          (v22.readAt (Elt F) (Rect.unit (s := S4096x512) (k0_off18 k) S256x512.size (Gen.k0_off18_inb k)).toLoadRect X22)
          (v11.readAt (Elt F) (Rect.unit (s := S1x512) ![0, 0] S1x512.size inb_S1x512_S1x512_0_0).toLoadRect X11))
        (v10.readAt (Elt F) (Rect.unit (s := S1x4096x512) (k0_off16 k) S1x256x512.size (Gen.k0_off16_inb k)).toLoadRect X10)⟩,
      ⟨Rect.unit (s := S1x4096x512) (k0_off14 k) S1x256x512.size (Gen.k0_off14_inb k),
      k0_pay21 (k0_pay19 (k0_pay15 T.qf T.m (v18.readAt (Elt F) (Rect.unit (s := S4096x256) (k0_off13 k) S256x256.size (Gen.k0_off13_inb k)).toLoadRect X18)
        (v19.readAt (Elt F) (Rect.unit (s := S4096x256) (k0_off13 k) S256x256.size (Gen.k0_off13_inb k)).toLoadRect X19)
        (v9.readAt (Elt F) (Rect.unit (s := S1x4096x512) (k0_off14 k) S1x256x512.size (Gen.k0_off14_inb k)).toLoadRect X9)
        (v24.readAt (Elt F) (Rect.unit (s := S256x512) ![0, 0] S256x512.size inb_S256x512_S256x512_0_0).toLoadRect f24))
          (v22.readAt (Elt F) (Rect.unit (s := S4096x512) (k0_off17 k) S256x512.size (Gen.k0_off17_inb k)).toLoadRect X22))
        (k0_pay20 (v11.readAt (Elt F) (Rect.unit (s := S1x512) ![0, 0] S1x512.size inb_S1x512_S1x512_0_0).toLoadRect X11))
        (v10.readAt (Elt F) (Rect.unit (s := S1x4096x512) (k0_off14 k) S1x256x512.size (Gen.k0_off14_inb k)).toLoadRect X10)⟩]) y
      = YL T (v18.read (Elt F) X18) (v19.read (Elt F) X19) (v9.read (Elt F) X9) (v10.read (Elt F) X10) (v11.read (Elt F) X11) s0 b0 y := by
  intro y hy
  have hy0 : (y 1).val < 4096 := (y 1).isLt
  have hz : (y 0).val < 1 := (y 0).isLt
  rw [readAt_rowsQ _ _ (k0_off13_eq k), readAt_rowsQ _ _ (k0_off13_eq k), readAt_rowsQ _ _ (k0_off15_eq k), readAt_rowsV _ _ (k0_off14_eq k),
    readAt_rowsV _ _ (k0_off14_eq k), readAt_rowsV _ _ (k0_off16_eq k), readAt_rowsO _ _ (k0_off17_eq k), readAt_rowsO _ _ (k0_off18_eq k),
    View.readAt_full, View.readAt_full, View.readAt_full, h22, h24, h25]
  by_cases hb : 1792 - 256 * k.val ≤ (y 1).val ∧ (y 1).val < 1792 - 256 * k.val + 256
  · have hd : (y 1).val / 256 = 7 - k.val := by omega
    rw [View.read_writes_cons_unit_of_mem (size := S1x256x512.size) v17 f17 _ _ _ y
      (ix3 0 ⟨(y 1).val % 256, Nat.mod_lt _ (by decide)⟩ (y 2) : S1x256x512.Idx) (k0_off16_eq k)
      (fun a => by
        match a with
        | ⟨0, _⟩ => show (y 0).val = 0 + 0; omega
        | ⟨1, _⟩ => show (y 1).val = 1792 - 256 * k.val + (y 1).val % 256; omega
        | ⟨2, _⟩ => show (y 2).val = 0 + (y 2).val; omega)]
    unfold YL
    rw [if_neg (by omega), hd, show 7 - (7 - k.val) = k.val by omega]
    unfold YB OB
    rw [show 3840 - 256 * (8 + k.val) = 1792 - 256 * k.val by omega]
  · rw [View.read_writes_cons_unit_of_not_mem (size := S1x256x512.size) v17 f17 _ _ _ y (k0_off16_eq k) (1 : Fin 3) (by
      show (y 1).val < 1792 - 256 * k.val ∨ 1792 - 256 * k.val + 256 ≤ (y 1).val
      omega)]
    by_cases hf : 256 * k.val + 2048 ≤ (y 1).val ∧ (y 1).val < 256 * k.val + 2048 + 256
    · have hd : (y 1).val / 256 = k.val + 8 := by omega
      rw [View.read_writes_cons_unit_of_mem (size := S1x256x512.size) v17 f17 _ _ _ y
        (ix3 0 ⟨(y 1).val % 256, Nat.mod_lt _ (by decide)⟩ (y 2) : S1x256x512.Idx) (k0_off14_eq k)
        (fun a => by
          match a with
          | ⟨0, _⟩ => show (y 0).val = 0 + 0; omega
          | ⟨1, _⟩ => show (y 1).val = 256 * k.val + 2048 + (y 1).val % 256; omega
          | ⟨2, _⟩ => show (y 2).val = 0 + (y 2).val; omega)]
      unfold YL
      rw [if_pos (by omega), hd, show k.val + 8 - 8 = k.val by omega]
      unfold YF OF
      rw [show 256 * (8 + k.val) = 256 * k.val + 2048 by omega]
      rfl
    · rw [View.read_writes_cons_unit_of_not_mem (size := S1x256x512.size) v17 f17 _ _ _ y (k0_off14_eq k) (1 : Fin 3) (by
        show (y 1).val < 256 * k.val + 2048 ∨ 256 * k.val + 2048 + 256 ≤ (y 1).val
        omega), View.writes_nil]
      exact h17 y (by omega)

end Step

variable (𝒱 : Variants) (c : Dev nD) (bd : Option 𝒱.V) (E : Set ℕ) (i : grid0.Coords) (arg2 : Memref sig .tc .smem S2x4 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x4096x512 .bf16) (harg9 : arg9.IsWhole) (arg10 : Memref sig .tc .vmem S1x4096x512 .bf16) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S1x256x512 .bf16) (harg16 : arg16.IsWhole) (arg17 : Memref sig .tc .vmem S1x4096x512 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S4096x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .f32) (harg25 : arg25.IsWhole)

/-- Before trip `k` of the second half: the states, and the rows finished so far. -/
def inv3 (T : Tab F) (s0 b0 : Vec F S256x512 .f32) (X9 : BufTy.Contents (Elt F) arg9.view.ty) (X10 : BufTy.Contents (Elt F) arg10.view.ty) (X11 : BufTy.Contents (Elt F) arg11.view.ty) (X18 : BufTy.Contents (Elt F) arg18.view.ty) (X19 : BufTy.Contents (Elt F) arg19.view.ty) (X22 : BufTy.Contents (Elt F) arg22.view.ty) (k : ℕ) : sProp 𝕄G :=
  iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg18.view.loc (c : Thread nD τ) ↦[arg18.view.set]{fullShare} X18) ∗ (arg19.view.loc (c : Thread nD τ) ↦[arg19.view.set]{fullShare} X19) ∗ (arg22.view.loc (c : Thread nD τ) ↦[arg22.view.set]{fullShare} X22)
    ∗ (∃ f17, (arg17.view.loc (c : Thread nD τ) ↦[arg17.view.set]{fullShare} f17) ∗ ⌜∀ y : S1x4096x512.Idx, (2048 ≤ (y 1).val + 256 * k ∧ (y 1).val < 2048 + 256 * k) →
        arg17.view.read (Elt F) f17 y = YL T (arg18.view.read (Elt F) X18) (arg19.view.read (Elt F) X19) (arg9.view.read (Elt F) X9) (arg10.view.read (Elt F) X10) (arg11.view.read (Elt F) X11) s0 b0 y⌝)
    ∗ (∃ f24, (arg24.view.loc (c : Thread nD τ) ↦[arg24.view.set]{fullShare} f24) ∗ ⌜arg24.view.read (Elt F) f24 = SF T (arg19.view.read (Elt F) X19) (arg9.view.read (Elt F) X9) s0 (8 + k)⌝)
    ∗ (∃ f25, (arg25.view.loc (c : Thread nD τ) ↦[arg25.view.set]{fullShare} f25) ∗ ⌜arg25.view.read (Elt F) f25 = SB T (arg19.view.read (Elt F) X19) (arg9.view.read (Elt F) X9) b0 (8 + k)⌝))

/-- Loop 3 keeps its invariant. -/
@[instance_reducible]
def loop3 (T : Tab F) (s0 b0 : Vec F S256x512 .f32) (X9 : BufTy.Contents (Elt F) arg9.view.ty) (X10 : BufTy.Contents (Elt F) arg10.view.ty) (X11 : BufTy.Contents (Elt F) arg11.view.ty) (X18 : BufTy.Contents (Elt F) arg18.view.ty) (X19 : BufTy.Contents (Elt F) arg19.view.ty) (X22 : BufTy.Contents (Elt F) arg22.view.ty) (hO : arg22.view.read (Elt F) X22 = OL T (arg18.view.read (Elt F) X18) (arg19.view.read (Elt F) X19) (arg9.view.read (Elt F) X9) s0 b0) :
    LoopInv (M := 𝕄G) Idealize.ShloMosaic.frame (wpE (defs₀ (F := F)) 𝒱 (c : Thread nD τ) bd) E
      k0_t3_loop.lb k0_t3_loop.ub k0_t3_loop.st k0_t3_ok () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 T.qf T.kf T.qb T.kb T.cf T.cb T.m) where
  inv k _ := inv3 (F := F) c arg9 arg10 arg11 arg17 arg18 arg19 arg22 arg24 arg25 T s0 b0 X9 X10 X11 X18 X19 X22 k
  step k acc := by
    have hk : k.val < 8 := Nat.lt_of_lt_of_le k.isLt k0_t3_abs.2.1
    unfold inv3
    iintro ⟨H9, H10, H11, H18, H19, H22, ⟨%f17, H17, %h17⟩, ⟨%f24, H24, %h24⟩, ⟨%f25, H25, %h25⟩⟩
    unfold k0_t3_body
    sl_exec
    sl_step
    isplitl [H9]; · iexact H9
    isplitl [H10]; · iexact H10
    isplitl [H11]; · iexact H11
    isplitl [H18]; · iexact H18
    isplitl [H19]; · iexact H19
    isplitl [H22]; · iexact H22
    isplitl [H17]
    · iexists _; isplitl [H17]; · iexact H17
      ipureintro
      exact yl_step arg9.view arg10.view arg11.view arg17.view arg18.view arg19.view arg22.view arg24.view arg25.view T s0 b0 X9 X10 X11 X18 X19 X22 f17 f24 f25 k hk h17 hO h24 h25
    isplitl [H24]
    · iexists _; isplitl [H24]; · iexact H24
      ipureintro
      exact sf_step3 arg9.view arg19.view arg24.view T s0 X9 X19 f24 k h24
    · iexists _; isplitl [H25]; · iexact H25
      ipureintro
      exact sb_step3 arg9.view arg19.view arg25.view T b0 X9 X19 f25 k h25

end Cert.KernelIdeal.Ret
end
-- ==== Proof.Ret.Body.lean ====
/-
  One step of the grid.
-/
module

public import proofs.«01_k».proof.Proof.Ret.Loop1
public import proofs.«01_k».proof.Proof.Ret.Loop2
public import proofs.«01_k».proof.Proof.Ret.Loop3

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pointwise

/-- One head's tables from the logarithms of its two decays. -/
def tabOf (lf lb : Elt F .f32) : Tab F where
  qf := k0_pay24 lf
  kf := k0_pay25 lf
  qb := k0_pay26 lb
  kb := k0_pay27 lb
  cf := k0_pay29 lf
  cb := k0_pay30 lb
  m := k0_pay35 lb (k0_pay31 (F := F)) (k0_pay32 lf) (k0_pay33 (F := F)) (k0_pay34 (F := F))

/-- The tables of head `h`. -/
def tabAt (lg : Vec F S2x4 .f32) (h : Fin 4) : Tab F := tabOf (lg (ix2 0 h)) (lg (ix2 1 h))

/-- The forward state after the context. -/
def sf0 (T : Tab F) (kc : Vec F S1x256x256 .bf16) (vc : Vec F S1x256x512 .bf16) : Vec F S256x512 .f32 :=
  k0_pay45 T.kf T.cf (k0_pay40 kc) vc (k0_pay41 (F := F))

/-- The backward state after the context. -/
def sb0 (T : Tab F) (kc : Vec F S1x256x256 .bf16) (vc : Vec F S1x256x512 .bf16) : Vec F S256x512 .f32 :=
  k0_pay47 T.kb T.cb (k0_pay40 kc) (k0_pay46 vc) (k0_pay42 (F := F))

/-- The gated, normalised result over the context. -/
def YC (T : Tab F) (qc kc : Vec F S1x256x256 .bf16) (vc gc : Vec F S1x256x512 .bf16) (gn : Vec F S1x512 .f32) : Vec F S1x256x512 .bf16 :=
  k0_pay1 (k0_pay48 T.qb (k0_pay44 T.qf T.m (k0_pay39 qc) (k0_pay40 kc) vc (k0_pay41 (F := F))) (k0_pay39 qc) (k0_pay42 (F := F)) gn)
    (k0_pay49 gc) (Scalar.ofBits .f32 0x00000000#32 : F .f32)

section Lg

variable {κ : Kind} {sp : Space}

/-- The logarithm of the forward decay as the step reads it. -/
def lgF (v : View sig κ sp S2x4 .f32) (f : v.ty.Contents (Elt F)) (i : grid0.Coords) : Elt F .f32 :=
  v.readAt (Elt F) (Rect.unit (s := S2x4) (k0_off1 i) S1x1.size (Gen.k0_off1_inb i)).toLoadRect f (Shape.Idx.first (show 0 < S1x1.numel by decide))

/-- The logarithm of the backward decay as the step reads it. -/
def lgB (v : View sig κ sp S2x4 .f32) (f : v.ty.Contents (Elt F)) (i : grid0.Coords) : Elt F .f32 :=
  v.readAt (Elt F) (Rect.unit (s := S2x4) (k0_off2 i) S1x1.size (Gen.k0_off2_inb i)).toLoadRect f (Shape.Idx.first (show 0 < S1x1.numel by decide))

theorem lgF_eq (v : View sig κ sp S2x4 .f32) (f : v.ty.Contents (Elt F)) (i : grid0.Coords) :
    lgF v f i = v.read (Elt F) f (ix2 0 (i 1)) := by
  refine congrArg (v.read (Elt F) f) (funext fun a => Fin.ext ?_)
  have h := congrFun (k0_off1_eq i)
  match a with
  | ⟨0, _⟩ => show k0_off1 i 0 + 1 * 0 = 0; rw [h]; rfl
  | ⟨1, _⟩ => show k0_off1 i 1 + 1 * 0 = (i 1).val; rw [h]; rfl

theorem lgB_eq (v : View sig κ sp S2x4 .f32) (f : v.ty.Contents (Elt F)) (i : grid0.Coords) :
    lgB v f i = v.read (Elt F) f (ix2 1 (i 1)) := by
  refine congrArg (v.read (Elt F) f) (funext fun a => Fin.ext ?_)
  have h := congrFun (k0_off2_eq i)
  match a with
  | ⟨0, _⟩ => show k0_off2 i 0 + 1 * 0 = 1; rw [h]; rfl
  | ⟨1, _⟩ => show k0_off2 i 1 + 1 * 0 = (i 1).val; rw [h]; rfl

end Lg

/-- A buffer held at some contents, whatever they are. -/
theorem held (c : Dev nD) {sp : Space} {s : Shape} {e : EltTy} (a : Memref sig .tc sp s e) (f : a.view.ty.Contents (Elt F)) :
    (iprop(a.view.loc (c : Thread nD τ) ↦[a.view.set]{fullShare} f) : sProp 𝕄G)
      ⊢ iprop(∃ d, ∃ f', ⌜a.view.read (Elt F) f' = d⌝ ∗ (a.view.loc (c : Thread nD τ) ↦[a.view.set]{fullShare} f')) := by
  iintro H
  iexists (a.view.read (Elt F) f)
  iexists f
  isplitr
  · ipureintro; rfl
  iexact H

/-- One step: from the input blocks to the two output blocks. -/
theorem run (c : Dev nD) (i : grid0.Coords) (arg2 : Memref sig .tc .smem S2x4 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x4096x512 .bf16) (harg9 : arg9.IsWhole) (arg10 : Memref sig .tc .vmem S1x4096x512 .bf16) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S1x256x512 .bf16) (harg16 : arg16.IsWhole) (arg17 : Memref sig .tc .vmem S1x4096x512 .bf16) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S4096x512 .f32) (harg22 : arg22.IsWhole) (arg23 : Memref sig .tc .vmem S256x512 .f32) (harg23 : arg23.IsWhole) (arg24 : Memref sig .tc .vmem S256x512 .f32) (harg24 : arg24.IsWhole) (arg25 : Memref sig .tc .vmem S256x512 .f32) (harg25 : arg25.IsWhole) (x0 : Vec F S2x4 .f32) (x1 : Vec F S1x256x256 .bf16) (x2 : Vec F S1x256x256 .bf16) (x3 : Vec F S1x256x512 .bf16) (x4 : Vec F S1x256x512 .bf16) (x5 : Vec F S1x4096x256 .bf16) (x6 : Vec F S1x4096x256 .bf16) (x7 : Vec F S1x4096x512 .bf16) (x8 : Vec F S1x4096x512 .bf16) (x9 : Vec F S1x512 .f32) (x10 : Vec F S64x128 .f32) (x11 : Vec F S64x128 .f32) (x12 : Vec F S64x128 .f32) (x13 : Vec F S64x128 .f32) (E : Set ℕ) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (YC (tabAt x0 (i 1)) x1 x2 x3 x4 x9) ∗ owns (c : Thread nD τ) arg17 fullShare (YL (tabAt x0 (i 1)) (ropeQ x5 x10 x11 x12 x13) (ropeK x6 x10 x11 x12 x13) x7 x8 x9 (sf0 (tabAt x0 (i 1)) x2 x3) (sb0 (tabAt x0 (i 1)) x2 x3)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
    ⊢ wp frame (wpE (defs₀ (F := F)) Variants.none c none) E (cc0_retention_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_retention_scan_eq_skeleton]; unfold cc0_retention_scan_skel
  simp only [k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  have ht1 : k0_t1_loop.trips = 64 := by decide +kernel
  have ht2 : Scf.trips k0_t2_loop.lb k0_t2_loop.ub k0_t2_loop.st = 8 := by decide +kernel
  have ht3 : Scf.trips k0_t3_loop.lb k0_t3_loop.ub k0_t3_loop.st = 8 := by decide +kernel
  sl_exec
  sl_for (fun k _ => inv1 (F := F) c arg7 arg8 arg12 arg13 arg14 arg15 arg18 arg19 f7 f8 f12 f13 f14 f15 k) $$ [H7 H8 H12 H13 H14 H15 H18 H19]
  case region =>
    intro k acc
    exact (loop1 (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f7 f8 f12 f13 f14 f15 _ _ _ _ _).step k acc
  · unfold inv1
    isplitl [H7]; · iexact H7
    isplitl [H8]; · iexact H8
    isplitl [H12]; · iexact H12
    isplitl [H13]; · iexact H13
    isplitl [H14]; · iexact H14
    isplitl [H15]; · iexact H15
    isplitl [H18]
    · iexists f18; isplitl [H18]; · iexact H18
      ipureintro; intro y hy; omega
    · iexists f19; isplitl [H19]; · iexact H19
      ipureintro; intro y hy; omega
  unfold inv1
  iintro %u1 ⟨H7, H8, H12, H13, H14, H15, ⟨%g18, H18, %h18⟩, ⟨%g19, H19, %h19⟩⟩
  have e18 : arg18.view.read (Elt F) g18 = ropeQ x5 x10 x11 x12 x13 := by
    funext y
    rw [h18 y (by have := (y 0).isLt; change (y 0).val < 64 * k0_t1_loop.trips; rw [ht1]; exact this), hf7, hf12, hf13, hf14, hf15]
  have e19 : arg19.view.read (Elt F) g19 = ropeK x6 x10 x11 x12 x13 := by
    funext y
    rw [h19 y (by have := (y 0).isLt; change (y 0).val < 64 * k0_t1_loop.trips; rw [ht1]; exact this), hf8, hf12, hf13, hf14, hf15]
  clear h18 h19
  have eT : (tabOf (lgF arg2.view f2 i) (lgB arg2.view f2 i)) = tabAt x0 (i 1) := by
    unfold tabAt
    rw [lgF_eq, lgB_eq, hf2]
  sl_exec
  sl_for (fun k _ => inv2 (F := F) c arg9 arg18 arg19 arg22 arg24 arg25 (tabOf (lgF arg2.view f2 i) (lgB arg2.view f2 i)) (sf0 (tabOf (lgF arg2.view f2 i) (lgB arg2.view f2 i)) x2 x3) (sb0 (tabOf (lgF arg2.view f2 i) (lgB arg2.view f2 i)) x2 x3) f9 g18 g19 k) $$ [H9 H18 H19 H22 H24 H25]
  case region =>
    intro k acc
    exact (loop2 (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (tabOf (lgF arg2.view f2 i) (lgB arg2.view f2 i)) (sf0 (tabOf (lgF arg2.view f2 i) (lgB arg2.view f2 i)) x2 x3) (sb0 (tabOf (lgF arg2.view f2 i) (lgB arg2.view f2 i)) x2 x3) f9 g18 g19).step k acc
  · unfold inv2
    isplitl [H9]; · iexact H9
    isplitl [H18]; · iexact H18
    isplitl [H19]; · iexact H19
    isplitl [H22]
    · iexists f22; isplitl [H22]; · iexact H22
      ipureintro; intro y hy; have := (y 0).isLt; change (y 0).val < 4096 at this; omega
    isplitl [H24]
    · iexists _; isplitl [H24]; · iexact H24
      ipureintro
      sl_unfold_words
      refine (View.read_writes_full _ _ _ _ _).trans ?_
      rw [View.readCov_full, View.readCov_full, View.readAt_full, View.readAt_full, hf4, hf5]
      rfl
    · iexists _; isplitl [H25]; · iexact H25
      ipureintro
      sl_unfold_words
      refine (View.read_writes_full _ _ _ _ _).trans ?_
      rw [View.readCov_full, View.readCov_full, View.readAt_full, View.readAt_full, hf4, hf5]
      rfl
  unfold inv2
  iintro %u2 ⟨H9, H18, H19, ⟨%g22, H22, %h22⟩, ⟨%g24, H24, %h24⟩, ⟨%g25, H25, %h25⟩⟩
  have e22 : arg22.view.read (Elt F) g22 = OL (tabOf (lgF arg2.view f2 i) (lgB arg2.view f2 i)) (arg18.view.read (Elt F) g18) (arg19.view.read (Elt F) g19) (arg9.view.read (Elt F) f9) (sf0 (tabOf (lgF arg2.view f2 i) (lgB arg2.view f2 i)) x2 x3) (sb0 (tabOf (lgF arg2.view f2 i) (lgB arg2.view f2 i)) x2 x3) := by
    funext y
    have hy : (y 0).val < 4096 := (y 0).isLt
    exact h22 y (by rw [ht2]; omega)
  rw [ht2] at h24 h25
  sl_exec
  sl_for (fun k _ => inv3 (F := F) c arg9 arg10 arg11 arg17 arg18 arg19 arg22 arg24 arg25 (tabOf (lgF arg2.view f2 i) (lgB arg2.view f2 i)) (sf0 (tabOf (lgF arg2.view f2 i) (lgB arg2.view f2 i)) x2 x3) (sb0 (tabOf (lgF arg2.view f2 i) (lgB arg2.view f2 i)) x2 x3) f9 f10 f11 g18 g19 g22 k) $$ [H9 H10 H11 H17 H18 H19 H22 H24 H25]
  case region =>
    intro k acc
    exact (loop3 (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (tabOf (lgF arg2.view f2 i) (lgB arg2.view f2 i)) (sf0 (tabOf (lgF arg2.view f2 i) (lgB arg2.view f2 i)) x2 x3) (sb0 (tabOf (lgF arg2.view f2 i) (lgB arg2.view f2 i)) x2 x3) f9 f10 f11 g18 g19 g22 e22).step k acc
  · unfold inv3
    isplitl [H9]; · iexact H9
    isplitl [H10]; · iexact H10
    isplitl [H11]; · iexact H11
    isplitl [H18]; · iexact H18
    isplitl [H19]; · iexact H19
    isplitl [H22]; · iexact H22
    isplitl [H17]
    · iexists f17; isplitl [H17]; · iexact H17
      ipureintro; intro y hy; omega
    isplitl [H24]
    · iexists g24; isplitl [H24]; · iexact H24
      ipureintro; exact h24
    · iexists g25; isplitl [H25]; · iexact H25
      ipureintro; exact h25
  unfold inv3
  iintro %u3 ⟨H9, H10, H11, H18, H19, H22, ⟨%g17, H17, %h17⟩, ⟨%p24, H24, -⟩, ⟨%p25, H25, -⟩⟩
  have e17 : arg17.view.read (Elt F) g17 = (YL (tabAt x0 (i 1)) (ropeQ x5 x10 x11 x12 x13) (ropeK x6 x10 x11 x12 x13) x7 x8 x9 (sf0 (tabAt x0 (i 1)) x2 x3) (sb0 (tabAt x0 (i 1)) x2 x3)) := by
    funext y
    have hy : (y 1).val < 4096 := (y 1).isLt
    rw [h17 y (by rw [ht3]; omega), e18, e19, hf9, hf10, hf11, eT]
  clear h17 h22
  sl_step
  iapply Hk
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists f7; isplitr
    · ipureintro; exact hf7
    iexact H7
  isplitl [H8]
  · iexists f8; isplitr
    · ipureintro; exact hf8
    iexact H8
  isplitl [H9]
  · iexists f9; isplitr
    · ipureintro; exact hf9
    iexact H9
  isplitl [H10]
  · iexists f10; isplitr
    · ipureintro; exact hf10
    iexact H10
  isplitl [H11]
  · iexists f11; isplitr
    · ipureintro; exact hf11
    iexact H11
  isplitl [H12]
  · iexists f12; isplitr
    · ipureintro; exact hf12
    iexact H12
  isplitl [H13]
  · iexists f13; isplitr
    · ipureintro; exact hf13
    iexact H13
  isplitl [H14]
  · iexists f14; isplitr
    · ipureintro; exact hf14
    iexact H14
  isplitl [H15]
  · iexists f15; isplitr
    · ipureintro; exact hf15
    iexact H15
  isplitl [H16]
  · iexists _; isplitr
    rotate_left
    · iexact H16
    ipureintro
    sl_unfold_words
    refine (View.read_writes_full _ _ _ _ _).trans ?_
    rw [← eT]
    repeat rw [View.readCov_full]
    repeat rw [View.readAt_full]
    rw [hf3, hf4, hf5, hf6, hf11]
    rfl
  isplitl [H17]
  · iexists g17; isplitr
    · ipureintro; exact e17
    iexact H17
  isplitl [H18]; · iapply held c arg18; iexact H18
  isplitl [H19]; · iapply held c arg19; iexact H19
  isplitl [H20]; · iapply held c arg20; iexact H20
  isplitl [H21]; · iapply held c arg21; iexact H21
  isplitl [H22]; · iapply held c arg22; iexact H22
  isplitl [H23]; · iapply held c arg23; iexact H23
  isplitl [H24]; · iapply held c arg24; iexact H24
  iapply held c arg25; iexact H25

end Cert.KernelIdeal.Ret
end
-- ==== Proof.Ret.Launch.lean ====
/-
  The launch: every step leaves the two result blocks, and the arguments end unchanged.
-/
module

public import proofs.«01_k».proof.Proof.Ret.Body
public import proofs.«01_k».proof.Proof.Gen.KernelIdeal.Frame.Runs
public import Idealize.ShloMosaic.Lib.Claim
public import Idealize.ShloMosaic.Lib.Pipeline.Value

@[expose] public section

set_option maxRecDepth 16384
set_option maxHeartbeats 4000000

noncomputable section

namespace Cert.KernelIdeal.Ret

open Cert.KernelIdeal.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The context block after step `t`. -/
def outC (c : Dev nD) (t : Fin cfg0.N) : Vec F S1x256x512 .bf16 := YC (tabAt (iblk m c 0 t) (grid0.coords t 1)) (iblk m c 1 t) (iblk m c 2 t) (iblk m c 3 t) (iblk m c 4 t) (iblk m c 9 t)

/-- The latent block after step `t`. -/
def outL (c : Dev nD) (t : Fin cfg0.N) : Vec F S1x4096x512 .bf16 := YL (tabAt (iblk m c 0 t) (grid0.coords t 1)) (ropeQ (iblk m c 5 t) (iblk m c 10 t) (iblk m c 11 t) (iblk m c 12 t) (iblk m c 13 t)) (ropeK (iblk m c 6 t) (iblk m c 10 t) (iblk m c 11 t) (iblk m c 12 t) (iblk m c 13 t)) (iblk m c 7 t) (iblk m c 8 t) (iblk m c 9 t) (sf0 (tabAt (iblk m c 0 t) (grid0.coords t 1)) (iblk m c 2 t) (iblk m c 3 t)) (sb0 (tabAt (iblk m c 0 t) (grid0.coords t 1)) (iblk m c 2 t) (iblk m c 3 t))

/-- What each window holds at each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outC m c t
    | ⟨15, _⟩ => outL m c t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outC m c t := by dsimp only [dats]
theorem after15 (c : Dev nD) (t : Fin cfg0.N) : (dats m 0 c).after 15 t = outL m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the body is called with at step `t`, window by window. -/
def pre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))

/-- What the body returns at step `t`. -/
def post (c : Dev nD) (t : Fin cfg0.N) : sProp 𝕄G :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t))

/-- The body at step `t`. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  rw [show (dats m 0 c).Φ t.castSucc = Pipeline.ΦA spec0 c from rfl, PhiA0_eq]
  unfold outC outL
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The table's row at step `t` is the body. -/
theorem row (t : Fin cfg0.N) : defs₀ (F := F) .tc cfg0.body (cfg0.bodyArgs t (cfg0.slots t)) = bodyAt0 t := by
  unfold defs₀; rw [Defs.onTc_tc]

/-- The body obligation of the pipeline. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch terminates with the arrays the steps' blocks make, and with every counter at zero. -/
theorem launched : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arrays after the launch. -/
theorem ran : θ_run defs (onTc (τ := τ) (main (F := F))) (s₀ m ρ) (Pipeline.FramePost cfgs (dats m) 0 (V m)) :=
  (θ_run defs _ _).mono (fun _ h => h.1) (launched m ρ)

/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (ran m ρ)) ((θ_run defs _ _).mono (fun _ h => h.2) (launched m ρ))

end Cert.KernelIdeal.Ret
end
-- ==== Proof.Val.Real.lean ====
/-
  The retention recurrence over the real numbers: a decayed sum over all earlier tokens is a sum within the token's
  chunk plus the query read out of the state that the earlier chunks left.
-/
module

public import Mathlib.Analysis.SpecialFunctions.Exp
public import Mathlib.Algebra.BigOperators.Fin
public import Mathlib.Tactic.Ring
public import Mathlib.Tactic.Linarith

@[expose] public section

noncomputable section

namespace Cert.Ret

/-- The product of a query and a key. -/
def dot (q k : Fin 256 → ℝ) : ℝ := ∑ d, q d * k d

/-- The state the first `n` tokens leave: their keys' channel `d` times their values, each decayed to token `n - 1`. -/
def st (l : ℝ) (K : ℕ → Fin 256 → ℝ) (V : ℕ → ℝ) (n : ℕ) (d : Fin 256) : ℝ :=
  ∑ s ∈ Finset.range n, Real.exp (l * ((n : ℝ) - 1 - s)) * K s d * V s

/-- What the query of token `t` gathers from the tokens up to `t`, each decayed by its distance. -/
def att (l : ℝ) (Q K : ℕ → Fin 256 → ℝ) (V : ℕ → ℝ) (N t : ℕ) : ℝ :=
  ∑ s ∈ Finset.range N, dot (Q t) (K s) * (if s ≤ t then Real.exp (l * ((t : ℝ) - s)) else 0) * V s

/-- The weight of one direction within a chunk. -/
def wt (l : ℝ) (r s : ℕ) : ℝ := if s ≤ r then Real.exp (l * ((r : ℝ) - s)) else 0

/-- The stream read backwards: the context's 256 tokens last to first, then the 4096 latent ones last to first. -/
def rev (u : ℕ) : ℕ := if u < 256 then 255 - u else 4607 - u

theorem st_zero (l : ℝ) (K : ℕ → Fin 256 → ℝ) (V : ℕ → ℝ) (d : Fin 256) : st l K V 0 d = 0 := by simp [st]

/-- One chunk's step of the state. -/
theorem st_step (l : ℝ) (K : ℕ → Fin 256 → ℝ) (V : ℕ → ℝ) (n : ℕ) (d : Fin 256) :
    st l K V (n + 256) d = Real.exp (l * 256) * st l K V n d
      + ∑ r : Fin 256, K (n + r) d * Real.exp (l * (255 - (r : ℕ))) * V (n + r) := by
  unfold st
  rw [Finset.sum_range_add, Finset.mul_sum, ← Finset.sum_range (f := fun r => K (n + r) d * Real.exp (l * (255 - (r : ℕ))) * V (n + r))]
  congr 1
  · refine Finset.sum_congr rfl fun s _ => ?_
    rw [← mul_assoc, ← mul_assoc, ← Real.exp_add]
    congr 3
    push_cast; ring
  · refine Finset.sum_congr rfl fun s _ => ?_
    rw [mul_comm (Real.exp _) (K _ _)]
    congr 3
    push_cast; ring_nf

/-- The same step where the chunk's rows run against the stream. -/
theorem st_step_rev (l : ℝ) (K : ℕ → Fin 256 → ℝ) (V : ℕ → ℝ) (n : ℕ) (d : Fin 256) :
    st l K V (n + 256) d = Real.exp (l * 256) * st l K V n d
      + ∑ r : Fin 256, K (n + (255 - r)) d * Real.exp (l * (r : ℕ)) * V (n + (255 - r)) := by
  rw [st_step]
  congr 1
  rw [← Equiv.sum_comp Fin.revPerm]
  refine Finset.sum_congr rfl fun s _ => ?_
  have hs := s.isLt
  have e : ((Fin.revPerm s : Fin 256) : ℕ) = 255 - (s : ℕ) := by
    rw [Fin.revPerm_apply, Fin.val_rev]; omega
  rw [e, Nat.cast_sub (by omega : (s : ℕ) ≤ 255)]
  congr 3
  push_cast; ring

/-- A decayed sum over the earlier tokens, split at the start of the token's chunk. -/
theorem att_chunk (l : ℝ) (Q K : ℕ → Fin 256 → ℝ) (V : ℕ → ℝ) (N n r : ℕ) (hr : r < 256) (hN : n + 256 ≤ N) :
    att l Q K V N (n + r) = (∑ s : Fin 256, dot (Q (n + r)) (K (n + s)) * wt l r s * V (n + s))
      + Real.exp (l * ((r : ℝ) + 1)) * ∑ d, Q (n + r) d * st l K V n d := by
  obtain ⟨m, rfl⟩ := Nat.exists_eq_add_of_le hN
  have h3 : ∑ x ∈ Finset.range m, dot (Q (n + r)) (K (n + 256 + x)) * (if n + 256 + x ≤ n + r then Real.exp (l * (((n + r : ℕ) : ℝ) - ((n + 256 + x : ℕ) : ℝ))) else 0) * V (n + 256 + x) = 0 :=
    Finset.sum_eq_zero fun x _ => by rw [if_neg (by omega), mul_zero, zero_mul]
  unfold att
  rw [Finset.sum_range_add, Finset.sum_range_add, h3, add_zero, add_comm]
  congr 1
  · rw [← Finset.sum_range (f := fun s => dot (Q (n + r)) (K (n + s)) * wt l r s * V (n + s))]
    refine Finset.sum_congr rfl fun s _ => ?_
    congr 2
    unfold wt
    by_cases h : s ≤ r
    · rw [if_pos h, if_pos (by omega)]
      congr 2
      push_cast; ring
    · rw [if_neg h, if_neg (by omega)]
  · unfold st dot
    simp only [Finset.mul_sum, Finset.sum_mul]
    rw [Finset.sum_comm]
    refine Finset.sum_congr rfl fun d _ => Finset.sum_congr rfl fun s hs => ?_
    have hs' := Finset.mem_range.mp hs
    rw [if_pos (by omega), show l * (((n + r : ℕ) : ℝ) - (s : ℝ)) = l * ((r : ℝ) + 1) + l * ((n : ℝ) - 1 - s) by push_cast; ring, Real.exp_add]
    ring

/-- Both directions at row `r` of the chunk that starts at `n` in the stream and at `n'` in the reversed one. -/
theorem total (lf lb : ℝ) (Q K : ℕ → Fin 256 → ℝ) (V : ℕ → ℝ) (n n' : ℕ) (hn : n + 256 ≤ 4352) (hn' : n' + 256 ≤ 4352)
    (h : ∀ s, s < 256 → rev (n' + s) = n + (255 - s)) (r : ℕ) (hr : r < 256) :
    att lf Q K V 4352 (n + r) + att lb (fun u => Q (rev u)) (fun u => K (rev u)) (fun u => V (rev u)) 4352 (n' + (255 - r))
      = (∑ s : Fin 256, dot (Q (n + r)) (K (n + s)) * (wt lf r s + wt lb s r) * V (n + s)
        + Real.exp (lf * ((r : ℝ) + 1)) * ∑ d, Q (n + r) d * st lf K V n d)
        + Real.exp (lb * (256 - r)) * ∑ d, Q (n + r) d * st lb (fun u => K (rev u)) (fun u => V (rev u)) n' d := by
  rw [att_chunk lf Q K V 4352 n r hr hn, att_chunk lb _ _ _ 4352 n' (255 - r) (by omega) hn']
  have e : (∑ s : Fin 256, dot (Q (rev (n' + (255 - r)))) (K (rev (n' + s))) * wt lb (255 - r) s * V (rev (n' + s)))
      = ∑ s : Fin 256, dot (Q (n + r)) (K (n + s)) * wt lb s r * V (n + s) := by
    rw [← Equiv.sum_comp Fin.revPerm]
    refine Finset.sum_congr rfl fun s _ => ?_
    have hs := s.isLt
    have e : ((Fin.revPerm s : Fin 256) : ℕ) = 255 - (s : ℕ) := by
      rw [Fin.revPerm_apply, Fin.val_rev]; omega
    rw [e, h _ (by omega), h _ (by omega), show 255 - (255 - r) = r by omega, show 255 - (255 - (s : ℕ)) = s by omega]
    congr 2
    unfold wt
    by_cases h : r ≤ s
    · rw [if_pos h, if_pos (by omega), Nat.cast_sub (by omega : r ≤ 255), Nat.cast_sub (by omega : (s : ℕ) ≤ 255)]
      congr 2
      ring
    · rw [if_neg h, if_neg (by omega)]
  rw [e, h _ (by omega), show 255 - (255 - r) = r by omega, Nat.cast_sub (by omega : r ≤ 255)]
  simp only [mul_add, add_mul, Finset.sum_add_distrib]
  rw [show lb * (((255 : ℕ) : ℝ) - (r : ℝ)) + lb * 1 = lb * 256 - lb * r by push_cast; ring, show lb * (256 - (r : ℝ)) = lb * 256 - lb * r by ring]
  ring

end Cert.Ret
-- ==== Proof.Val.Tab.lean ====
/-
  A head's decay tables at an index: each entry is the exponential of a real multiple of the decay's logarithm.
-/
module

public import proofs.«01_k».proof.Proof.Ret.Body
public import proofs.«01_k».proof.Proof.Val.Real
public import Idealize.ShloMosaic.Lib.Pointwise
public import Mathlib.Tactic.NormNum

@[expose] public section

set_option maxRecDepth 16384

noncomputable section

namespace Cert.KernelIdeal.Ret

open Cert.KernelIdeal.Gen Cert.Ret
open Idealize.ShloMosaic Idealize.ShloMosaic.Pointwise

/-- A finite sum of reals, read among the extended reals. -/
theorem coe_sum {ι : Type} [Fintype ι] (f : ι → ℝ) : ((∑ i, f i : ℝ) : EReal) = ∑ i, (f i : EReal) :=
  map_sum (⟨⟨fun x : ℝ => (x : EReal), EReal.coe_zero⟩, EReal.coe_add⟩ : ℝ →+ EReal) f Finset.univ

theorem bits_255 : Ideal.ofBits .f32 0x437F0000#32 = ((255 : ℝ) : EReal) := by
  simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem bits_sixteenth : Ideal.ofBits .f32 0x3D800000#32 = ((1 / 16 : ℝ) : EReal) := by
  simp [Ideal.ofBits, Ideal.ieee, -EReal.coe_mul]; norm_num

/-- A small natural, as a word and then as a float, is that natural. -/
theorem word (r : ℕ) (hr : r < 2147483648) : FloatOps.sitofp (F := Ideal) .f32 (BitVec.ofNat 32 r) = ((r : ℝ) : EReal) := by
  show (((BitVec.ofNat 32 r).toInt : ℝ) : EReal) = _
  rw [BitVec.toInt_eq_toNat_of_lt (by rw [BitVec.toNat_ofNat, Nat.mod_eq_of_lt (by omega)]; omega), BitVec.toNat_ofNat,
    Nat.mod_eq_of_lt (by omega)]
  simp

/-- The difference of two small naturals, as words and then as a float. -/
theorem word_sub (r s : ℕ) (hr : r < 256) (hs : s < 256) :
    FloatOps.sitofp (F := Ideal) .f32 (IntOp.subi (BitVec.ofNat 32 r) (BitVec.ofNat 32 s)) = (((r : ℝ) - s : ℝ) : EReal) := by
  have e : (BitVec.ofNat 32 r - BitVec.ofNat 32 s).toInt = (r : ℤ) - s := by
    have h1 : (BitVec.ofNat 32 r).toInt = r := by
      rw [BitVec.toInt_eq_toNat_of_lt (by rw [BitVec.toNat_ofNat, Nat.mod_eq_of_lt (by omega)]; omega), BitVec.toNat_ofNat,
        Nat.mod_eq_of_lt (by omega)]
    have h2 : (BitVec.ofNat 32 s).toInt = s := by
      rw [BitVec.toInt_eq_toNat_of_lt (by rw [BitVec.toNat_ofNat, Nat.mod_eq_of_lt (by omega)]; omega), BitVec.toNat_ofNat,
        Nat.mod_eq_of_lt (by omega)]
    rw [BitVec.toInt_sub, h1, h2, Int.bmod_eq_of_le (by omega) (by omega)]
  show (((BitVec.ofNat 32 r - BitVec.ofNat 32 s).toInt : ℝ) : EReal) = _
  rw [e]
  push_cast
  rfl

variable (lf lb : ℝ)

theorem qf_at (r : Fin 256) : (tabOf (F := Ideal) (lf : EReal) (lb : EReal)).qf (ix2 r 0) = ((Real.exp (lf * ((r : ℕ) + 1)) : ℝ) : EReal) := by
  unfold tabOf
  pointwise [k0_pay24, k0_pay23]
  rw [word r (by omega), ← EReal.coe_one, ← EReal.coe_add, ← EReal.coe_mul, Ideal.exp_coe]

theorem kf_at (r : Fin 256) : (tabOf (F := Ideal) (lf : EReal) (lb : EReal)).kf (ix2 r 0) = ((Real.exp (lf * (255 - (r : ℕ))) : ℝ) : EReal) := by
  unfold tabOf
  pointwise [k0_pay25, k0_pay23]
  rw [word r (by omega), bits_255, ← EReal.coe_sub, ← EReal.coe_mul, Ideal.exp_coe]

theorem qb_at (r : Fin 256) : (tabOf (F := Ideal) (lf : EReal) (lb : EReal)).qb (ix2 r 0) = ((Real.exp (lb * (256 - (r : ℕ))) : ℝ) : EReal) := by
  unfold tabOf
  pointwise [k0_pay26, k0_pay23]
  rw [word r (by omega), bits_256, ← EReal.coe_sub, ← EReal.coe_mul, Ideal.exp_coe]

theorem kb_at (r : Fin 256) : (tabOf (F := Ideal) (lf : EReal) (lb : EReal)).kb (ix2 r 0) = ((Real.exp (lb * (r : ℕ)) : ℝ) : EReal) := by
  unfold tabOf
  pointwise [k0_pay27, k0_pay23]
  rw [word r (by omega), ← EReal.coe_mul, Ideal.exp_coe]

theorem cf_at : (tabOf (F := Ideal) (lf : EReal) (lb : EReal)).cf (ix2 0 0) = ((Real.exp (lf * 256) : ℝ) : EReal) := by
  unfold tabOf
  pointwise [k0_pay29, k0_pay28]
  rw [bits_256, ← EReal.coe_mul, Ideal.exp_coe]

theorem cb_at : (tabOf (F := Ideal) (lf : EReal) (lb : EReal)).cb (ix2 0 0) = ((Real.exp (lb * 256) : ℝ) : EReal) := by
  unfold tabOf
  pointwise [k0_pay30, k0_pay28]
  rw [bits_256, ← EReal.coe_mul, Ideal.exp_coe]

/-- The weight of the scores within a chunk: both directions, the diagonal in both. -/
theorem m_at (r s : Fin 256) : (tabOf (F := Ideal) (lf : EReal) (lb : EReal)).m (ix2 r s) = ((wt lf r s + wt lb s r : ℝ) : EReal) := by
  unfold tabOf
  pointwise [k0_pay35, k0_pay31, k0_pay32, k0_pay33, k0_pay34]
  rw [word_sub r s r.isLt s.isLt, EReal.coe_add, zero_sub, ← EReal.coe_neg, neg_sub]
  have h0 : (0 : EReal) = ((0 : ℝ) : EReal) := rfl
  unfold wt
  congr 1
  · by_cases h : (s : ℕ) ≤ (r : ℕ)
    · have h' : (0 : ℝ) ≤ (r : ℕ) - (s : ℕ) := sub_nonneg.mpr (Nat.cast_le.mpr h)
      rw [if_pos (by rw [h0]; exact EReal.coe_le_coe_iff.mpr h'), if_pos h, max_eq_left (by rw [h0]; exact EReal.coe_le_coe_iff.mpr h'),
        ← EReal.coe_mul, Ideal.exp_coe]
    · have h' : ¬ (0 : ℝ) ≤ (r : ℕ) - (s : ℕ) := fun c => h (Nat.cast_le.mp (sub_nonneg.mp c))
      rw [if_neg (by rw [h0]; exact fun c => h' (EReal.coe_le_coe_iff.mp c)), if_neg h]
      rfl
  · by_cases h : (r : ℕ) ≤ (s : ℕ)
    · have h' : ((r : ℕ) : ℝ) - (s : ℕ) ≤ 0 := sub_nonpos.mpr (Nat.cast_le.mpr h)
      have h'' : (0 : ℝ) ≤ (s : ℕ) - (r : ℕ) := sub_nonneg.mpr (Nat.cast_le.mpr h)
      rw [if_pos (by rw [h0]; exact EReal.coe_le_coe_iff.mpr h'), if_pos h, max_eq_left (by rw [h0]; exact EReal.coe_le_coe_iff.mpr h''),
        ← EReal.coe_mul, Ideal.exp_coe]
    · have h' : ¬ ((r : ℕ) : ℝ) - (s : ℕ) ≤ 0 := fun c => h (Nat.cast_le.mp (sub_nonpos.mp c))
      rw [if_neg (by rw [h0]; exact fun c => h' (EReal.coe_le_coe_iff.mp c)), if_neg h]
      rfl

end Cert.KernelIdeal.Ret
-- ==== Proof.Val.Rot.lean ====
/-
  The rotation of a latent token's queries and keys by its row and its column.
-/
module

public import proofs.«01_k».proof.Proof.Val.Tab

@[expose] public section

noncomputable section

namespace Cert.Ret

open Idealize.ShloMosaic Idealize.ShloMosaic.Pointwise

/-- The rotation's `j`-th frequency. -/
def freq (j : ℕ) : EReal :=
  Ideal.pow (Ideal.ofBits FTy.f32 0x461C4000#32)
    (Ideal.div (-(FloatOps.sitofp (F := Ideal) .f32 (BitVec.ofNat 32 j))) (Ideal.ofBits FTy.f32 0x42800000#32))

/-- The rotation's angle at position `p` and frequency `j`. -/
def ang (p j : ℕ) : EReal := (FloatOps.sitofp (F := Ideal) .f32 (BitVec.ofNat 32 p) : EReal) * freq j

theorem bits_10000 : Ideal.ofBits .f32 0x461C4000#32 = ((10000 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

/-- The same angle, as a real number. -/
def angR (p j : ℕ) : ℝ := p * Real.rpow 10000 (-(j : ℝ) / 64)

theorem ang_coe (p j : ℕ) (hp : p < 2147483648) (hj : j < 2147483648) : ang p j = ((angR p j : ℝ) : EReal) := by
  unfold ang freq angR
  rw [KernelIdeal.Ret.word p hp, KernelIdeal.Ret.word j hj, bits_10000, bits_64, ← EReal.coe_neg,
    show Ideal.div ((-(j : ℝ) : ℝ) : EReal) ((64 : ℝ) : EReal) = ((-(j : ℝ) / 64 : ℝ) : EReal) by
      rw [Ideal.div_coe (by norm_num), ← EReal.coe_mul]; congr 1; ring]
  show _ * ((Real.rpow 10000 (-(j : ℝ) / 64) : ℝ) : EReal) = _
  rw [← EReal.coe_mul]

/-- Where on the 64 by 64 grid column `d` of latent token `t` is placed: its row in the first half, its column in the second. -/
def pos (t d : ℕ) : ℕ := if d < 128 then t / 64 else t % 64

/-- A token's entries `x`, rotated: within each half of 128 entries, entry `j` and entry `j + 64` turn together. -/
def rot (x : ℕ → ℝ) (t d : ℕ) : ℝ :=
  if d % 128 < 64 then x d * Real.cos (angR (pos t d) (d % 64)) - x (d + 64) * Real.sin (angR (pos t d) (d % 64))
  else x (d - 64) * Real.sin (angR (pos t d) (d % 64)) + x d * Real.cos (angR (pos t d) (d % 64))

theorem cos_ang (p j : ℕ) (hp : p < 2147483648) (hj : j < 2147483648) : Ideal.cos (ang p j) = ((Real.cos (angR p j) : ℝ) : EReal) := by
  rw [ang_coe p j hp hj, Ideal.cos_coe]

theorem sin_ang (p j : ℕ) (hp : p < 2147483648) (hj : j < 2147483648) : Ideal.sin (ang p j) = ((Real.sin (angR p j) : ℝ) : EReal) := by
  rw [ang_coe p j hp hj, Ideal.sin_coe]

end Cert.Ret

namespace Cert.KernelIdeal.Ret

open Cert.KernelIdeal.Gen Cert.Ret
open Idealize.ShloMosaic Idealize.ShloMosaic.Pointwise

variable {x : Vec Ideal S1x4096x256 .bf16} {rc rs cc cs : Vec Ideal S64x128 .f32} {X : ℕ → ℕ → ℝ}

/-- One entry of a table's row of cosines, and one of sines with the sign of its half. -/
structure Tables (rc rs : Vec Ideal S64x128 .f32) : Prop where
  hc : ∀ (p : Fin 64) (j : Fin 128), (rc (ix2 p j) : EReal) = Ideal.cos (ang p (j % 64))
  hs : ∀ (p : Fin 64) (j : Fin 128), (rs (ix2 p j) : EReal) = if j.val < 64 then -Ideal.sin (ang p (j % 64)) else Ideal.sin (ang p (j % 64))

theorem turn (T : Tables rc rs) (p : Fin 64) (j : Fin 128) (a b : ℝ) :
    (a : EReal) * rc (ix2 p j) + (b : EReal) * rs (ix2 p j)
      = ((if j.val < 64 then a * Real.cos (angR p (j % 64)) - b * Real.sin (angR p (j % 64))
          else b * Real.sin (angR p (j % 64)) + a * Real.cos (angR p (j % 64)) : ℝ) : EReal) := by
  have hp : (p : ℕ) < 2147483648 := by have := p.isLt; omega
  have hj : (j : ℕ) % 64 < 2147483648 := by omega
  rw [T.hc, T.hs, cos_ang _ _ hp hj, sin_ang _ _ hp hj]
  split_ifs
  · rw [← EReal.coe_neg, ← EReal.coe_mul, ← EReal.coe_mul, ← EReal.coe_add]
    congr 1; ring
  · rw [← EReal.coe_mul, ← EReal.coe_mul, ← EReal.coe_add]
    congr 1; ring

theorem turned (T : Tables rc rs) (y : ℕ → ℝ) (t d : ℕ) (p : Fin 64) (j : Fin 128) (hp : p.val = pos t d) (hj : j.val = d % 128) (a b : ℝ)
    (ha : a = y d) (hb : b = y (d / 128 * 128 + (j.val + 128 - 64) % 128)) :
    (a : EReal) * rc (ix2 p j) + (b : EReal) * rs (ix2 p j) = ((rot y t d : ℝ) : EReal) := by
  rw [turn T]
  unfold rot
  rw [← hp, show d % 64 = (j : ℕ) % 64 by omega, ← hj, ha, hb]
  have := j.isLt
  congr 1
  split_ifs with h
  · rw [show d / 128 * 128 + (j.val + 128 - 64) % 128 = d + 64 by omega]
  · rw [show d / 128 * 128 + (j.val + 128 - 64) % 128 = d - 64 by omega]

/-- The rotated queries, entry by entry. -/
theorem ropeQ_at (hx : ∀ (t : Fin 4096) (d : Fin 256), (x (ix3 0 t d) : EReal) = ((X t d : ℝ) : EReal)) (R : Tables rc rs) (C : Tables cc cs)
    (t : Fin 4096) (d : Fin 256) : (ropeQ x rc rs cc cs (ix2 t d) : EReal) = ((rot (X t) t d : ℝ) : EReal) := by
  have ht := t.isLt
  have hd := d.isLt
  have e : (64 * ((t : ℕ) / 64) + (t : ℕ) % 64) % 4096 = t := by omega
  by_cases h : (d : ℕ) < 128
  · refine (if_pos h).trans ?_
    pointwise [k0_pay9, k0_pay8, k0_pay6, k0_pay7, row1, rows64]
    rw [hx, hx]
    refine turned R (X t) t d _ _ ?_ ?_ _ _ ?_ ?_
    · simp only [pos, if_pos h]; omega
    · rfl
    · show X _ _ = _; simp only [e]; congr 1; show (d : ℕ) % 128 = d; omega
    · show X _ _ = _; simp only [e]; congr 1; show ((d : ℕ) % 128 + 128 - 64) % 128 = _; omega
  · refine (if_neg h).trans ?_
    pointwise [k0_pay10, k0_pay8, rows64]
    rw [hx, hx]
    refine turned C (X t) t d _ _ ?_ ?_ _ _ ?_ ?_
    · simp only [pos, if_neg h]
    · rfl
    · show X _ _ = _; simp only [e]; congr 1; show 128 + (d : ℕ) % 128 = d; omega
    · show X _ _ = _; simp only [e]; congr 1; show 128 + ((d : ℕ) % 128 + 128 - 64) % 128 = _; omega

/-- The rotated keys, entry by entry, with their scale of a sixteenth. -/
theorem ropeK_at (hx : ∀ (t : Fin 4096) (d : Fin 256), (x (ix3 0 t d) : EReal) * Ideal.ofBits .f32 0x3D800000#32 = ((X t d : ℝ) : EReal))
    (R : Tables rc rs) (C : Tables cc cs)
    (t : Fin 4096) (d : Fin 256) : (ropeK x rc rs cc cs (ix2 t d) : EReal) = ((rot (X t) t d : ℝ) : EReal) := by
  have ht := t.isLt
  have hd := d.isLt
  have e : (64 * ((t : ℕ) / 64) + (t : ℕ) % 64) % 4096 = t := by omega
  by_cases h : (d : ℕ) < 128
  · refine (if_pos h).trans ?_
    pointwise [k0_pay37, k0_pay36, k0_pay6, k0_pay7, row1, rows64]
    rw [hx, hx]
    refine turned R (X t) t d _ _ ?_ ?_ _ _ ?_ ?_
    · simp only [pos, if_pos h]; omega
    · rfl
    · show X _ _ = _; simp only [e]; congr 1; show (d : ℕ) % 128 = d; omega
    · show X _ _ = _; simp only [e]; congr 1; show ((d : ℕ) % 128 + 128 - 64) % 128 = _; omega
  · refine (if_neg h).trans ?_
    pointwise [k0_pay38, k0_pay36, rows64]
    rw [hx, hx]
    refine turned C (X t) t d _ _ ?_ ?_ _ _ ?_ ?_
    · simp only [pos, if_neg h]
    · rfl
    · show X _ _ = _; simp only [e]; congr 1; show 128 + (d : ℕ) % 128 = d; omega
    · show X _ _ = _; simp only [e]; congr 1; show 128 + ((d : ℕ) % 128 + 128 - 64) % 128 = _; omega

end Cert.KernelIdeal.Ret
-- ==== Proof.Val.Arrays.lean ====
/-
  The blocks a step works on, as entries of the launched arrays and of the rotation tables.
-/
module

public import proofs.«01_k».proof.Proof.Ret.Launch
public import proofs.«01_k».proof.Proof.Val.Rot
public import Idealize.ShloMosaic.Lib.Pointwise
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 4000000

noncomputable section

namespace Cert.KernelIdeal.Ret

open Cert.KernelIdeal.Gen Cert.Ret
open Idealize.ShloMosaic Idealize.ShloMosaic.TcCoe Idealize.ShloMosaic.Pointwise

variable (m : (ℓ : Loc nD τ sig) → Buf (Elt Ideal) ℓ) (c : Dev nD) (t : Fin cfg0.N)

theorem lt0 : (grid0.coords t 0).val < 16 := (grid0.coords t 0).isLt
theorem lt1 : (grid0.coords t 1).val < 4 := (grid0.coords t 1).isLt

theorem idx1 : ∀ t : Fin cfg0.N, win0_1.index t = ![(grid0.coords t 0).val, 0, (grid0.coords t 1).val] := by decide +kernel
theorem idx2 : ∀ t : Fin cfg0.N, win0_2.index t = ![(grid0.coords t 0).val, 0, (grid0.coords t 1).val + 4] := by decide +kernel
theorem idx3 : ∀ t : Fin cfg0.N, win0_3.index t = ![(grid0.coords t 0).val, 0, (grid0.coords t 1).val + 4] := by decide +kernel
theorem idx4 : ∀ t : Fin cfg0.N, win0_4.index t = ![(grid0.coords t 0).val, 0, (grid0.coords t 1).val + 8] := by decide +kernel
theorem idx5 : ∀ t : Fin cfg0.N, win0_5.index t = ![(grid0.coords t 0).val, 0, (grid0.coords t 1).val] := by decide +kernel
theorem idx6 : ∀ t : Fin cfg0.N, win0_6.index t = ![(grid0.coords t 0).val, 0, (grid0.coords t 1).val + 4] := by decide +kernel
theorem idx7 : ∀ t : Fin cfg0.N, win0_7.index t = ![(grid0.coords t 0).val, 0, (grid0.coords t 1).val + 4] := by decide +kernel
theorem idx8 : ∀ t : Fin cfg0.N, win0_8.index t = ![(grid0.coords t 0).val, 0, (grid0.coords t 1).val + 8] := by decide +kernel
theorem idx14 : ∀ t : Fin cfg0.N, win0_14.index t = ![(grid0.coords t 0).val, 0, (grid0.coords t 1).val] := by decide +kernel
theorem idx15 : ∀ t : Fin cfg0.N, win0_15.index t = ![(grid0.coords t 0).val, 0, (grid0.coords t 1).val] := by decide +kernel
theorem idx0 : ∀ t : Fin cfg0.N, win0_0.index t = ![0, 0] := by decide +kernel
theorem idx9 : ∀ t : Fin cfg0.N, win0_9.index t = ![0, (grid0.coords t 1).val] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel

theorem blk1 (r : Fin 256) (d : Fin 256) : iblk m c 1 t (ix3 0 r d)
    = m ((c : Thread nD τ).loc main_arg0) (ix3 (grid0.coords t 0) r ⟨0 + 256 * (grid0.coords t 1).val + d.val, by have := lt1 t; omega⟩) := by
  blk_ext [iblk, V_main_arg0, idx1 t]

theorem blk2 (r : Fin 256) (d : Fin 256) : iblk m c 2 t (ix3 0 r d)
    = m ((c : Thread nD τ).loc main_arg0) (ix3 (grid0.coords t 0) r ⟨1024 + 256 * (grid0.coords t 1).val + d.val, by have := lt1 t; omega⟩) := by
  blk_ext [iblk, V_main_arg0, idx2 t]

theorem blk3 (r : Fin 256) (d : Fin 512) : iblk m c 3 t (ix3 0 r d)
    = m ((c : Thread nD τ).loc main_arg0) (ix3 (grid0.coords t 0) r ⟨2048 + 512 * (grid0.coords t 1).val + d.val, by have := lt1 t; omega⟩) := by
  blk_ext [iblk, V_main_arg0, idx3 t]

theorem blk4 (r : Fin 256) (d : Fin 512) : iblk m c 4 t (ix3 0 r d)
    = m ((c : Thread nD τ).loc main_arg0) (ix3 (grid0.coords t 0) r ⟨4096 + 512 * (grid0.coords t 1).val + d.val, by have := lt1 t; omega⟩) := by
  blk_ext [iblk, V_main_arg0, idx4 t]

theorem blk5 (r : Fin 4096) (d : Fin 256) : iblk m c 5 t (ix3 0 r d)
    = m ((c : Thread nD τ).loc main_arg1) (ix3 (grid0.coords t 0) r ⟨0 + 256 * (grid0.coords t 1).val + d.val, by have := lt1 t; omega⟩) := by
  blk_ext [iblk, V_main_arg1, idx5 t]

theorem blk6 (r : Fin 4096) (d : Fin 256) : iblk m c 6 t (ix3 0 r d)
    = m ((c : Thread nD τ).loc main_arg1) (ix3 (grid0.coords t 0) r ⟨1024 + 256 * (grid0.coords t 1).val + d.val, by have := lt1 t; omega⟩) := by
  blk_ext [iblk, V_main_arg1, idx6 t]

theorem blk7 (r : Fin 4096) (d : Fin 512) : iblk m c 7 t (ix3 0 r d)
    = m ((c : Thread nD τ).loc main_arg1) (ix3 (grid0.coords t 0) r ⟨2048 + 512 * (grid0.coords t 1).val + d.val, by have := lt1 t; omega⟩) := by
  blk_ext [iblk, V_main_arg1, idx7 t]

theorem blk8 (r : Fin 4096) (d : Fin 512) : iblk m c 8 t (ix3 0 r d)
    = m ((c : Thread nD τ).loc main_arg1) (ix3 (grid0.coords t 0) r ⟨4096 + 512 * (grid0.coords t 1).val + d.val, by have := lt1 t; omega⟩) := by
  blk_ext [iblk, V_main_arg1, idx8 t]

theorem gnV (e : Fin 2048) : (V m c main_v31 (ix2 0 e) : EReal) = m ((c : Thread nD τ).loc main_arg3) (ix1 e) := by
  unfold V
  after_reads_at

theorem blk9 (e : Fin 512) : (iblk m c 9 t (ix2 0 e) : EReal) = m ((c : Thread nD τ).loc main_arg3) (ix1 ⟨512 * (grid0.coords t 1).val + e.val, by have := lt1 t; omega⟩) := by
  refine Eq.trans ?_ (gnV m c _)
  blk_ext [iblk, idx9 t]

theorem blk0 (i : Fin 2) (j : Fin 4) : (iblk m c 0 t (ix2 i j) : EReal) = V m c main_v0 (ix2 i j) := by
  blk_ext [iblk, idx0 t]

theorem tab10 (p : Fin 64) (j : Fin 128) : (iblk m c 10 t (ix2 p j) : EReal) = Ideal.cos (ang p (j % 64)) := by
  have h : (iblk m c 10 t (ix2 p j) : EReal) = V m c main_v16 (ix2 p j) := by blk_ext [iblk, idx10 t]
  rw [h]
  unfold V
  after_reads_at
  unfold ang freq
  by_cases hj : (j : ℕ) < 64
  · simp only [hj, if_true, dif_pos, Nat.mod_eq_of_lt hj]
  · have : (j : ℕ) % 64 = j - 64 := by have := j.isLt; omega
    simp only [hj, if_false, this, dif_neg, not_false_eq_true]

theorem tab11 (p : Fin 64) (j : Fin 128) : (iblk m c 11 t (ix2 p j) : EReal) = if j.val < 64 then -Ideal.sin (ang p (j % 64)) else Ideal.sin (ang p (j % 64)) := by
  have h : (iblk m c 11 t (ix2 p j) : EReal) = V m c main_v18 (ix2 p j) := by blk_ext [iblk, idx11 t]
  rw [h]
  unfold V
  after_reads_at
  unfold ang freq
  by_cases hj : (j : ℕ) < 64
  · simp only [hj, if_true, dif_pos, Nat.mod_eq_of_lt hj]
  · have : (j : ℕ) % 64 = j - 64 := by have := j.isLt; omega
    simp only [hj, if_false, this, dif_neg, not_false_eq_true]

theorem tab12 (p : Fin 64) (j : Fin 128) : (iblk m c 12 t (ix2 p j) : EReal) = Ideal.cos (ang p (j % 64)) := by
  have h : (iblk m c 12 t (ix2 p j) : EReal) = V m c main_v28 (ix2 p j) := by blk_ext [iblk, idx12 t]
  rw [h]
  unfold V
  after_reads_at
  unfold ang freq
  by_cases hj : (j : ℕ) < 64
  · simp only [hj, if_true, dif_pos, Nat.mod_eq_of_lt hj]
  · have : (j : ℕ) % 64 = j - 64 := by have := j.isLt; omega
    simp only [hj, if_false, this, dif_neg, not_false_eq_true]

theorem tab13 (p : Fin 64) (j : Fin 128) : (iblk m c 13 t (ix2 p j) : EReal) = if j.val < 64 then -Ideal.sin (ang p (j % 64)) else Ideal.sin (ang p (j % 64)) := by
  have h : (iblk m c 13 t (ix2 p j) : EReal) = V m c main_v30 (ix2 p j) := by blk_ext [iblk, idx13 t]
  rw [h]
  unfold V
  after_reads_at
  unfold ang freq
  by_cases hj : (j : ℕ) < 64
  · simp only [hj, if_true, dif_pos, Nat.mod_eq_of_lt hj]
  · have : (j : ℕ) % 64 = j - 64 := by have := j.isLt; omega
    simp only [hj, if_false, this, dif_neg, not_false_eq_true]

end Cert.KernelIdeal.Ret
-- ==== Proof.Val.Pre.lean ====
/-
  What the precondition gives: queries, keys, values and decays are real numbers, and so are the logarithms of the decays.
-/
module

public import proofs.«01_k».proof.Pre_finite
public import proofs.«01_k».proof.Proof.Val.Arrays
public import Idealize.ShloMosaic.Lib.ReduceAll
public import Idealize.ShloMosaic.Lib.Pointwise

@[expose] public section

set_option maxRecDepth 16384

noncomputable section

namespace Cert.Ret

open Idealize.ShloMosaic Idealize.ShloMosaic.Pointwise

/-- The precondition's side conditions. -/
theorem preFacts : Cert.Pre_finite.Facts where
  slices_S16x256x6144_S16x256x4096_0_0_0 := by decide
  bitsLt_bf16_f32 := by decide
  bcast_S_S16x256x4096 := by decide
  reducesTo_S16x256x4096_S_d0_1_2 := by decide
  h_S_ := by decide
  slices_S16x4096x6144_S16x4096x4096_0_0_0 := by decide
  bcast_S_S16x4096x4096 := by decide
  reducesTo_S16x4096x4096_S_d0_1_2 := by decide
  bcast_S_S2x4 := by decide
  reducesTo_S2x4_S_d0_1 := by decide

instance : Subsingleton Pre_finite.S_.Idx := ⟨fun i j => funext fun a => a.elim0⟩

/-- What is below infinity in size is a real number. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  induction x using EReal.rec with
  | coe r => exact ⟨r, rfl⟩
  | bot => simp [Ideal.cmp] at h
  | top => simp [Ideal.cmp] at h

variable {a0 : FVec Ideal Pre_finite.S16x256x6144 .bf16} {a1 : FVec Ideal Pre_finite.S16x4096x6144 .bf16} {a2 : FVec Ideal Pre_finite.S2x4 .f32} {a3 : FVec Ideal Pre_finite.S2048 .f32}

theorem and_one {a b : BitVec 1} (h : IntOp.andi a b = 1#1) : a = 1#1 ∧ b = 1#1 := by
  revert h; revert a b; decide

theorem real_entries [Pre_finite.Facts] (h : Pre_finite.fn (F := Ideal) a0 a1 a2 a3 = fun _ => 1#1) :
    (∀ (b : Fin 16) (t : Fin 256) (d : Fin 6144), d.val < 4096 → ∃ r : ℝ, (a0 (ix3 b t d) : EReal) = (r : EReal))
    ∧ (∀ (b : Fin 16) (t : Fin 4096) (d : Fin 6144), d.val < 4096 → ∃ r : ℝ, (a1 (ix3 b t d) : EReal) = (r : EReal))
    ∧ (∀ (i : Fin 2) (j : Fin 4), ∃ r : ℝ, (a2 (ix2 i j) : EReal) = (r : EReal)) := by
  have h0 := congrFun h ix0
  obtain ⟨h1, h2⟩ := and_one h0
  obtain ⟨h3, h4⟩ := and_one h1
  refine ⟨fun b t d hd => ?_, fun b t d hd => ?_, fun i j => ?_⟩
  · have := Host.reduce_andi_all _ _ _ _ _ h3 (ix3 b t ⟨d.val, hd⟩)
    refine real_of_lt _ (Eq.trans ?_ this)
    symm
    pointwise
    rfl
  · have := Host.reduce_andi_all _ _ _ _ _ h4 (ix3 b t ⟨d.val, hd⟩)
    refine real_of_lt _ (Eq.trans ?_ this)
    symm
    pointwise
    rfl
  · have := Host.reduce_andi_all _ _ _ _ _ h2 (ix2 i j)
    refine real_of_lt _ (Eq.trans ?_ this)
    symm
    pointwise
    rfl

/-- The logarithm of the logistic function, as the host takes it. -/
def decay (a : EReal) : EReal :=
  -(if -a ≠ -a then -a else max (-a) 0 + Ideal.log1p (Ideal.exp (-(FloatOps.absf (F := Ideal) (φ := .f32) (-a)))))

theorem max_coe (a b : ℝ) : max (a : EReal) (b : EReal) = ((max a b : ℝ) : EReal) := (EReal.coe_strictMono.monotone.map_max).symm

theorem decay_real (a : ℝ) : ∃ l : ℝ, decay (a : EReal) = (l : EReal) := by
  unfold decay
  rw [if_neg (by simp)]
  show ∃ l : ℝ, -(max (-(a : EReal)) ((0 : ℝ) : EReal) + Ideal.log1p (Ideal.exp (-(max (-(a : EReal)) (-(-(a : EReal))))))) = (l : EReal)
  rw [← EReal.coe_neg, ← EReal.coe_neg, max_coe, max_coe, ← EReal.coe_neg, Ideal.exp_coe]
  unfold Ideal.log1p
  have hp := Real.exp_pos (-max (-a) (- -a))
  rw [← EReal.coe_one, ← EReal.coe_add, Ideal.log_coe, if_neg (by linarith), ← EReal.coe_add, ← EReal.coe_neg]
  exact ⟨_, rfl⟩

end Cert.Ret

namespace Cert.KernelIdeal.Ret

open Cert.KernelIdeal.Gen Cert.Ret
open Idealize.ShloMosaic Idealize.ShloMosaic.TcCoe Idealize.ShloMosaic.Pointwise

theorem lgV (m : (ℓ : Loc nD τ sig) → Buf (Elt Ideal) ℓ) (c : Dev nD) (i : Fin 2) (j : Fin 4) :
    (V m c main_v0 (ix2 i j) : EReal) = decay (m ((c : Thread nD τ).loc main_arg2) (ix2 i j)) := by
  unfold V
  after_reads_at
  rfl

end Cert.KernelIdeal.Ret
-- ==== Proof.Val.Turn.lean ====
/-
  The reference's rotated queries and keys, entry by entry.
-/
module

public import proofs.«01_k».proof.Proof.Gen.ReferenceIdeal.Run
public import proofs.«01_k».proof.Proof.Val.Rot
public import Idealize.ShloMosaic.Lib.Pointwise

@[expose] public section

set_option maxRecDepth 16384
set_option maxHeartbeats 4000000

noncomputable section

namespace Cert.ReferenceIdeal.Value

open Cert.ReferenceIdeal Cert.ReferenceIdeal.Gen Cert.Ret
open Idealize.ShloMosaic Idealize.ShloMosaic.TcCoe Idealize.ShloMosaic.Pointwise Idealize.ShloMosaic.StableHlo

variable (V0 : Valuation τ sig (Elt Ideal))

theorem word_row : ∀ t : Fin 4096, Scalar.select
          (IntOp.andi
            (IntOp.cmpi CmpIPredicate.ne
              (if BitVec.ofNat 32 t.val = 0 then 0 else if (BitVec.ofNat 32 t.val).msb = true then -1 else 1)
              (if (64#32) = 0 then 0 else if BitVec.msb (64#32) = true then -1 else (1 : BitVec 32)))
            (IntOp.cmpi CmpIPredicate.ne (IntOp.remsi ArithUnit.host (BitVec.ofNat 32 t.val) 64#32) 0#32))
          (IntOp.subi (IntOp.divsi ArithUnit.host (BitVec.ofNat 32 t.val) 64#32) 1#32) (IntOp.divsi ArithUnit.host (BitVec.ofNat 32 t.val) 64#32)
      = BitVec.ofNat 32 (t.val / 64) := by decide +kernel

theorem word_col : ∀ t : Fin 4096, Scalar.select
          (IntOp.andi
            (IntOp.cmpi CmpIPredicate.ne (IntOp.cmpi CmpIPredicate.slt (IntOp.remsi ArithUnit.host (BitVec.ofNat 32 t.val) 64#32) 0#32)
              (IntOp.cmpi CmpIPredicate.slt 64#32 0#32))
            (IntOp.cmpi CmpIPredicate.ne (IntOp.remsi ArithUnit.host (BitVec.ofNat 32 t.val) 64#32) 0#32))
          (IntOp.addi (IntOp.remsi ArithUnit.host (BitVec.ofNat 32 t.val) 64#32) 64#32) (IntOp.remsi ArithUnit.host (BitVec.ofNat 32 t.val) 64#32)
      = BitVec.ofNat 32 (t.val % 64) := by decide +kernel

theorem row_ang (t : Fin 4096) (j : Fin 64) : (res_main_v49 V0 (ix2 t j) : EReal) = ang (t / 64) j := by
  pointwise [res_main_v49, res_main_v43, res_main_v33, res_main_call1_v2, res_main_call1_v0]
  exact congrArg (fun w => (FloatOps.sitofp (F := Ideal) .f32 w : EReal) * freq j) (word_row t)

theorem row_ang' (t : Fin 4096) (j : Fin 64) : (res_main_v111 V0 (ix2 t j) : EReal) = ang (t / 64) j := by
  pointwise [res_main_v111, res_main_v105, res_main_v95, res_main_call3_v2, res_main_call3_v0]
  exact congrArg (fun w => (FloatOps.sitofp (F := Ideal) .f32 w : EReal) * freq j) (word_row t)

theorem col_ang (t : Fin 4096) (j : Fin 64) : (res_main_v74 V0 (ix2 t j) : EReal) = ang (t % 64) j := by
  pointwise [res_main_v74, res_main_v43, res_main_v33, res_main_call2_v4, res_main_call2_v2, res_main_call2_v0]
  exact congrArg (fun w => (FloatOps.sitofp (F := Ideal) .f32 w : EReal) * freq j) (word_col t)

theorem col_ang' (t : Fin 4096) (j : Fin 64) : (res_main_v136 V0 (ix2 t j) : EReal) = ang (t % 64) j := by
  pointwise [res_main_v136, res_main_v105, res_main_v95, res_main_call4_v4, res_main_call4_v2, res_main_call4_v0]
  exact congrArg (fun w => (FloatOps.sitofp (F := Ideal) .f32 w : EReal) * freq j) (word_col t)

variable {X : ℕ → ℕ → ℝ} (b : Fin 16) (h : Fin 4)

theorem low (y : ℕ → ℝ) (t d p j : ℕ) (hd : d % 128 < 64) (hp : p = pos t d) (hj : j = d % 64) (hp' : p < 4096) (u v : EReal) (hu : u = ((y d : ℝ) : EReal)) (hv : v = ((y (d + 64) : ℝ) : EReal)) :
    u * Ideal.cos (ang p j) - v * Ideal.sin (ang p j) = ((rot y t d : ℝ) : EReal) := by
  rw [hu, hv, cos_ang _ _ (by omega) (by omega), sin_ang _ _ (by omega) (by omega), ← EReal.coe_mul, ← EReal.coe_mul, ← EReal.coe_sub]
  unfold rot
  rw [if_pos hd, hp, hj]

theorem high (y : ℕ → ℝ) (t d p j : ℕ) (hd : ¬ d % 128 < 64) (hp : p = pos t d) (hj : j = d % 64) (hp' : p < 4096) (u v : EReal) (hu : u = ((y (d - 64) : ℝ) : EReal)) (hv : v = ((y d : ℝ) : EReal)) :
    u * Ideal.sin (ang p j) + v * Ideal.cos (ang p j) = ((rot y t d : ℝ) : EReal) := by
  rw [hu, hv, cos_ang _ _ (by omega) (by omega), sin_ang _ _ (by omega) (by omega), ← EReal.coe_mul, ← EReal.coe_mul, ← EReal.coe_add]
  unfold rot
  rw [if_neg hd, hp, hj]

/-- The rotated queries. -/
theorem turnQ (hx : ∀ (t : Fin 4096) (d : Fin 256), (res_main_v28 V0 (ix4 b h t d) : EReal) = ((X t d : ℝ) : EReal)) (t : Fin 4096) (d : Fin 256) :
    (res_main_v94 V0 (ix4 b h t d) : EReal) = ((rot (X t) t d : ℝ) : EReal) := by
  have ht := t.isLt
  have hd := d.isLt
  pointwise [res_main_v94, fn_main_v94, res_main_v50, res_main_v51, res_main_v75, res_main_v76, res_main_v44, res_main_v69, res_main_v52, res_main_v53, res_main_v77, res_main_v78]
  simp only [row_ang, col_ang, hx]
  split_ifs with h1 h2 h2
  · exact low (X t) t d _ _ (by omega) (by simp only [pos, if_pos h1]) (by show (d : ℕ) = _; omega) (by omega) _ _ (by congr 2 <;> omega) (by congr 2 <;> omega)
  · exact high (X t) t d _ _ (by omega) (by simp only [pos, if_pos h1]) (by show (d : ℕ) - 64 = _; omega) (by omega) _ _ (by congr 2 <;> omega) (by congr 2 <;> omega)
  · exact low (X t) t d _ _ (by omega) (by simp only [pos, if_neg h1]) (by show (d : ℕ) - 128 = _; omega) (by omega) _ _ (by congr 2 <;> omega) (by congr 2 <;> omega)
  · exact high (X t) t d _ _ (by omega) (by simp only [pos, if_neg h1]) (by show (d : ℕ) - 128 - 64 = _; omega) (by omega) _ _ (by congr 2 <;> omega) (by congr 2 <;> omega)

/-- The rotated keys. -/
theorem turnK (hx : ∀ (t : Fin 4096) (d : Fin 256), (res_main_v32 V0 (ix4 b h t d) : EReal) = ((X t d : ℝ) : EReal)) (t : Fin 4096) (d : Fin 256) :
    (res_main_v156 V0 (ix4 b h t d) : EReal) = ((rot (X t) t d : ℝ) : EReal) := by
  have ht := t.isLt
  have hd := d.isLt
  pointwise [res_main_v156, fn_main_v156, res_main_v112, res_main_v113, res_main_v137, res_main_v138, res_main_v106, res_main_v131, res_main_v114, res_main_v115, res_main_v139, res_main_v140]
  simp only [row_ang', col_ang', hx]
  split_ifs with h1 h2 h2
  · exact low (X t) t d _ _ (by omega) (by simp only [pos, if_pos h1]) (by show (d : ℕ) = _; omega) (by omega) _ _ (by congr 2 <;> omega) (by congr 2 <;> omega)
  · exact high (X t) t d _ _ (by omega) (by simp only [pos, if_pos h1]) (by show (d : ℕ) - 64 = _; omega) (by omega) _ _ (by congr 2 <;> omega) (by congr 2 <;> omega)
  · exact low (X t) t d _ _ (by omega) (by simp only [pos, if_neg h1]) (by show (d : ℕ) - 128 = _; omega) (by omega) _ _ (by congr 2 <;> omega) (by congr 2 <;> omega)
  · exact high (X t) t d _ _ (by omega) (by simp only [pos, if_neg h1]) (by show (d : ℕ) - 128 - 64 = _; omega) (by omega) _ _ (by congr 2 <;> omega) (by congr 2 <;> omega)

end Cert.ReferenceIdeal.Value
-- ==== Proof.Val.Sums.lean ====
/-
  The reference's running sums of a constant decay: after `t + 1` tokens, `t + 1` times the decay.
-/
module

public import proofs.«01_k».proof.Proof.Gen.ReferenceIdeal.Run
public import proofs.«01_k».proof.Proof.Val.Rot
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Pointwise Idealize.ShloMosaic.StableHlo

theorem fold_sum {α : Type} (g : α → EReal) (f : EReal → α → EReal) (hf : ∀ r n, f r n = r + g n) (l : List α) (z : EReal) :
    l.foldl f z = z + (l.map g).sum := by
  induction l generalizing z with
  | nil => simp
  | cons a l ih => rw [List.foldl_cons, ih, hf, List.map_cons, List.sum_cons, add_assoc]

/-- How many of a window's positions have come in by token `t`. -/
theorem count_in (t : Fin 4352) (lg : ℝ) :
    (∑ s : Fin 4352, if 4351 ≤ t.val + s.val then (lg : EReal) else 0) = ((((t : ℕ) + 1 : ℝ) * lg : ℝ) : EReal) := by
  have h : (∑ s : Fin 4352, if 4351 ≤ t.val + s.val then (lg : EReal) else 0) = ((∑ s : Fin 4352, if 4351 ≤ t.val + s.val then lg else 0 : ℝ) : EReal) := by
    rw [KernelIdeal.Ret.coe_sum]
    refine Finset.sum_congr rfl fun s _ => ?_
    split_ifs <;> simp
  rw [h]
  congr 1
  have h2 := Fin.sum_univ_eq_sum_range (fun s => if 4351 ≤ t.val + s then lg else 0) 4352
  rw [h2, ← Finset.sum_filter, Finset.sum_const, nsmul_eq_mul]
  congr 1
  have ht := t.isLt
  have : (Finset.range 4352).filter (fun s => 4351 ≤ t.val + s) = Finset.Ico (4351 - t.val) 4352 := by
    ext s
    simp only [Finset.mem_filter, Finset.mem_range, Finset.mem_Ico]
    omega
  rw [this, Nat.card_Ico, show 4352 - (4351 - t.val) = t.val + 1 by omega]
  push_cast
  rfl

theorem cumsum_const (x : FVec Ideal S16x4x4352 .f32) (lg : ℝ) (b : Fin 16) (h : Fin 4) (hx : ∀ s, x (ix3 b h s) = (lg : EReal))
    (init : FVec Ideal S_ .f32) (hinit : ∀ i, init i = (0 : EReal)) (hW : S16x4x4352.ReduceWindows ![1, 1, 4352] ![1, 1, 1] ![0, 0, 4351] ![0, 0, 0] S16x4x4352)
    (hu : 0 < S_.numel) (t : Fin 4352) :
    (Host.reduceWindowAdd ![1, 1, 4352] ![1, 1, 1] ![0, 0, 4351] ![0, 0, 0] x init hW hu (ix3 b h t) : EReal)
      = ((((t : ℕ) + 1 : ℝ) * lg : ℝ) : EReal) := by
  unfold Host.reduceWindowAdd
  rw [Ideal.hostReduceWindowAdd_def]
  unfold Ideal.hostReduceWindowAdd Host.reduceWindow
  rw [hinit]
  refine (fold_sum (fun n => if 4351 ≤ t.val + (((⟨3, ![1, 1, 4352]⟩ : Shape).rowMajor.symm n) 2).val then (lg : EReal) else 0) _ (fun r n => ?_) _ _).trans ?_
  · dsimp only
    refine congrArg (fun z => r + z) ?_
    set i := (⟨3, ![1, 1, 4352]⟩ : Shape).rowMajor.symm n with hi
    have h0 : (i 0).val < 1 := (i 0).isLt
    have h1 : (i 1).val < 1 := (i 1).isLt
    have h2 : (i 2).val < 4352 := (i 2).isLt
    have hb := b.isLt
    have hh := h.isLt
    have ht := t.isLt
    by_cases hc : 4351 ≤ t.val + (i 2).val
    · rw [if_pos hc]
      refine (dif_pos fun a => ?_).trans (Eq.trans (congrArg x ?_) (hx ⟨t.val + (i 2).val - 4351, by omega⟩))
      · match a with
        | ⟨0, _⟩ => show 0 ≤ b.val * 1 + (i 0).val ∧ b.val * 1 + (i 0).val - 0 < 16; omega
        | ⟨1, _⟩ => show 0 ≤ h.val * 1 + (i 1).val ∧ h.val * 1 + (i 1).val - 0 < 4; omega
        | ⟨2, _⟩ => show 4351 ≤ t.val * 1 + (i 2).val ∧ t.val * 1 + (i 2).val - 4351 < 4352; omega
      · funext a
        match a with
        | ⟨0, _⟩ => refine Fin.ext ?_; show b.val * 1 + (i 0).val - 0 = b.val; omega
        | ⟨1, _⟩ => refine Fin.ext ?_; show h.val * 1 + (i 1).val - 0 = h.val; omega
        | ⟨2, _⟩ => refine Fin.ext ?_; show t.val * 1 + (i 2).val - 4351 = t.val + (i 2).val - 4351; omega
    · rw [if_neg hc]
      refine dif_neg fun hin => hc ?_
      have h3 := hin 2
      change 4351 ≤ t.val * 1 + (i 2).val ∧ t.val * 1 + (i 2).val - 4351 < 4352 at h3
      omega
  · rw [zero_add, ← count_in, ← Fin.sum_univ_def]
    refine (Fintype.sum_equiv (⟨3, ![1, 1, 4352]⟩ : Shape).rowMajor.symm _
      (fun i => if 4351 ≤ t.val + (i 2).val then (lg : EReal) else 0) (fun n => rfl)).trans ?_
    refine Finset.sum_bij' (fun i _ => i 2) (fun s _ => ix3 (0 : Fin 1) (0 : Fin 1) s) (fun _ _ => Finset.mem_univ _) (fun _ _ => Finset.mem_univ _) (fun i _ => ?_) (fun s _ => rfl) (fun i _ => rfl)
    funext a
    match a with
    | ⟨0, _⟩ => refine Fin.ext ?_; have : (i 0).val < 1 := (i 0).isLt; show 0 = (i 0).val; omega
    | ⟨1, _⟩ => refine Fin.ext ?_; have : (i 1).val < 1 := (i 1).isLt; show 0 = (i 1).val; omega
    | ⟨2, _⟩ => rfl

variable (V0 : Valuation τ sig (Elt Ideal))

theorem sumF_at (b : Fin 16) (h : Fin 4) (lf : ℝ) (hl : (res_main_v0 V0 (ix2 0 h) : EReal) = (lf : EReal)) (t : Fin 4352) :
    (res_main_v171 V0 (ix3 b h t) : EReal) = ((((t : ℕ) + 1 : ℝ) * lf : ℝ) : EReal) := by
  unfold res_main_v171
  refine cumsum_const _ lf b h (fun s => ?_) _ (fun i => ?_) _ _ t
  · pointwise
    split_ifs <;> exact hl
  · pointwise

theorem sumB_at (b : Fin 16) (h : Fin 4) (lb : ℝ) (hl : (res_main_v0 V0 (ix2 1 h) : EReal) = (lb : EReal)) (t : Fin 4352) :
    (res_main_v198 V0 (ix3 b h t) : EReal) = ((((t : ℕ) + 1 : ℝ) * lb : ℝ) : EReal) := by
  unfold res_main_v198
  refine cumsum_const _ lb b h (fun s => ?_) _ (fun i => ?_) _ _ t
  · pointwise
    split_ifs <;> exact hl
  · pointwise

end Cert.ReferenceIdeal.Value
-- ==== Proof.Val.Step.lean ====
/-
  The states and the parts of a head's result, chunk by chunk, where queries, keys, values and decays are real: the
  blocks hold the entries of the recurrence over the stream of 256 context and 4096 latent tokens.
-/
module

public import proofs.«01_k».proof.Proof.Val.Tab

@[expose] public section

set_option maxRecDepth 16384

noncomputable section

namespace Cert.KernelIdeal.Ret

open Cert.KernelIdeal.Gen Cert.Ret
open Idealize.ShloMosaic Idealize.ShloMosaic.Pointwise

/-- One head's blocks hold a stream of real queries, keys and values. -/
structure Holds (Q K : ℕ → Fin 256 → ℝ) (V : ℕ → Fin 512 → ℝ) (qc kc : Vec Ideal S1x256x256 .bf16) (vc : Vec Ideal S1x256x512 .bf16)
    (Qv Kv : Vec Ideal S4096x256 .bf16) (Vv : Vec Ideal S1x4096x512 .bf16) : Prop where
  hqc : ∀ (t : Fin 256) (d : Fin 256), qc (ix3 0 t d) = ((Q t d : ℝ) : EReal)
  hkc : ∀ (t : Fin 256) (d : Fin 256), kc (ix3 0 t d) * Ideal.ofBits .f32 0x3D800000#32 = ((K t d : ℝ) : EReal)
  hvc : ∀ (t : Fin 256) (e : Fin 512), vc (ix3 0 t e) = ((V t e : ℝ) : EReal)
  hq : ∀ (t : Fin 4096) (d : Fin 256), Qv (ix2 t d) = ((Q (256 + t) d : ℝ) : EReal)
  hk : ∀ (t : Fin 4096) (d : Fin 256), Kv (ix2 t d) = ((K (256 + t) d : ℝ) : EReal)
  hv : ∀ (t : Fin 4096) (e : Fin 512), Vv (ix3 0 t e) = ((V (256 + t) e : ℝ) : EReal)

variable {lf lb : ℝ} {Q K : ℕ → Fin 256 → ℝ} {V : ℕ → Fin 512 → ℝ} {qc kc : Vec Ideal S1x256x256 .bf16} {vc : Vec Ideal S1x256x512 .bf16}
  {Qv Kv : Vec Ideal S4096x256 .bf16} {Vv : Vec Ideal S1x4096x512 .bf16}

theorem rowsQ_at (A : ℕ → Fin 256 → ℝ) (w : Vec Ideal S4096x256 .bf16) (h : ∀ (t : Fin 4096) (d : Fin 256), w (ix2 t d) = ((A (256 + t) d : ℝ) : EReal))
    (o : ℕ) (ho : o + 256 ≤ 4096) (r : Fin 256) (d : Fin 256) : rowsQ w o (ix2 r d) = ((A (256 + o + r) d : ℝ) : EReal) := by
  show w (ix2 ⟨(o + (r : ℕ)) % 4096, _⟩ d) = _
  rw [h]
  congr 2
  show 256 + (o + (r : ℕ)) % 4096 = _
  have := r.isLt
  omega

theorem rowsV_at (A : ℕ → Fin 512 → ℝ) (w : Vec Ideal S1x4096x512 .bf16) (h : ∀ (t : Fin 4096) (e : Fin 512), w (ix3 0 t e) = ((A (256 + t) e : ℝ) : EReal))
    (o : ℕ) (ho : o + 256 ≤ 4096) (r : Fin 256) (e : Fin 512) : rowsV w o (ix3 0 r e) = ((A (256 + o + r) e : ℝ) : EReal) := by
  show w (ix3 0 ⟨(o + (r : ℕ)) % 4096, _⟩ e) = _
  rw [h]
  congr 2
  show 256 + (o + (r : ℕ)) % 4096 = _
  have := r.isLt
  omega

/-- The forward state after the context. -/
theorem sf0_at (H : Holds Q K V qc kc vc Qv Kv Vv) (d : Fin 256) (e : Fin 512) :
    sf0 (tabOf (F := Ideal) (lf : EReal) (lb : EReal)) kc vc (ix2 d e) = ((st lf K (fun s => V s e) 256 d : ℝ) : EReal) := by
  unfold sf0
  pointwise [k0_pay45, k0_pay43, k0_pay40, k0_pay41]
  have h := st_step lf K (fun s => V s e) 0 d
  rw [st_zero, mul_zero, zero_add] at h
  simp only [zero_add] at h
  rw [h, mul_zero, zero_add, coe_sum]
  refine Finset.sum_congr rfl fun s _ => ?_
  rw [kf_at, H.hkc, H.hvc, ← EReal.coe_mul, ← EReal.coe_mul]

/-- The backward state after the context. -/
theorem sb0_at (H : Holds Q K V qc kc vc Qv Kv Vv) (d : Fin 256) (e : Fin 512) :
    sb0 (tabOf (F := Ideal) (lf : EReal) (lb : EReal)) kc vc (ix2 d e)
      = ((st lb (fun u => K (rev u)) (fun u => V (rev u) e) 256 d : ℝ) : EReal) := by
  unfold sb0
  pointwise [k0_pay47, k0_pay46, k0_pay40, k0_pay42]
  have h := st_step_rev lb (fun u => K (rev u)) (fun u => V (rev u) e) 0 d
  rw [st_zero, mul_zero, zero_add] at h
  simp only [zero_add] at h
  rw [h, mul_zero, zero_add, coe_sum]
  refine Finset.sum_congr rfl fun s _ => ?_
  have hs : rev (255 - (s : ℕ)) = s := by
    have := s.isLt
    unfold rev
    split <;> omega
  rw [kb_at, H.hkc, H.hvc, ← EReal.coe_mul, ← EReal.coe_mul, hs]

/-- The forward state before a latent chunk. -/
theorem SF_at (H : Holds Q K V qc kc vc Qv Kv Vv) (k : ℕ) (hk : k ≤ 16) (d : Fin 256) (e : Fin 512) :
    SF (tabOf (F := Ideal) (lf : EReal) (lb : EReal)) Kv Vv (sf0 (tabOf (F := Ideal) (lf : EReal) (lb : EReal)) kc vc) k (ix2 d e)
      = ((st lf K (fun s => V s e) (256 * (k + 1)) d : ℝ) : EReal) := by
  induction k with
  | zero => exact sf0_at H d e
  | succ k ih =>
    have ih := ih (by omega)
    unfold SF
    pointwise [k0_pay13, k0_pay11]
    rw [ih, cf_at, show 256 * (k + 1 + 1) = 256 * (k + 1) + 256 by ring, st_step, EReal.coe_add, EReal.coe_mul, coe_sum]
    congr 1
    refine Finset.sum_congr rfl fun s _ => ?_
    rw [kf_at, rowsQ_at K Kv H.hk _ (by omega), rowsV_at V Vv H.hv _ (by omega), ← EReal.coe_mul, ← EReal.coe_mul,
      show 256 + 256 * k = 256 * (k + 1) by ring]

/-- The backward state before the latent chunk visited at trip `k`. -/
theorem SB_at (H : Holds Q K V qc kc vc Qv Kv Vv) (k : ℕ) (hk : k ≤ 16) (d : Fin 256) (e : Fin 512) :
    SB (tabOf (F := Ideal) (lf : EReal) (lb : EReal)) Kv Vv (sb0 (tabOf (F := Ideal) (lf : EReal) (lb : EReal)) kc vc) k (ix2 d e)
      = ((st lb (fun u => K (rev u)) (fun u => V (rev u) e) (256 * (k + 1)) d : ℝ) : EReal) := by
  induction k with
  | zero => exact sb0_at H d e
  | succ k ih =>
    have ih := ih (by omega)
    unfold SB
    pointwise [k0_pay2]
    rw [ih, cb_at, show 256 * (k + 1 + 1) = 256 * (k + 1) + 256 by ring, st_step_rev, EReal.coe_add, EReal.coe_mul, coe_sum]
    congr 1
    refine Finset.sum_congr rfl fun s _ => ?_
    have hs : rev (256 * (k + 1) + (255 - (s : ℕ))) = 256 + (3840 - 256 * k) + s := by
      have := s.isLt
      unfold rev
      split <;> omega
    rw [kb_at, rowsQ_at K Kv H.hk _ (by omega), rowsV_at V Vv H.hv _ (by omega), ← EReal.coe_mul, ← EReal.coe_mul, hs]

/-- The score of a query and a key, among the extended reals. -/
theorem dot_coe (q k : Fin 256 → ℝ) : ∑ d, ((q d : ℝ) : EReal) * ((k d : ℝ) : EReal) = ((dot q k : ℝ) : EReal) := by
  unfold dot
  rw [coe_sum]
  exact Finset.sum_congr rfl fun d _ => (EReal.coe_mul _ _).symm

/-- The forward part of a latent chunk: the scores within the chunk, both directions, and the query read out of the state. -/
theorem OF_at (H : Holds Q K V qc kc vc Qv Kv Vv) (k : ℕ) (hk : k < 16) (r : Fin 256) (e : Fin 512) :
    OF (tabOf (F := Ideal) (lf : EReal) (lb : EReal)) Qv Kv Vv (sf0 (tabOf (F := Ideal) (lf : EReal) (lb : EReal)) kc vc) k (ix2 r e)
      = (((∑ s : Fin 256, dot (Q (256 * (k + 1) + r)) (K (256 * (k + 1) + s)) * (wt lf r s + wt lb s r) * V (256 * (k + 1) + s) e)
        + Real.exp (lf * ((r : ℕ) + 1)) * ∑ d, Q (256 * (k + 1) + r) d * st lf K (fun s => V s e) (256 * (k + 1)) d : ℝ) : EReal) := by
  unfold OF
  pointwise [k0_pay12, k0_pay11]
  rw [EReal.coe_add, EReal.coe_mul, coe_sum, coe_sum, qf_at]
  have hn : 256 + 256 * k = 256 * (k + 1) := by ring
  congr 1
  · refine Finset.sum_congr rfl fun s _ => ?_
    rw [m_at, rowsV_at V Vv H.hv _ (by omega), hn, EReal.coe_mul, EReal.coe_mul, ← dot_coe]
    congr 2
    refine Finset.sum_congr rfl fun d _ => ?_
    rw [rowsQ_at K Kv H.hk _ (by omega), rowsQ_at Q Qv H.hq _ (by omega), hn]
  · congr 1
    refine Finset.sum_congr rfl fun d _ => ?_
    rw [SF_at H k (by omega), rowsQ_at Q Qv H.hq _ (by omega), hn, EReal.coe_mul]

/-- The backward part of the latent chunk that starts at `256 j`. -/
theorem OB_at (H : Holds Q K V qc kc vc Qv Kv Vv) (j : ℕ) (hj : j < 16) (r : Fin 256) (e : Fin 512) :
    OB (tabOf (F := Ideal) (lf : EReal) (lb : EReal)) Qv Kv Vv (sb0 (tabOf (F := Ideal) (lf : EReal) (lb : EReal)) kc vc) (15 - j) (ix2 r e)
      = ((Real.exp (lb * (256 - (r : ℕ))) * ∑ d, Q (256 * (j + 1) + r) d * st lb (fun u => K (rev u)) (fun u => V (rev u) e) (256 * (16 - j)) d : ℝ) : EReal) := by
  unfold OB
  pointwise [k0_pay17]
  rw [EReal.coe_mul, coe_sum, qb_at]
  congr 1
  refine Finset.sum_congr rfl fun d _ => ?_
  rw [SB_at H _ (by omega), rowsQ_at Q Qv H.hq _ (by omega), EReal.coe_mul, show 256 + (3840 - 256 * (15 - j)) = 256 * (j + 1) by omega,
    show 15 - j + 1 = 16 - j by omega]

/-- What both directions gather at a token of the stream. -/
def both (lf lb : ℝ) (Q K : ℕ → Fin 256 → ℝ) (V : ℕ → Fin 512 → ℝ) (t u : ℕ) (e : Fin 512) : ℝ :=
  att lf Q K (fun s => V s e) 4352 t + att lb (fun u => Q (rev u)) (fun u => K (rev u)) (fun u => V (rev u) e) 4352 u

/-- Both parts of a latent token's result. -/
theorem parts (H : Holds Q K V qc kc vc Qv Kv Vv) (j : ℕ) (hj : j < 16) (r : Fin 256) (e : Fin 512) :
    OF (tabOf (F := Ideal) (lf : EReal) (lb : EReal)) Qv Kv Vv (sf0 (tabOf (F := Ideal) (lf : EReal) (lb : EReal)) kc vc) j (ix2 r e)
      + OB (tabOf (F := Ideal) (lf : EReal) (lb : EReal)) Qv Kv Vv (sb0 (tabOf (F := Ideal) (lf : EReal) (lb : EReal)) kc vc) (15 - j) (ix2 r e)
      = ((both lf lb Q K V (256 * (j + 1) + r) (256 * (16 - j) + (255 - r)) e : ℝ) : EReal) := by
  rw [OF_at H j hj, OB_at H j hj, ← EReal.coe_add]
  congr 1
  refine (total lf lb Q K (fun s => V s e) (256 * (j + 1)) (256 * (16 - j)) (by omega) (by omega) (fun s hs => ?_) r r.isLt).symm
  unfold rev
  split <;> omega

/-- A context token's result: within the one chunk, both directions; the states before it are zero. -/
theorem partC (H : Holds Q K V qc kc vc Qv Kv Vv) (r : Fin 256) (e : Fin 512) :
    k0_pay44 (tabOf (F := Ideal) (lf : EReal) (lb : EReal)).qf (tabOf (F := Ideal) (lf : EReal) (lb : EReal)).m (k0_pay39 qc) (k0_pay40 kc) vc (k0_pay41 (F := Ideal)) (ix2 r e)
      + (tabOf (F := Ideal) (lf : EReal) (lb : EReal)).qb (ix2 r 0) * ∑ d : Fin 256, k0_pay39 qc (ix2 r d) * k0_pay42 (F := Ideal) (ix2 d e)
      = ((both lf lb Q K V r (255 - r) e : ℝ) : EReal) := by
  have h := total lf lb Q K (fun s => V s e) 0 0 (by omega) (by omega) (fun s hs => by unfold rev; split <;> omega) r r.isLt
  simp only [st_zero, mul_zero, Finset.sum_const_zero, add_zero, zero_add] at h
  unfold both
  rw [h]
  pointwise [k0_pay44, k0_pay43, k0_pay39, k0_pay40, k0_pay41, k0_pay42]
  simp only [mul_zero, Finset.sum_const_zero, add_zero]
  rw [coe_sum]
  refine Finset.sum_congr rfl fun s _ => ?_
  rw [m_at, H.hvc, EReal.coe_mul, EReal.coe_mul, ← dot_coe]
  congr 2
  refine Finset.sum_congr rfl fun d _ => ?_
  rw [H.hkc, H.hqc]

end Cert.KernelIdeal.Ret
-- ==== Proof.Val.Norm.lean ====
/-
  One step's two output blocks at an index: each row of a head's gathered values is centred, scaled by the root of its
  mean square, weighted and gated.
-/
module

public import proofs.«01_k».proof.Proof.Val.Step

@[expose] public section

set_option maxRecDepth 16384

noncomputable section

namespace Cert.KernelIdeal.Ret

open Cert.KernelIdeal.Gen Cert.Ret
open Idealize.ShloMosaic Idealize.ShloMosaic.Pointwise

/-- A row with its mean taken away. -/
def centred (o : Fin 512 → EReal) (e : Fin 512) : EReal := o e - Ideal.div (∑ x, o x) (Ideal.ofBits .f32 0x44000000#32)

/-- A gated, normalised entry of a row. -/
def nrm (o : Fin 512 → EReal) (g gn : EReal) (e : Fin 512) : EReal :=
  g * Ideal.div 1 (1 + Ideal.exp (-g))
    * (centred o e * Ideal.rsqrt (Ideal.div (∑ x, centred o x * centred o x) (Ideal.ofBits .f32 0x44000000#32) + Ideal.ofBits .f32 0x358637BD#32) * gn)

variable {lf lb : ℝ} {Q K : ℕ → Fin 256 → ℝ} {V : ℕ → Fin 512 → ℝ} {qc kc : Vec Ideal S1x256x256 .bf16} {vc : Vec Ideal S1x256x512 .bf16}
  {Qv Kv : Vec Ideal S4096x256 .bf16} {Vv : Vec Ideal S1x4096x512 .bf16}

/-- The context block. -/
theorem YC_at (H : Holds Q K V qc kc vc Qv Kv Vv) (gc : Vec Ideal S1x256x512 .bf16) (gn : Vec Ideal S1x512 .f32) (r : Fin 256) (e : Fin 512) :
    YC (tabOf (F := Ideal) (lf : EReal) (lb : EReal)) qc kc vc gc gn (ix3 0 r e)
      = nrm (fun x => ((both lf lb Q K V r (255 - r) x : ℝ) : EReal)) (gc (ix3 0 r e)) (gn (ix2 0 e)) e := by
  unfold YC nrm centred
  pointwise [k0_pay1, k0_pay49, k0_pay48]
  simp only [partC H, zero_sub]

/-- The row the forward sweep finishes. -/
theorem rowF_at (a b : FVec Ideal S256x512 .f32) (g : Vec Ideal S1x256x512 .bf16) (gn : Vec Ideal S1x512 .f32) (r : Fin 256) (e : Fin 512) :
    k0_pay21 (F := Ideal) (k0_pay19 a b) (k0_pay20 gn) g (ix3 0 r e)
      = nrm (fun x => a (ix2 r x) + b (ix2 r x)) (g (ix3 0 r e)) (gn (ix2 0 e)) e := by
  unfold nrm centred
  pointwise [k0_pay21, k0_pay19, k0_pay20]
  simp only [zero_sub, add_comm]

/-- The row the backward sweep finishes. -/
theorem rowB_at (a b : FVec Ideal S256x512 .f32) (g : Vec Ideal S1x256x512 .bf16) (gn : Vec Ideal S1x512 .f32) (r : Fin 256) (e : Fin 512) :
    k0_pay5 (F := Ideal) (k0_pay22 a b gn) g (ix3 0 r e)
      = nrm (fun x => b (ix2 r x) + a (ix2 r x)) (g (ix3 0 r e)) (gn (ix2 0 e)) e := by
  unfold nrm centred
  pointwise [k0_pay5, k0_pay22]
  simp only [zero_sub, add_comm]

/-- The latent block. -/
theorem YL_at (H : Holds Q K V qc kc vc Qv Kv Vv) (G : Vec Ideal S1x4096x512 .bf16) (gn : Vec Ideal S1x512 .f32) (t : Fin 4096) (e : Fin 512) :
    YL (tabOf (F := Ideal) (lf : EReal) (lb : EReal)) Qv Kv Vv G gn (sf0 (tabOf (F := Ideal) (lf : EReal) (lb : EReal)) kc vc)
        (sb0 (tabOf (F := Ideal) (lf : EReal) (lb : EReal)) kc vc) (ix3 0 t e)
      = nrm (fun x => ((both lf lb Q K V (256 + t) (4351 - t) x : ℝ) : EReal)) (G (ix3 0 t e)) (gn (ix2 0 e)) e := by
  have ht := t.isLt
  have hp : ∀ x : Fin 512, ((both lf lb Q K V (256 + t) (4351 - t) x : ℝ) : EReal)
      = OF (tabOf (F := Ideal) (lf : EReal) (lb : EReal)) Qv Kv Vv (sf0 (tabOf (F := Ideal) (lf : EReal) (lb : EReal)) kc vc) ((t : ℕ) / 256)
          (ix2 ⟨(t : ℕ) % 256, Nat.mod_lt _ (by decide)⟩ x)
        + OB (tabOf (F := Ideal) (lf : EReal) (lb : EReal)) Qv Kv Vv (sb0 (tabOf (F := Ideal) (lf : EReal) (lb : EReal)) kc vc) (15 - (t : ℕ) / 256)
          (ix2 ⟨(t : ℕ) % 256, Nat.mod_lt _ (by decide)⟩ x) := by
    intro x
    rw [parts H ((t : ℕ) / 256) (by omega)]
    show _ = ((both lf lb Q K V (256 * ((t : ℕ) / 256 + 1) + (t : ℕ) % 256) (256 * (16 - (t : ℕ) / 256) + (255 - (t : ℕ) % 256)) x : ℝ) : EReal)
    rw [show 256 * ((t : ℕ) / 256 + 1) + (t : ℕ) % 256 = 256 + t by omega,
      show 256 * (16 - (t : ℕ) / 256) + (255 - (t : ℕ) % 256) = 4351 - t by omega]
  unfold YL
  by_cases h : 2048 ≤ (t : ℕ)
  · refine (if_pos h).trans ?_
    show YF (F := Ideal) _ _ _ _ _ _ _ _ ((t : ℕ) / 256 - 8) (ix3 0 ⟨(t : ℕ) % 256, Nat.mod_lt _ (by decide)⟩ e) = _
    unfold YF
    rw [rowF_at]
    have hG : rowsV G (256 * ((t : ℕ) / 256 - 8) + 2048) (ix3 0 ⟨(t : ℕ) % 256, Nat.mod_lt _ (by decide)⟩ e) = G (ix3 0 t e) := by
      show G (ix3 0 ⟨(256 * ((t : ℕ) / 256 - 8) + 2048 + (t : ℕ) % 256) % 4096, _⟩ e) = _
      congr 2
      exact Fin.ext (by show (256 * ((t : ℕ) / 256 - 8) + 2048 + (t : ℕ) % 256) % 4096 = t; omega)
    rw [hG]
    congr 1
    funext x
    rw [hp, show 8 + ((t : ℕ) / 256 - 8) = (t : ℕ) / 256 by omega]
    congr 1
    show OL (F := Ideal) _ _ _ _ _ _ (ix2 ⟨(256 * ((t : ℕ) / 256 - 8) + 2048 + (t : ℕ) % 256) % 4096, Nat.mod_lt _ (by decide)⟩ x) = _
    rw [show (⟨(256 * ((t : ℕ) / 256 - 8) + 2048 + (t : ℕ) % 256) % 4096, Nat.mod_lt _ (by decide)⟩ : Fin 4096) = t from
      Fin.ext (by show (256 * ((t : ℕ) / 256 - 8) + 2048 + (t : ℕ) % 256) % 4096 = t; omega)]
    unfold OL
    refine (if_neg (show ¬ (t : ℕ) < 2048 by omega)).trans ?_
    pointwise [k0_pay3]
  · refine (if_neg h).trans ?_
    show YB (F := Ideal) _ _ _ _ _ _ _ _ (7 - (t : ℕ) / 256) (ix3 0 ⟨(t : ℕ) % 256, Nat.mod_lt _ (by decide)⟩ e) = _
    unfold YB
    rw [rowB_at]
    have hG : rowsV G (1792 - 256 * (7 - (t : ℕ) / 256)) (ix3 0 ⟨(t : ℕ) % 256, Nat.mod_lt _ (by decide)⟩ e) = G (ix3 0 t e) := by
      show G (ix3 0 ⟨(1792 - 256 * (7 - (t : ℕ) / 256) + (t : ℕ) % 256) % 4096, _⟩ e) = _
      congr 2
      exact Fin.ext (by show (1792 - 256 * (7 - (t : ℕ) / 256) + (t : ℕ) % 256) % 4096 = t; omega)
    rw [hG]
    congr 1
    funext x
    rw [hp, show 8 + (7 - (t : ℕ) / 256) = 15 - (t : ℕ) / 256 by omega]
    congr 1
    show OL (F := Ideal) _ _ _ _ _ _ (ix2 ⟨(1792 - 256 * (7 - (t : ℕ) / 256) + (t : ℕ) % 256) % 4096, Nat.mod_lt _ (by decide)⟩ x) = _
    rw [show (⟨(1792 - 256 * (7 - (t : ℕ) / 256) + (t : ℕ) % 256) % 4096, Nat.mod_lt _ (by decide)⟩ : Fin 4096) = t from
      Fin.ext (by show (1792 - 256 * (7 - (t : ℕ) / 256) + (t : ℕ) % 256) % 4096 = t; omega)]
    unfold OL
    refine (if_pos (show (t : ℕ) < 2048 by omega)).trans ?_
    pointwise [k0_pay3]

end Cert.KernelIdeal.Ret
-- ==== Proof.Val.Ref.lean ====
/-
  The reference's scores times values in both directions, and its rows: for each token the two directions' sums over the stream.
-/
module

public import proofs.«01_k».proof.Proof.Val.Sums
public import proofs.«01_k».proof.Proof.Val.Norm
public import Idealize.ShloMosaic.Lib.Pointwise

@[expose] public section

set_option maxRecDepth 16384
set_option maxHeartbeats 4000000

noncomputable section

namespace Cert.ReferenceIdeal.Value

open Cert.ReferenceIdeal Cert.ReferenceIdeal.Gen Cert.Ret
open Cert.KernelIdeal.Ret (coe_sum dot_coe both nrm centred)
open Idealize.ShloMosaic Idealize.ShloMosaic.TcCoe Idealize.ShloMosaic.Pointwise Idealize.ShloMosaic.StableHlo

/-- One head's operands of the scores hold a stream of real queries, keys and values. -/
structure Stream (V0 : Valuation τ sig (Elt Ideal)) (b : Fin 16) (h : Fin 4) (lf lb : ℝ) (Q K : ℕ → Fin 256 → ℝ) (V : ℕ → Fin 512 → ℝ) : Prop where
  hf : (res_main_v0 V0 (ix2 0 h) : EReal) = (lf : EReal)
  hb : (res_main_v0 V0 (ix2 1 h) : EReal) = (lb : EReal)
  hqc : ∀ (t : Fin 256) (d : Fin 256), (res_main_v7 V0 (ix4 b h t d) : EReal) = ((Q t d : ℝ) : EReal)
  hkc : ∀ (t : Fin 256) (d : Fin 256), (res_main_v11 V0 (ix4 b h t d) : EReal) = ((K t d : ℝ) : EReal)
  hvc : ∀ (t : Fin 256) (e : Fin 512), (res_main_v13 V0 (ix4 b h t e) : EReal) = ((V t e : ℝ) : EReal)
  hq : ∀ (t : Fin 4096) (d : Fin 256), (res_main_v94 V0 (ix4 b h t d) : EReal) = ((Q (256 + t) d : ℝ) : EReal)
  hk : ∀ (t : Fin 4096) (d : Fin 256), (res_main_v156 V0 (ix4 b h t d) : EReal) = ((K (256 + t) d : ℝ) : EReal)
  hv : ∀ (t : Fin 4096) (e : Fin 512), (res_main_v158 V0 (ix4 b h t e) : EReal) = ((V (256 + t) e : ℝ) : EReal)

theorem at_most (t s : ℕ) (ht : t < 4352) (hs : s < 4352) :
    IntOp.cmpi .sge (IntOp.addi (BitVec.ofNat 32 t) 0#32) (BitVec.ofNat 32 s) = if s ≤ t then 1#1 else 0#1 := by
  have h1 : (BitVec.ofNat 32 t).toInt = t := by
    rw [BitVec.toInt_eq_toNat_of_lt (by rw [BitVec.toNat_ofNat, Nat.mod_eq_of_lt (by omega)]; omega), BitVec.toNat_ofNat, Nat.mod_eq_of_lt (by omega)]
  have h2 : (BitVec.ofNat 32 s).toInt = s := by
    rw [BitVec.toInt_eq_toNat_of_lt (by rw [BitVec.toNat_ofNat, Nat.mod_eq_of_lt (by omega)]; omega), BitVec.toNat_ofNat, Nat.mod_eq_of_lt (by omega)]
  have h0 : IntOp.addi (BitVec.ofNat 32 t) 0#32 = BitVec.ofNat 32 t := BitVec.add_zero _
  rw [h0]
  by_cases h : s ≤ t
  · rw [if_pos h]
    exact IntOp.cmpi_sge.2 (by rw [h1, h2]; exact_mod_cast h)
  · rw [if_neg h]
    have hn : ¬ IntOp.cmpi .sge (BitVec.ofNat 32 t) (BitVec.ofNat 32 s) = 1#1 := fun c => h (by
      have := IntOp.cmpi_sge.1 c
      rw [h1, h2] at this
      exact_mod_cast this)
    generalize IntOp.cmpi .sge (BitVec.ofNat 32 t) (BitVec.ofNat 32 s) = z at hn
    revert hn; revert z; decide

/-- The decay from token `s` to token `t`: nothing where `s` comes later. -/
theorem weight (l : ℝ) (t s : ℕ) (ht : t < 4352) (hs : s < 4352) (a b : EReal) (ha : a = (((t + 1 : ℝ) * l : ℝ) : EReal)) (hb : b = (((s + 1 : ℝ) * l : ℝ) : EReal)) :
    Ideal.exp (Scalar.select (Scalar.select (IntOp.cmpi .sge (IntOp.addi (BitVec.ofNat 32 t) 0#32) (BitVec.ofNat 32 s)) 1#1 0#1)
        (a - b) (id (constant (F := Ideal) S_ .f32 0xFF800000#32) ix0))
      = ((if s ≤ t then Real.exp (l * ((t : ℝ) - s)) else 0 : ℝ) : EReal) := by
  rw [at_most t s ht hs, ha, hb]
  by_cases h : s ≤ t
  · rw [if_pos h, if_pos h]
    show Ideal.exp (_ - _) = _
    rw [← EReal.coe_sub, Ideal.exp_coe]
    congr 2
    ring
  · rw [if_neg h, if_neg h]
    show Ideal.exp (Ideal.ofBits .f32 0xFF800000#32) = _
    rw [show Ideal.ofBits .f32 0xFF800000#32 = (⊥ : EReal) by simp [Ideal.ofBits, Ideal.ieee]]
    rfl

theorem att_sum (l : ℝ) (Q K : ℕ → Fin 256 → ℝ) (V : ℕ → ℝ) (t : ℕ) :
    (∑ x : Fin 256, (∑ d, ((Q t d : ℝ) : EReal) * ((K x d : ℝ) : EReal)) * ((if (x : ℕ) ≤ t then Real.exp (l * ((t : ℝ) - (x : ℕ))) else 0 : ℝ) : EReal) * ((V x : ℝ) : EReal))
      + (∑ x : Fin 4096, (∑ d, ((Q t d : ℝ) : EReal) * ((K (256 + x) d : ℝ) : EReal))
          * ((if 256 + (x : ℕ) ≤ t then Real.exp (l * ((t : ℝ) - (256 + (x : ℕ) : ℕ))) else 0 : ℝ) : EReal) * ((V (256 + x) : ℝ) : EReal))
      = ((att l Q K V 4352 t : ℝ) : EReal) := by
  unfold att
  rw [show (4352 : ℕ) = 256 + 4096 from rfl, Finset.sum_range_add, EReal.coe_add]
  rw [← Fin.sum_univ_eq_sum_range (fun s => dot (Q t) (K s) * (if s ≤ t then Real.exp (l * ((t : ℝ) - s)) else 0) * V s) 256,
    ← Fin.sum_univ_eq_sum_range (fun s => dot (Q t) (K (256 + s)) * (if 256 + s ≤ t then Real.exp (l * ((t : ℝ) - (256 + s : ℕ))) else 0) * V (256 + s)) 4096]
  rw [coe_sum, coe_sum]
  congr 1

variable {V0 : Valuation τ sig (Elt Ideal)} {b : Fin 16} {h : Fin 4} {lf lb : ℝ} {Q K : ℕ → Fin 256 → ℝ} {V : ℕ → Fin 512 → ℝ}

/-- The forward direction. -/
theorem fwd (H : Stream V0 b h lf lb Q K V) (t : Fin 4352) (e : Fin 512) :
    (res_main_v183 V0 (ix4 b h t e) : EReal) = ((att lf Q K (fun s => V s e) 4352 t : ℝ) : EReal) := by
  have ht := t.isLt
  refine Eq.trans ?_ (att_sum lf Q K (fun s => V s e) t)
  pointwise [res_main_v183]
  have hq : ∀ d : Fin 256, (if h1 : (t : ℕ) < 256 then (res_main_v7 V0 (ix4 b h ⟨(t : ℕ), h1⟩ d) : EReal)
      else res_main_v94 V0 (ix4 b h ⟨(t : ℕ) - 256, by omega⟩ d)) = ((Q t d : ℝ) : EReal) := fun d => by
    split_ifs with h1
    · rw [H.hqc]
    · rw [H.hq]; congr 2; show 256 + ((t : ℕ) - 256) = t; omega
  refine congrArg₂ (· + ·) (Finset.sum_congr rfl fun x _ => ?_) (Finset.sum_congr rfl fun x _ => ?_)
  · have hx := x.isLt
    refine congrArg₂ (· * ·) (congrArg₂ (· * ·) (Finset.sum_congr rfl fun d _ => congrArg₂ (· * ·) (hq d) (H.hkc x d)) ?_) (H.hvc x e)
    exact weight lf t x ht (by omega) _ _ (sumF_at V0 b h lf H.hf t) (sumF_at V0 b h lf H.hf ⟨x, by omega⟩)
  · have hx := x.isLt
    refine congrArg₂ (· * ·) (congrArg₂ (· * ·) (Finset.sum_congr rfl fun d _ => congrArg₂ (· * ·) (hq d) (H.hk x d)) ?_) (H.hv x e)
    exact weight lf t (256 + x) ht (by omega) _ _ (sumF_at V0 b h lf H.hf t) (sumF_at V0 b h lf H.hf ⟨256 + x, by omega⟩)

theorem rev_ctx (x : Fin 256) : rev x = (x.rev : ℕ) := by
  have := x.isLt
  unfold rev
  rw [if_pos this, Fin.val_rev]
  omega

theorem rev_lat (x : Fin 4096) : rev (256 + x) = 256 + (x.rev : ℕ) := by
  have := x.isLt
  unfold rev
  rw [if_neg (by omega), Fin.val_rev]
  omega

/-- The backward direction. -/
theorem bwd (H : Stream V0 b h lf lb Q K V) (t : Fin 4352) (e : Fin 512) :
    (res_main_v210 V0 (ix4 b h t e) : EReal)
      = ((att lb (fun u => Q (rev u)) (fun u => K (rev u)) (fun u => V (rev u) e) 4352 t : ℝ) : EReal) := by
  have ht := t.isLt
  refine Eq.trans ?_ (att_sum lb (fun u => Q (rev u)) (fun u => K (rev u)) (fun u => V (rev u) e) t)
  pointwise [res_main_v210]
  have hq : ∀ d : Fin 256, (if h1 : (t : ℕ) < 256 then (res_main_v7 V0 (ix4 b h (⟨(t : ℕ), h1⟩ : Fin 256).rev d) : EReal)
      else res_main_v94 V0 (ix4 b h (⟨(t : ℕ) - 256, by omega⟩ : Fin 4096).rev d)) = ((Q (rev t) d : ℝ) : EReal) := fun d => by
    split_ifs with h1
    · rw [H.hqc, ← rev_ctx]
    · rw [H.hq, ← rev_lat]; congr 3; show 256 + ((t : ℕ) - 256) = t; omega
  refine congrArg₂ (· + ·) (Finset.sum_congr rfl fun x _ => ?_) (Finset.sum_congr rfl fun x _ => ?_)
  · have hx := x.isLt
    refine congrArg₂ (· * ·) (congrArg₂ (· * ·) (Finset.sum_congr rfl fun d _ => congrArg₂ (· * ·) (hq d) ((H.hkc x.rev d).trans (by rw [← rev_ctx]))) ?_)
      ((H.hvc x.rev e).trans (by rw [← rev_ctx]))
    exact weight lb t x ht (by omega) _ _ (sumB_at V0 b h lb H.hb t) (sumB_at V0 b h lb H.hb ⟨x, by omega⟩)
  · have hx := x.isLt
    refine congrArg₂ (· * ·) (congrArg₂ (· * ·) (Finset.sum_congr rfl fun d _ => congrArg₂ (· * ·) (hq d) ((H.hk x.rev d).trans (by rw [← rev_lat]))) ?_)
      ((H.hv x.rev e).trans (by rw [← rev_lat]))
    exact weight lb t (256 + x) ht (by omega) _ _ (sumB_at V0 b h lb H.hb t) (sumB_at V0 b h lb H.hb ⟨256 + x, by omega⟩)

/-- A context token's row. -/
theorem rowC (H : Stream V0 b h lf lb Q K V) (t : Fin 256) (e : Fin 512) :
    (res_main_v217 V0 (ix4 b t h e) : EReal) = ((both lf lb Q K V t (255 - t) e : ℝ) : EReal) := by
  have ht := t.isLt
  pointwise [res_main_v217]
  unfold both
  rw [EReal.coe_add]
  refine congrArg₂ (· + ·) ((fwd H ⟨t, by omega⟩ e)) ((bwd H ⟨(t.rev : ℕ), by have := t.rev.isLt; omega⟩ e).trans ?_)
  dsimp only
  rw [Fin.val_rev, show 256 - ((t : ℕ) + 1) = 255 - t by omega]

/-- A latent token's row. -/
theorem rowL (H : Stream V0 b h lf lb Q K V) (t : Fin 4096) (e : Fin 512) :
    (res_main_v241 V0 (ix4 b t h e) : EReal) = ((both lf lb Q K V (256 + t) (4351 - t) e : ℝ) : EReal) := by
  have ht := t.isLt
  pointwise [res_main_v241]
  unfold both
  rw [EReal.coe_add]
  refine congrArg₂ (· + ·) ((fwd H ⟨256 + t, by omega⟩ e)) ((bwd H ⟨256 + (t.rev : ℕ), by have := t.rev.isLt; omega⟩ e).trans ?_)
  dsimp only
  rw [Fin.val_rev, show 256 + (4096 - ((t : ℕ) + 1)) = 4351 - t by omega]

end Cert.ReferenceIdeal.Value
-- ==== Proof.Val.Out.lean ====
/-
  The reference's results, entry by entry: each token's row, centred, scaled, and gated.
-/
module

public import proofs.«01_k».proof.Proof.Val.Ref

@[expose] public section

set_option maxRecDepth 16384
set_option maxHeartbeats 4000000

noncomputable section

namespace Cert.ReferenceIdeal.Value

open Cert.ReferenceIdeal Cert.ReferenceIdeal.Gen Cert.Ret
open Cert.KernelIdeal.Ret (coe_sum dot_coe both nrm centred)
open Idealize.ShloMosaic Idealize.ShloMosaic.TcCoe Idealize.ShloMosaic.Pointwise Idealize.ShloMosaic.StableHlo

variable {V0 : Valuation τ sig (Elt Ideal)} {b : Fin 16} {h : Fin 4} {lf lb : ℝ} {Q K : ℕ → Fin 256 → ℝ} {V : ℕ → Fin 512 → ℝ}

theorem scaledC (y : FVec Ideal S16x256x4x512 .f32) (b : Fin 16) (t : Fin 256) (h : Fin 4) (e : Fin 512) :
    (mulf y (broadcastInDim S16x256x4x512 ![0, 1, 2, 3] bcast_S16x256x4x1_S16x256x4x512_0_1_2_3 (Host.rsqrt (addf (Host.divf (broadcastInDim S16x256x4x1 ![0, 1, 2] bcast_S16x256x4_S16x256x4x1_0_1_2 (Host.reduceAdd (mulf y y) (constant S_ .f32 0x00000000#32) reducesTo_S16x256x4x512_S16x256x4_d3 h_S_)) (broadcastInDim S16x256x4x1 ![] bcast_S_S16x256x4x1 (constant S_ .f32 0x44000000#32))) (broadcastInDim S16x256x4x1 ![] bcast_S_S16x256x4x1 (constant S_ .f32 0x358637BD#32))))) (ix4 b t h e) : EReal)
      = y (ix4 b t h e) * Ideal.rsqrt (Ideal.div (∑ x, y (ix4 b t h x) * y (ix4 b t h x)) (Ideal.ofBits .f32 0x44000000#32) + Ideal.ofBits .f32 0x358637BD#32) := by
  pointwise

theorem gatedC (g : FVec Ideal S16x256x2048 .f32) (w : FVec Ideal S16x256x4x512 .f32) (gn : FVec Ideal S2048 .f32) (b : Fin 16) (t : Fin 256) (k : Fin 2048) :
    (truncf .bf16 (mulf (mulf g (Host.divf (broadcastInDim S16x256x2048 ![] bcast_S_S16x256x2048 (constant S_ .f32 0x3F800000#32)) (addf (broadcastInDim S16x256x2048 ![] bcast_S_S16x256x2048 (constant S_ .f32 0x3F800000#32)) (Host.exp (Host.negf g))))) (mulf (shapeCast S16x256x2048 w shapeCasts_S16x256x4x512_S16x256x2048) (broadcastInDim S16x256x2048 ![0, 1, 2] bcast_S1x1x2048_S16x256x2048_0_1_2 (broadcastInDim S1x1x2048 ![2] bcast_S2048_S1x1x2048_2 gn)))) bitsLt_bf16_f32 (ix3 b t k) : EReal)
      = g (ix3 b t k) * Ideal.div 1 (1 + Ideal.exp (-g (ix3 b t k)))
        * (w (ix4 b t ⟨k.val / 512, by omega⟩ ⟨k.val % 512, by omega⟩) * gn (ix1 k)) := by
  pointwise

theorem centredC (H : Stream V0 b h lf lb Q K V) (t : Fin 256) (e : Fin 512) :
    (res_main_v223 V0 (ix4 b t h e) : EReal) = centred (fun x => ((both lf lb Q K V t (255 - t) x : ℝ) : EReal)) e := by
  pointwise [res_main_v223]
  simp only [rowC H]
  rfl

theorem gateC (t : Fin 256) (k : Fin 2048) :
    (res_main_v5 V0 (ix3 b t k) : EReal) = V0 (Proc.devRef .tc main_arg0) (ix3 b t ⟨4096 + k.val, by have := k.isLt; omega⟩) := by
  pointwise [res_main_v5, res_main_v1]

/-- A context token's result. -/
theorem outC (H : Stream V0 b h lf lb Q K V) (t : Fin 256) (e : Fin 512) (k : Fin 2048) (hk : k.val = 512 * h.val + e.val) :
    (val5 V0 (Proc.devRef .tc main_v240) (ix3 b t k) : EReal)
      = nrm (fun x => ((both lf lb Q K V t (255 - t) x : ℝ) : EReal)) (V0 (Proc.devRef .tc main_arg0) (ix3 b t ⟨4096 + k.val, by have := k.isLt; omega⟩))
          (V0 (Proc.devRef .tc main_arg3) (ix1 k)) e := by
  have he := e.isLt
  have hh := h.isLt
  have e1 : (⟨k.val / 512, by omega⟩ : Fin 4) = h := Fin.ext (by show k.val / 512 = h.val; omega)
  have e2 : (⟨k.val % 512, Nat.mod_lt _ (by decide)⟩ : Fin 512) = e := Fin.ext (by show k.val % 512 = e.val; omega)
  rw [val5_main_v240]
  refine (gatedC _ _ _ b t k).trans ?_
  rw [e1, e2, scaledC, gateC]
  simp only [centredC H]
  rfl

theorem scaledL (y : FVec Ideal S16x4096x4x512 .f32) (b : Fin 16) (t : Fin 4096) (h : Fin 4) (e : Fin 512) :
    (mulf y (broadcastInDim S16x4096x4x512 ![0, 1, 2, 3] bcast_S16x4096x4x1_S16x4096x4x512_0_1_2_3 (Host.rsqrt (addf (Host.divf (broadcastInDim S16x4096x4x1 ![0, 1, 2] bcast_S16x4096x4_S16x4096x4x1_0_1_2 (Host.reduceAdd (mulf y y) (constant S_ .f32 0x00000000#32) reducesTo_S16x4096x4x512_S16x4096x4_d3 h_S_)) (broadcastInDim S16x4096x4x1 ![] bcast_S_S16x4096x4x1 (constant S_ .f32 0x44000000#32))) (broadcastInDim S16x4096x4x1 ![] bcast_S_S16x4096x4x1 (constant S_ .f32 0x358637BD#32))))) (ix4 b t h e) : EReal)
      = y (ix4 b t h e) * Ideal.rsqrt (Ideal.div (∑ x, y (ix4 b t h x) * y (ix4 b t h x)) (Ideal.ofBits .f32 0x44000000#32) + Ideal.ofBits .f32 0x358637BD#32) := by
  pointwise

theorem gatedL (g : FVec Ideal S16x4096x2048 .f32) (w : FVec Ideal S16x4096x4x512 .f32) (gn : FVec Ideal S2048 .f32) (b : Fin 16) (t : Fin 4096) (k : Fin 2048) :
    (truncf .bf16 (mulf (mulf g (Host.divf (broadcastInDim S16x4096x2048 ![] bcast_S_S16x4096x2048 (constant S_ .f32 0x3F800000#32)) (addf (broadcastInDim S16x4096x2048 ![] bcast_S_S16x4096x2048 (constant S_ .f32 0x3F800000#32)) (Host.exp (Host.negf g))))) (mulf (shapeCast S16x4096x2048 w shapeCasts_S16x4096x4x512_S16x4096x2048) (broadcastInDim S16x4096x2048 ![0, 1, 2] bcast_S1x1x2048_S16x4096x2048_0_1_2 (broadcastInDim S1x1x2048 ![2] bcast_S2048_S1x1x2048_2 gn)))) bitsLt_bf16_f32 (ix3 b t k) : EReal)
      = g (ix3 b t k) * Ideal.div 1 (1 + Ideal.exp (-g (ix3 b t k)))
        * (w (ix4 b t ⟨k.val / 512, by omega⟩ ⟨k.val % 512, by omega⟩) * gn (ix1 k)) := by
  pointwise

theorem centredL (H : Stream V0 b h lf lb Q K V) (t : Fin 4096) (e : Fin 512) :
    (res_main_v247 V0 (ix4 b t h e) : EReal) = centred (fun x => ((both lf lb Q K V (256 + t) (4351 - t) x : ℝ) : EReal)) e := by
  pointwise [res_main_v247]
  simp only [rowL H]
  rfl

theorem gateL (t : Fin 4096) (k : Fin 2048) :
    (res_main_v26 V0 (ix3 b t k) : EReal) = V0 (Proc.devRef .tc main_arg1) (ix3 b t ⟨4096 + k.val, by have := k.isLt; omega⟩) := by
  pointwise [res_main_v26, res_main_v22]

/-- A latent token's result. -/
theorem outL (H : Stream V0 b h lf lb Q K V) (t : Fin 4096) (e : Fin 512) (k : Fin 2048) (hk : k.val = 512 * h.val + e.val) :
    (val5 V0 (Proc.devRef .tc main_v264) (ix3 b t k) : EReal)
      = nrm (fun x => ((both lf lb Q K V (256 + t) (4351 - t) x : ℝ) : EReal)) (V0 (Proc.devRef .tc main_arg1) (ix3 b t ⟨4096 + k.val, by have := k.isLt; omega⟩))
          (V0 (Proc.devRef .tc main_arg3) (ix1 k)) e := by
  have he := e.isLt
  have hh := h.isLt
  have e1 : (⟨k.val / 512, by omega⟩ : Fin 4) = h := Fin.ext (by show k.val / 512 = h.val; omega)
  have e2 : (⟨k.val % 512, Nat.mod_lt _ (by decide)⟩ : Fin 512) = e := Fin.ext (by show k.val % 512 = e.val; omega)
  rw [val5_main_v264]
  refine (gatedL _ _ _ b t k).trans ?_
  rw [e1, e2, scaledL, gateL]
  simp only [centredL H]
  rfl

end Cert.ReferenceIdeal.Value
-- ==== Proof.Val.Eq.lean ====
/-
  The kernel's two arrays are the reference's two results.
-/
module

public import proofs.«01_k».proof.Proof.Val.Arrays
public import proofs.«01_k».proof.Proof.Val.Pre
public import proofs.«01_k».proof.Proof.Val.Turn
public import proofs.«01_k».proof.Proof.Val.Out
public import proofs.«01_k».proof.Proof.Val.Norm

@[expose] public section

set_option maxRecDepth 16384
set_option maxHeartbeats 4000000

noncomputable section

namespace Cert.Ret

open Idealize.ShloMosaic Idealize.ShloMosaic.Pointwise

/-- Entry `k` of token `t` of an array of projections, as a real number; the token and the column are taken modulo the array's extents. -/
def ent {n : ℕ} (hn : 0 < n) (P : Fin 16 → Fin n → Fin 6144 → EReal) (b : Fin 16) (t k : ℕ) : ℝ :=
  (P b ⟨t % n, Nat.mod_lt _ hn⟩ ⟨k % 6144, Nat.mod_lt _ (by decide)⟩).toReal

theorem ent_coe {n : ℕ} (hn : 0 < n) (P : Fin 16 → Fin n → Fin 6144 → EReal)
    (hP : ∀ (b : Fin 16) (t : Fin n) (d : Fin 6144), d.val < 4096 → ∃ r : ℝ, P b t d = (r : EReal))
    (b : Fin 16) (t : Fin n) (k : Fin 6144) (k' : ℕ) (hk : k.val = k') (h : k' < 4096) :
    P b t k = ((ent hn P b t k' : ℝ) : EReal) := by
  subst hk
  unfold ent
  have e1 : (⟨(t : ℕ) % n, Nat.mod_lt _ hn⟩ : Fin n) = t := Fin.ext (Nat.mod_eq_of_lt t.isLt)
  have e2 : (⟨(k : ℕ) % 6144, Nat.mod_lt _ (by decide)⟩ : Fin 6144) = k := Fin.ext (Nat.mod_eq_of_lt k.isLt)
  rw [e1, e2]
  obtain ⟨r, hr⟩ := hP b t k h
  rw [hr, EReal.toReal_coe]

variable (P0 : Fin 16 → Fin 256 → Fin 6144 → EReal) (P1 : Fin 16 → Fin 4096 → Fin 6144 → EReal) (b : Fin 16) (h : ℕ)

/-- The latent queries before their rotation. -/
def preQ (t d : ℕ) : ℝ := ent (by decide) P1 b t (256 * h + d)

/-- The latent keys, scaled, before their rotation. -/
def preK (t d : ℕ) : ℝ := ent (by decide) P1 b t (1024 + 256 * h + d) * (1 / 16)

/-- One head's queries: the context's tokens, then the latent tokens, rotated. -/
def headQ (u : ℕ) (d : Fin 256) : ℝ :=
  if u < 256 then ent (by decide) P0 b u (256 * h + d) else rot (preQ P1 b h (u - 256)) (u - 256) d

/-- One head's keys. -/
def headK (u : ℕ) (d : Fin 256) : ℝ :=
  if u < 256 then ent (by decide) P0 b u (1024 + 256 * h + d) * (1 / 16) else rot (preK P1 b h (u - 256)) (u - 256) d

/-- One head's values. -/
def headV (u : ℕ) (e : Fin 512) : ℝ :=
  if u < 256 then ent (by decide) P0 b u (2048 + 512 * h + e) else ent (by decide) P1 b (u - 256) (2048 + 512 * h + e)

/-- The entries the precondition speaks of are real. -/
structure Reals : Prop where
  h0 : ∀ (b : Fin 16) (t : Fin 256) (d : Fin 6144), d.val < 4096 → ∃ r : ℝ, P0 b t d = (r : EReal)
  h1 : ∀ (b : Fin 16) (t : Fin 4096) (d : Fin 6144), d.val < 4096 → ∃ r : ℝ, P1 b t d = (r : EReal)

variable {P0 P1}

theorem late (t : ℕ) : ¬ 256 + t < 256 := by omega
theorem late_sub (t : ℕ) : 256 + t - 256 = t := by omega

theorem sixteenth_mul (x : EReal) (r : ℝ) (hx : x = (r : EReal)) : x * Ideal.ofBits .f32 0x3D800000#32 = ((r * (1 / 16) : ℝ) : EReal) := by
  rw [hx, Cert.KernelIdeal.Ret.bits_sixteenth, ← EReal.coe_mul]

end Cert.Ret

namespace Cert.KernelIdeal.Ret

open Cert.KernelIdeal.Gen Cert.Ret
open Idealize.ShloMosaic Idealize.ShloMosaic.TcCoe Idealize.ShloMosaic.Pointwise

variable (m : (ℓ : Loc nD τ sig) → Buf (Elt Ideal) ℓ) (c : Dev nD) (t : Fin cfg0.N)

/-- The context's projections. -/
def ctx (b : Fin 16) (t : Fin 256) (k : Fin 6144) : EReal := m ((c : Thread nD τ).loc main_arg0) (ix3 b t k)

/-- The latent tokens' projections. -/
def lat (b : Fin 16) (t : Fin 4096) (k : Fin 6144) : EReal := m ((c : Thread nD τ).loc main_arg1) (ix3 b t k)

/-- The batch entry of a step. -/
def bOf : Fin 16 := grid0.coords t 0

/-- The head of a step. -/
def hOf : Fin 4 := grid0.coords t 1

theorem tabsR : Tables (iblk m c 10 t) (iblk m c 11 t) := ⟨tab10 m c t, tab11 m c t⟩
theorem tabsC : Tables (iblk m c 12 t) (iblk m c 13 t) := ⟨tab12 m c t, tab13 m c t⟩

/-- A step's blocks hold one head's queries, keys and values. -/
theorem holds (R : Reals (ctx m c) (lat m c)) :
    Holds (headQ (ctx m c) (lat m c) (bOf t) (hOf t)) (headK (ctx m c) (lat m c) (bOf t) (hOf t)) (headV (ctx m c) (lat m c) (bOf t) (hOf t))
      (iblk m c 1 t) (iblk m c 2 t) (iblk m c 3 t) (ropeQ (iblk m c 5 t) (iblk m c 10 t) (iblk m c 11 t) (iblk m c 12 t) (iblk m c 13 t))
      (ropeK (iblk m c 6 t) (iblk m c 10 t) (iblk m c 11 t) (iblk m c 12 t) (iblk m c 13 t)) (iblk m c 7 t) where
  hqc r d := by
    have hh := lt1 t
    have hd := d.isLt
    rw [blk1]
    unfold headQ
    rw [if_pos r.isLt]
    exact ent_coe _ (ctx m c) R.h0 (bOf t) r _ _ (by show 0 + 256 * (hOf t).val + d.val = _; omega) (by show 256 * (grid0.coords t 1).val + d.val < _; omega)
  hkc r d := by
    have hh := lt1 t
    have hd := d.isLt
    rw [blk2]
    unfold headK
    rw [if_pos r.isLt]
    exact sixteenth_mul _ _ (ent_coe _ (ctx m c) R.h0 (bOf t) r _ _ rfl (by show 1024 + 256 * (grid0.coords t 1).val + d.val < _; omega))
  hvc r d := by
    have hh := lt1 t
    have hd := d.isLt
    rw [blk3]
    unfold headV
    rw [if_pos r.isLt]
    exact ent_coe _ (ctx m c) R.h0 (bOf t) r _ _ rfl (by show 2048 + 512 * (grid0.coords t 1).val + d.val < _; omega)
  hq r d := by
    unfold headQ
    rw [if_neg (late r), late_sub]
    refine ropeQ_at (fun u x => ?_) (tabsR m c t) (tabsC m c t) r d
    have hh := lt1 t
    have hd := x.isLt
    rw [blk5]
    exact ent_coe _ (lat m c) R.h1 (bOf t) u _ _ (by show 0 + 256 * (hOf t).val + x.val = _; omega) (by show 256 * (grid0.coords t 1).val + x.val < _; omega)
  hk r d := by
    unfold headK
    rw [if_neg (late r), late_sub]
    refine ropeK_at (fun u x => ?_) (tabsR m c t) (tabsC m c t) r d
    have hh := lt1 t
    have hd := x.isLt
    rw [blk6]
    exact sixteenth_mul _ _ (ent_coe _ (lat m c) R.h1 (bOf t) u _ _ rfl (by show 1024 + 256 * (grid0.coords t 1).val + x.val < _; omega))
  hv r d := by
    have hh := lt1 t
    have hd := d.isLt
    rw [blk7]
    unfold headV
    rw [if_neg (late r), late_sub]
    exact ent_coe _ (lat m c) R.h1 (bOf t) r _ _ rfl (by show 2048 + 512 * (grid0.coords t 1).val + d.val < _; omega)

end Cert.KernelIdeal.Ret

namespace Cert.ReferenceIdeal.Value

open Cert.ReferenceIdeal Cert.ReferenceIdeal.Gen Cert.Ret
open Idealize.ShloMosaic Idealize.ShloMosaic.TcCoe Idealize.ShloMosaic.Pointwise Idealize.ShloMosaic.StableHlo

variable (V0 : Valuation τ sig (Elt Ideal))

/-- The context's projections, as the reference holds them. -/
def ctx (b : Fin 16) (t : Fin 256) (k : Fin 6144) : EReal := V0 (Proc.devRef .tc main_arg0) (ix3 b t k)

/-- The latent tokens' projections, as the reference holds them. -/
def lat (b : Fin 16) (t : Fin 4096) (k : Fin 6144) : EReal := V0 (Proc.devRef .tc main_arg1) (ix3 b t k)

theorem v7_at (b : Fin 16) (h : Fin 4) (t : Fin 256) (d : Fin 256) : (res_main_v7 V0 (ix4 b h t d) : EReal)
    = ctx V0 b t ⟨h * 256 + d, by have := h.isLt; have := d.isLt; omega⟩ := by
  unfold ctx
  pointwise [res_main_v7, res_main_v1]

theorem v11_at (b : Fin 16) (h : Fin 4) (t : Fin 256) (d : Fin 256) : (res_main_v11 V0 (ix4 b h t d) : EReal)
    = ctx V0 b t ⟨1024 + (h * 256 + d), by have := h.isLt; have := d.isLt; omega⟩ * Ideal.ofBits .f32 0x3D800000#32 := by
  unfold ctx
  pointwise [res_main_v11, res_main_v1]

theorem v13_at (b : Fin 16) (h : Fin 4) (t : Fin 256) (d : Fin 512) : (res_main_v13 V0 (ix4 b h t d) : EReal)
    = ctx V0 b t ⟨2048 + (h * 512 + d), by have := h.isLt; have := d.isLt; omega⟩ := by
  unfold ctx
  pointwise [res_main_v13, res_main_v1]

theorem v28_at (b : Fin 16) (h : Fin 4) (t : Fin 4096) (d : Fin 256) : (res_main_v28 V0 (ix4 b h t d) : EReal)
    = lat V0 b t ⟨h * 256 + d, by have := h.isLt; have := d.isLt; omega⟩ := by
  unfold lat
  pointwise [res_main_v28, res_main_v22]

theorem v32_at (b : Fin 16) (h : Fin 4) (t : Fin 4096) (d : Fin 256) : (res_main_v32 V0 (ix4 b h t d) : EReal)
    = lat V0 b t ⟨1024 + (h * 256 + d), by have := h.isLt; have := d.isLt; omega⟩ * Ideal.ofBits .f32 0x3D800000#32 := by
  unfold lat
  pointwise [res_main_v32, res_main_v22]

theorem v158_at (b : Fin 16) (h : Fin 4) (t : Fin 4096) (d : Fin 512) : (res_main_v158 V0 (ix4 b h t d) : EReal)
    = lat V0 b t ⟨2048 + (h * 512 + d), by have := h.isLt; have := d.isLt; omega⟩ := by
  unfold lat
  pointwise [res_main_v158, res_main_v22]

theorem v0_at (i : Fin 2) (h : Fin 4) : (res_main_v0 V0 (ix2 i h) : EReal) = decay (V0 (Proc.devRef .tc main_arg2) (ix2 i h)) := by
  pointwise [res_main_v0, res_main_call0_v0, res_main_call0_call0_v3, res_main_call0_call0_cst]
  rfl

/-- The reference's projections hold the same head's queries, keys and values. -/
theorem stream (R : Reals (ctx V0) (lat V0)) (b : Fin 16) (h : Fin 4) (lf lb : ℝ)
    (hf : decay (V0 (Proc.devRef .tc main_arg2) (ix2 0 h)) = (lf : EReal)) (hb : decay (V0 (Proc.devRef .tc main_arg2) (ix2 1 h)) = (lb : EReal)) :
    Stream V0 b h lf lb (headQ (ctx V0) (lat V0) b h) (headK (ctx V0) (lat V0) b h) (headV (ctx V0) (lat V0) b h) where
  hf := (v0_at V0 0 h).trans hf
  hb := (v0_at V0 1 h).trans hb
  hqc r d := by
    have hh := h.isLt
    have hd := d.isLt
    rw [v7_at]
    unfold headQ
    rw [if_pos r.isLt]
    exact ent_coe _ _ R.h0 b r _ _ (by show h.val * 256 + d.val = _; omega) (by omega)
  hkc r d := by
    have hh := h.isLt
    have hd := d.isLt
    rw [v11_at]
    unfold headK
    rw [if_pos r.isLt]
    exact sixteenth_mul _ _ (ent_coe _ _ R.h0 b r _ _ (by show 1024 + (h.val * 256 + d.val) = _; omega) (by omega))
  hvc r d := by
    have hh := h.isLt
    have hd := d.isLt
    rw [v13_at]
    unfold headV
    rw [if_pos r.isLt]
    exact ent_coe _ _ R.h0 b r _ _ (by show 2048 + (h.val * 512 + d.val) = _; omega) (by omega)
  hq r d := by
    unfold headQ
    rw [if_neg (late r), late_sub]
    refine turnQ V0 b h (fun u x => ?_) r d
    have hh := h.isLt
    have hd := x.isLt
    rw [v28_at]
    exact ent_coe _ _ R.h1 b u _ _ (by show h.val * 256 + x.val = _; omega) (by omega)
  hk r d := by
    unfold headK
    rw [if_neg (late r), late_sub]
    refine turnK V0 b h (fun u x => ?_) r d
    have hh := h.isLt
    have hd := x.isLt
    rw [v32_at]
    exact sixteenth_mul _ _ (ent_coe _ _ R.h1 b u _ _ (by show 1024 + (h.val * 256 + x.val) = _; omega) (by omega))
  hv r d := by
    have hh := h.isLt
    have hd := d.isLt
    rw [v158_at]
    unfold headV
    rw [if_neg (late r), late_sub]
    exact ent_coe _ _ R.h1 b r _ _ (by show 2048 + (h.val * 512 + d.val) = _; omega) (by omega)

end Cert.ReferenceIdeal.Value
-- ==== Proof.Val.Tie.lean ====
/-
  The arrays the kernel leaves are the arrays the reference leaves.
-/
module

public import proofs.«01_k».proof.Proof.Val.Eq

@[expose] public section

set_option maxRecDepth 16384
set_option maxHeartbeats 4000000

noncomputable section

namespace Cert.KernelIdeal.Ret

open Cert.KernelIdeal.Gen Cert.Ret
open Idealize.ShloMosaic Idealize.ShloMosaic.TcCoe Idealize.ShloMosaic.Pointwise

variable (m : (ℓ : Loc nD τ sig) → Buf (Elt Ideal) ℓ) (c : Dev nD)
  (V0 : Valuation Cert.ReferenceIdeal.τ Cert.ReferenceIdeal.sig (Elt Ideal))

/-- The reference starts from the kernel's arguments. -/
structure Same : Prop where
  e0 : (V0 (Proc.devRef .tc Cert.ReferenceIdeal.main_arg0) : FVec Ideal Cert.KernelIdeal.S16x256x6144 .bf16) = m ((c : Thread nD τ).loc main_arg0)
  e1 : (V0 (Proc.devRef .tc Cert.ReferenceIdeal.main_arg1) : FVec Ideal Cert.KernelIdeal.S16x4096x6144 .bf16) = m ((c : Thread nD τ).loc main_arg1)
  e2 : (V0 (Proc.devRef .tc Cert.ReferenceIdeal.main_arg2) : FVec Ideal Cert.KernelIdeal.S2x4 .f32) = m ((c : Thread nD τ).loc main_arg2)
  e3 : (V0 (Proc.devRef .tc Cert.ReferenceIdeal.main_arg3) : FVec Ideal Cert.KernelIdeal.S2048 .f32) = m ((c : Thread nD τ).loc main_arg3)

variable {m c V0}

theorem ctx_eq (E : Same m c V0) : Cert.ReferenceIdeal.Value.ctx V0 = ctx m c := by
  funext b t k
  exact congrFun E.e0 (ix3 b t k)

theorem lat_eq (E : Same m c V0) : Cert.ReferenceIdeal.Value.lat V0 = lat m c := by
  funext b t k
  exact congrFun E.e1 (ix3 b t k)

/-- One head's two decays, as real numbers, with what both programs make of them. -/
theorem decays (E : Same m c V0) (D : ∀ (i : Fin 2) (j : Fin 4), ∃ r : ℝ, (m ((c : Thread nD τ).loc main_arg2) (ix2 i j) : EReal) = (r : EReal)) (t : Fin cfg0.N) :
    ∃ lf lb : ℝ, tabAt (iblk m c 0 t) (grid0.coords t 1) = tabOf (F := Ideal) (lf : EReal) (lb : EReal)
      ∧ decay (V0 (Proc.devRef .tc Cert.ReferenceIdeal.main_arg2) (ix2 0 (hOf t))) = (lf : EReal)
      ∧ decay (V0 (Proc.devRef .tc Cert.ReferenceIdeal.main_arg2) (ix2 1 (hOf t))) = (lb : EReal) := by
  have key : ∀ i : Fin 2, ∃ l : ℝ, decay (m ((c : Thread nD τ).loc main_arg2) (ix2 i (hOf t))) = (l : EReal) := fun i => by
    obtain ⟨r, hr⟩ := D i (hOf t)
    rw [hr]
    exact decay_real r
  obtain ⟨lf, hf⟩ := key 0
  obtain ⟨lb, hb⟩ := key 1
  have f0 : (iblk m c 0 t (ix2 0 (hOf t)) : EReal) = (lf : EReal) := ((blk0 m c t 0 (hOf t)).trans (lgV m c 0 (hOf t))).trans hf
  have f1 : (iblk m c 0 t (ix2 1 (hOf t)) : EReal) = (lb : EReal) := ((blk0 m c t 1 (hOf t)).trans (lgV m c 1 (hOf t))).trans hb
  refine ⟨lf, lb, ?_, ?_, ?_⟩
  · show tabOf (iblk m c 0 t (ix2 0 (hOf t))) (iblk m c 0 t (ix2 1 (hOf t))) = _
    rw [f0, f1]
  · exact (congrArg decay (congrFun E.e2 (ix2 0 (hOf t)))).trans hf
  · exact (congrArg decay (congrFun E.e2 (ix2 1 (hOf t)))).trans hb

/-- An index of a block of one batch entry. -/
theorem split3 {b c : ℕ} (y : (⟨3, ![1, b, c]⟩ : Shape).Idx) : y = ix3 0 (y 1) (y 2) := by
  funext i
  match i with
  | ⟨0, _⟩ => exact Fin.ext (by have h := (y 0).isLt; show (y 0).val = 0; change (y 0).val < 1 at h; omega)
  | ⟨1, _⟩ => rfl
  | ⟨2, _⟩ => rfl

/-- Where a step's block of the context's result lies. -/
theorem place14 (t : Fin cfg0.N) (r : Fin 256) (e : Fin 512) :
    ((win0_14.blk t).view.emb (ix3 0 r e) : (⟨3, ![16, 256, 2048]⟩ : Shape).Idx)
      = ix3 (bOf t) r ⟨512 * (hOf t).val + e.val, by have := (hOf t).isLt; have := e.isLt; omega⟩ := by
  blk_ext [idx14 t, bOf, hOf]

/-- Where a step's block of the latent tokens' result lies. -/
theorem place15 (t : Fin cfg0.N) (r : Fin 4096) (e : Fin 512) :
    ((win0_15.blk t).view.emb (ix3 0 r e) : (⟨3, ![16, 4096, 2048]⟩ : Shape).Idx)
      = ix3 (bOf t) r ⟨512 * (hOf t).val + e.val, by have := (hOf t).isLt; have := e.isLt; omega⟩ := by
  blk_ext [idx15 t, bOf, hOf]

/-- The context's result. -/
theorem tie14 (E : Same m c V0) (R : Reals (ctx m c) (lat m c))
    (D : ∀ (i : Fin 2) (j : Fin 4), ∃ r : ℝ, (m ((c : Thread nD τ).loc main_arg2) (ix2 i j) : EReal) = (r : EReal)) :
    (dats m 0 c).arrAt 14 cfg0.N = Cert.ReferenceIdeal.Value.val5 V0 (Proc.devRef .tc Cert.ReferenceIdeal.main_v240) := by
  refine (dats m 0 c).arrAt_eq_of_covers 14 _ (by decide +kernel) fun t hf y => ?_
  blk_simp
  rw [after14]
  obtain ⟨lf, lb, hT, h0, h1⟩ := decays E D t
  have S := Cert.ReferenceIdeal.Value.stream V0 (by rw [ctx_eq E, lat_eq E]; exact R) (bOf t) (hOf t) lf lb h0 h1
  rw [ctx_eq E, lat_eq E] at S
  have H := holds m c t R
  have key : ∀ (r : Fin 256) (e : Fin 512), (outC m c t (ix3 0 r e) : EReal)
      = Cert.ReferenceIdeal.Value.val5 V0 (Proc.devRef .tc Cert.ReferenceIdeal.main_v240)
          (ix3 (bOf t) r ⟨512 * (hOf t).val + e.val, by have := (hOf t).isLt; have := e.isLt; omega⟩) := fun r e => by
    refine Eq.trans ?_ (Cert.ReferenceIdeal.Value.outC S r e ⟨512 * (hOf t).val + e.val, by have := (hOf t).isLt; have := e.isLt; omega⟩ rfl).symm
    unfold outC
    rw [hT]
    refine (YC_at H _ _ r e).trans ?_
    rw [blk4 m c t r e, blk9 m c t e]
    have a : (V0 (Proc.devRef .tc Cert.ReferenceIdeal.main_arg0) (ix3 (bOf t) r ⟨4096 + (512 * (hOf t).val + e.val), by have := (hOf t).isLt; have := e.isLt; omega⟩) : EReal)
        = m ((c : Thread nD τ).loc main_arg0) (ix3 (grid0.coords t 0) r ⟨4096 + 512 * (grid0.coords t 1).val + e.val, by have := lt1 t; omega⟩) :=
      (congrFun E.e0 _).trans (congrArg (fun k => (m ((c : Thread nD τ).loc main_arg0) (ix3 (bOf t) r k) : EReal)) (Fin.ext (Nat.add_assoc _ _ _).symm))
    have g : (V0 (Proc.devRef .tc Cert.ReferenceIdeal.main_arg3) (ix1 ⟨512 * (hOf t).val + e.val, by have := (hOf t).isLt; have := e.isLt; omega⟩) : EReal)
        = m ((c : Thread nD τ).loc main_arg3) (ix1 ⟨512 * (grid0.coords t 1).val + e.val, by have := lt1 t; omega⟩) :=
      congrFun E.e3 _
    exact congrArg₂ (fun x z => nrm _ x z e) a.symm g.symm
  exact (congrArg (outC m c t) (split3 y)).trans ((key _ _).trans (congrArg _ ((congrArg _ (split3 y)).trans (place14 t _ _)).symm))

/-- The latent tokens' result. -/
theorem tie15 (E : Same m c V0) (R : Reals (ctx m c) (lat m c))
    (D : ∀ (i : Fin 2) (j : Fin 4), ∃ r : ℝ, (m ((c : Thread nD τ).loc main_arg2) (ix2 i j) : EReal) = (r : EReal)) :
    (dats m 0 c).arrAt 15 cfg0.N = Cert.ReferenceIdeal.Value.val5 V0 (Proc.devRef .tc Cert.ReferenceIdeal.main_v264) := by
  refine (dats m 0 c).arrAt_eq_of_covers 15 _ (by decide +kernel) fun t hf y => ?_
  blk_simp
  rw [after15]
  obtain ⟨lf, lb, hT, h0, h1⟩ := decays E D t
  have S := Cert.ReferenceIdeal.Value.stream V0 (by rw [ctx_eq E, lat_eq E]; exact R) (bOf t) (hOf t) lf lb h0 h1
  rw [ctx_eq E, lat_eq E] at S
  have H := holds m c t R
  have key : ∀ (r : Fin 4096) (e : Fin 512), (outL m c t (ix3 0 r e) : EReal)
      = Cert.ReferenceIdeal.Value.val5 V0 (Proc.devRef .tc Cert.ReferenceIdeal.main_v264)
          (ix3 (bOf t) r ⟨512 * (hOf t).val + e.val, by have := (hOf t).isLt; have := e.isLt; omega⟩) := fun r e => by
    refine Eq.trans ?_ (Cert.ReferenceIdeal.Value.outL S r e ⟨512 * (hOf t).val + e.val, by have := (hOf t).isLt; have := e.isLt; omega⟩ rfl).symm
    unfold outL
    rw [hT]
    refine (YL_at H _ _ r e).trans ?_
    rw [blk8 m c t r e, blk9 m c t e]
    have a : (V0 (Proc.devRef .tc Cert.ReferenceIdeal.main_arg1) (ix3 (bOf t) r ⟨4096 + (512 * (hOf t).val + e.val), by have := (hOf t).isLt; have := e.isLt; omega⟩) : EReal)
        = m ((c : Thread nD τ).loc main_arg1) (ix3 (grid0.coords t 0) r ⟨4096 + 512 * (grid0.coords t 1).val + e.val, by have := lt1 t; omega⟩) :=
      (congrFun E.e1 _).trans (congrArg (fun k => (m ((c : Thread nD τ).loc main_arg1) (ix3 (bOf t) r k) : EReal)) (Fin.ext (Nat.add_assoc _ _ _).symm))
    have g : (V0 (Proc.devRef .tc Cert.ReferenceIdeal.main_arg3) (ix1 ⟨512 * (hOf t).val + e.val, by have := (hOf t).isLt; have := e.isLt; omega⟩) : EReal)
        = m ((c : Thread nD τ).loc main_arg3) (ix1 ⟨512 * (grid0.coords t 1).val + e.val, by have := lt1 t; omega⟩) :=
      congrFun E.e3 _
    exact congrArg₂ (fun x z => nrm _ x z e) a.symm g.symm
  exact (congrArg (outL m c t) (split3 y)).trans ((key _ _).trans (congrArg _ ((congrArg _ (split3 y)).trans (place15 t _ _)).symm))

end Cert.KernelIdeal.Ret
-- ==== Proof.lean ====
/-
  The assembly: the frames of the kernel and of its idealization from the run of its body, the frame of the reference
  from its run, and the equality of the two programs' results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Ffn.Tie
public import proofs.«01_k».proof.Proof.Gen.Project.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Project.Tie
public import proofs.«01_k».proof.Proof.Gen.Output.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.Output.Tie
public import proofs.«01_k».proof.Proof.Gen.GatedProject.Frame
public import proofs.«01_k».proof.Proof.Gen.GatedProjectIdeal.Value
public import proofs.«01_k».proof.Proof.Gen.GatedProjectReferenceIdeal
public import proofs.«01_k».proof.Proof.Gen.GatedProjectReferenceIdeal.Run
public import proofs.«01_k».proof.Proof.GatedProject.Tie
public import proofs.«01_k».proof.Proof.Gen.StateProject.Frame
public import proofs.«01_k».proof.Proof.Gen.StateProjectIdeal.Value
public import proofs.«01_k».proof.Proof.Gen.StateProjectReferenceIdeal
public import proofs.«01_k».proof.Proof.Gen.StateProjectReferenceIdeal.Run
public import proofs.«01_k».proof.Proof.StateProject.Tie
public import proofs.«01_k».proof.Proof.Gen.NarrowOutput.Frame
public import proofs.«01_k».proof.Proof.Gen.NarrowOutputIdeal.Value
public import proofs.«01_k».proof.Proof.Gen.NarrowOutputReferenceIdeal
public import proofs.«01_k».proof.Proof.Gen.NarrowOutputReferenceIdeal.Run
public import proofs.«01_k».proof.Proof.NarrowOutput.Tie
public import proofs.«01_k».proof.Proof.Gen.Modulation.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Modulation.Tie
public import proofs.«01_k».proof.Proof.Ret.Launch
public import proofs.«01_k».proof.Proof.RetK.Launch
public import proofs.«01_k».proof.Proof.Val.Tie
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and every counter at zero. -/
theorem frame_reference : Cert.quiescent_ReferenceIdeal (hReferenceIdeal := Cert.ReferenceIdeal.Gen.facts) :=
  fun m g _ => (θ_run _ _ _).mono (fun r h => ⟨fun c => (h c).2.2, sem_eq_zero_of_no_sems (by decide) _⟩)
    (Cert.ReferenceIdeal.Value.run m g)

/-- The kernel's run leaves in its two result arrays what the reference's run leaves in its own. -/
theorem equal : Cert.algebraic_KernelIdeal_ReferenceIdeal_pre_finite (hKernelIdeal := Cert.KernelIdeal.Gen.facts)
    (hReferenceIdeal := Cert.ReferenceIdeal.Gen.facts) (hPre_finite := Cert.Ret.preFacts) := fun m g m' g' hpre hagree => by
  have tie : ∀ c, Cert.KernelIdeal.Ret.Same m c (StableHlo.launchContents m' c) := fun c => ⟨(hagree c).1, (hagree c).2.1, (hagree c).2.2.1, (hagree c).2.2.2⟩
  haveI := Cert.Ret.preFacts
  have real : ∀ c : Dev Cert.KernelIdeal.nD, _ := fun c => Cert.Ret.real_entries (hpre c)
  refine ⟨_, _, (θ_run _ _ _).mono (fun r h c => ⟨(h.1 c).1 14, (h.1 c).1 15, h.2.1 c⟩)
      (θ_run_and (Cert.KernelIdeal.Ret.ran m g) (Cert.KernelIdeal.Ret.framed m g)),
    (θ_run _ _ _).mono (fun r h c => ⟨?_, ?_, (h c).2.2⟩) (Cert.ReferenceIdeal.Value.run m' g')⟩
  · exact ((h c).1.trans (Cert.ReferenceIdeal.Value.val5_main_v240 _).symm).trans
      (Cert.KernelIdeal.Ret.tie14 (tie c) ⟨(real c).1, (real c).2.1⟩ (real c).2.2).symm
  · exact ((h c).2.1.trans (Cert.ReferenceIdeal.Value.val5_main_v264 _).symm).trans
      (Cert.KernelIdeal.Ret.tie15 (tie c) ⟨(real c).1, (real c).2.1⟩ (real c).2.2).symm

/-- The reference of `Ffn` runs, leaves its arguments as they were and every counter at zero. -/
theorem frame_ffnReference : Cert.quiescent_FfnReferenceIdeal (hFfnReferenceIdeal := Cert.FfnReferenceIdeal.Gen.facts) :=
  fun m g _ => (θ_run _ _ _).mono (fun r h => ⟨fun c => (h c).2, sem_eq_zero_of_no_sems (by decide) _⟩)
    (Cert.FfnReferenceIdeal.Value.run m g)

/-- The array `Ffn` leaves is its reference's result. -/
theorem equal_ffn : Cert.algebraic_FfnIdeal_FfnReferenceIdeal (hFfnIdeal := Cert.FfnIdeal.Gen.facts) (hFfnReferenceIdeal := Cert.FfnReferenceIdeal.Gen.facts) :=
  fun m g m' g' _ hagree => by
  refine ⟨_, Cert.FfnIdeal.Value.run_blocks m g,
    (θ_run _ _ _).mono (fun r h c => ⟨(h c).1.trans ?_, (h c).2⟩) (Cert.FfnReferenceIdeal.Value.run m' g')⟩
  obtain ⟨h0, h1, h2, h3, h4, h5, h6, h7, h8, h9⟩ := hagree c
  refine Eq.trans ?_ (Cert.FfnIdeal.Entry.final m c).symm
  rw [Cert.FfnReferenceIdeal.Entry.res_eq m' c]
  rw [h0, h1, h2, h3, h4, h5, h6, h7, h8, h9]
  rfl

/-- The reference of `Project` runs, leaves its arguments as they were and every counter at zero. -/
theorem frame_projectReference : Cert.quiescent_ProjectReferenceIdeal (hProjectReferenceIdeal := Cert.ProjectReferenceIdeal.Gen.facts) :=
  fun m g _ => (θ_run _ _ _).mono (fun r h => ⟨fun c => (h c).2, sem_eq_zero_of_no_sems (by decide) _⟩)
    (Cert.ProjectReferenceIdeal.Value.run m g)

/-- The array `Project` leaves is its reference's result. -/
theorem equal_project : Cert.algebraic_ProjectIdeal_ProjectReferenceIdeal (hProjectIdeal := Cert.ProjectIdeal.Gen.facts) (hProjectReferenceIdeal := Cert.ProjectReferenceIdeal.Gen.facts) :=
  fun m g m' g' _ hagree => by
  refine ⟨_, Cert.ProjectIdeal.Value.run_blocks m g,
    (θ_run _ _ _).mono (fun r h c => ⟨(h c).1.trans ?_, (h c).2⟩) (Cert.ProjectReferenceIdeal.Value.run m' g')⟩
  obtain ⟨h0, h1, h2, h3, h4⟩ := hagree c
  refine Eq.trans ?_ (Cert.ProjectIdeal.Entry.final m c).symm
  rw [h0, h1, h2, h3, h4]
  rfl

/-- The reference of `Output` runs, leaves its arguments as they were and every counter at zero. -/
theorem frame_outputReference : Cert.quiescent_OutputReferenceIdeal (hOutputReferenceIdeal := Cert.OutputReferenceIdeal.Gen.facts) :=
  fun m g _ => (θ_run _ _ _).mono (fun r h => ⟨fun c => (h c).2, sem_eq_zero_of_no_sems (by decide) _⟩)
    (Cert.OutputReferenceIdeal.Value.run m g)

/-- The array `Output` leaves is its reference's result. -/
theorem equal_output : Cert.algebraic_OutputIdeal_OutputReferenceIdeal (hOutputIdeal := Cert.OutputIdeal.Gen.facts) (hOutputReferenceIdeal := Cert.OutputReferenceIdeal.Gen.facts) :=
  fun m g m' g' _ hagree => by
  refine ⟨_, Cert.OutputIdeal.Value.run_blocks m g,
    (θ_run _ _ _).mono (fun r h c => ⟨(h c).1.trans ?_, (h c).2⟩) (Cert.OutputReferenceIdeal.Value.run m' g')⟩
  obtain ⟨h0, h1, h2, h3, h4⟩ := hagree c
  refine Eq.trans ?_ (Cert.OutputIdeal.Entry.final m c).symm
  rw [h0, h1, h2, h3, h4]
  rfl

/-- The reference of `GatedProject` runs, leaves its arguments as they were and every counter at zero. -/
theorem frame_gatedProjectReference : Cert.quiescent_GatedProjectReferenceIdeal (hGatedProjectReferenceIdeal := Cert.GatedProjectReferenceIdeal.Gen.facts) :=
  fun m g _ => (θ_run _ _ _).mono (fun r h => ⟨fun c => (h c).2.2, sem_eq_zero_of_no_sems (by decide) _⟩)
    (Cert.GatedProjectReferenceIdeal.Value.run m g)

/-- The array `GatedProject` leaves is its reference's result. -/
theorem equal_gatedProject : Cert.algebraic_GatedProjectIdeal_GatedProjectReferenceIdeal (hGatedProjectIdeal := Cert.GatedProjectIdeal.Gen.facts) (hGatedProjectReferenceIdeal := Cert.GatedProjectReferenceIdeal.Gen.facts) :=
  fun m g m' g' _ hagree => by
  refine ⟨_, _, Cert.GatedProjectIdeal.Value.run_blocks m g,
    (θ_run _ _ _).mono (fun r h c => ⟨(h c).1.trans ?_, (h c).2.1.trans ?_, (h c).2.2⟩) (Cert.GatedProjectReferenceIdeal.Value.run m' g')⟩
  all_goals obtain ⟨h0, h1, h2, h3, h4⟩ := hagree c
  · refine Eq.trans ?_ (Cert.GatedProjectIdeal.Entry.final6 m c).symm
    unfold Cert.GatedProjectReferenceIdeal.Value.res_main_v26
    rw [h0, h1, h2, h3, h4]
    rfl
  · refine Eq.trans ?_ (Cert.GatedProjectIdeal.Entry.final7 m c).symm
    rw [h0, h1, h2, h3, h4]
    rfl

/-- The reference of `StateProject` runs, leaves its arguments as they were and every counter at zero. -/
theorem frame_stateProjectReference : Cert.quiescent_StateProjectReferenceIdeal (hStateProjectReferenceIdeal := Cert.StateProjectReferenceIdeal.Gen.facts) :=
  fun m g _ => (θ_run _ _ _).mono (fun r h => ⟨fun c => (h c).2.2, sem_eq_zero_of_no_sems (by decide) _⟩)
    (Cert.StateProjectReferenceIdeal.Value.run m g)

/-- The array `StateProject` leaves is its reference's result. -/
theorem equal_stateProject : Cert.algebraic_StateProjectIdeal_StateProjectReferenceIdeal (hStateProjectIdeal := Cert.StateProjectIdeal.Gen.facts) (hStateProjectReferenceIdeal := Cert.StateProjectReferenceIdeal.Gen.facts) :=
  fun m g m' g' _ hagree => by
  refine ⟨_, _, Cert.StateProjectIdeal.Value.run_blocks m g,
    (θ_run _ _ _).mono (fun r h c => ⟨(h c).1.trans ?_, (h c).2.1.trans ?_, (h c).2.2⟩) (Cert.StateProjectReferenceIdeal.Value.run m' g')⟩
  all_goals obtain ⟨h0, h1, h2, h3, h4⟩ := hagree c
  · refine Eq.trans ?_ (Cert.StateProjectIdeal.Entry.final6 m c).symm
    rw [h0, h1, h2, h3, h4]
    rfl
  · refine Eq.trans ?_ (Cert.StateProjectIdeal.Entry.final7 m c).symm
    rw [h0, h1, h2, h3, h4]
    rfl

/-- The reference of `NarrowOutput` runs, leaves its arguments as they were and every counter at zero. -/
theorem frame_narrowOutputReference : Cert.quiescent_NarrowOutputReferenceIdeal (hNarrowOutputReferenceIdeal := Cert.NarrowOutputReferenceIdeal.Gen.facts) :=
  fun m g _ => (θ_run _ _ _).mono (fun r h => ⟨fun c => (h c).2, sem_eq_zero_of_no_sems (by decide) _⟩)
    (Cert.NarrowOutputReferenceIdeal.Value.run m g)

/-- The array `NarrowOutput` leaves is its reference's result. -/
theorem equal_narrowOutput : Cert.algebraic_NarrowOutputIdeal_NarrowOutputReferenceIdeal (hNarrowOutputIdeal := Cert.NarrowOutputIdeal.Gen.facts) (hNarrowOutputReferenceIdeal := Cert.NarrowOutputReferenceIdeal.Gen.facts) :=
  fun m g m' g' _ hagree => by
  refine ⟨_, Cert.NarrowOutputIdeal.Value.run_blocks m g,
    (θ_run _ _ _).mono (fun r h c => ⟨(h c).1.trans ?_, (h c).2⟩) (Cert.NarrowOutputReferenceIdeal.Value.run m' g')⟩
  obtain ⟨h0, h1, h2, h3, h4⟩ := hagree c
  refine Eq.trans ?_ (Cert.NarrowOutputIdeal.Entry.final m c).symm
  rw [h0, h1, h2, h3, h4]
  rfl

/-- The reference of `Modulation` runs, leaves its arguments as they were and every counter at zero. -/
theorem frame_modulationReference : Cert.quiescent_ModulationReferenceIdeal (hModulationReferenceIdeal := Cert.ModulationReferenceIdeal.Gen.facts) :=
  fun m g _ => (θ_run _ _ _).mono (fun r h => ⟨fun c => (h c).2, sem_eq_zero_of_no_sems (by decide) _⟩)
    (Cert.ModulationReferenceIdeal.Value.run m g)

/-- The array `Modulation` leaves is its reference's result. -/
theorem equal_modulation : Cert.algebraic_ModulationIdeal_ModulationReferenceIdeal (hModulationIdeal := Cert.ModulationIdeal.Gen.facts) (hModulationReferenceIdeal := Cert.ModulationReferenceIdeal.Gen.facts) :=
  fun m g m' g' _ hagree => by
  refine ⟨_, Cert.ModulationIdeal.Value.run_blocks m g,
    (θ_run _ _ _).mono (fun r h c => ⟨(h c).1.trans ?_, (h c).2⟩) (Cert.ModulationReferenceIdeal.Value.run m' g')⟩
  obtain ⟨h0, h1, h2, h3⟩ := hagree c
  refine Eq.trans ?_ (Cert.ModulationIdeal.Entry.final m c).symm
  rw [h0, h1, h2, h3]
  rfl

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Project.Gen.facts, Cert.ProjectIdeal.Gen.facts, Cert.ProjectReferenceIdeal.Gen.facts,
  Cert.Output.Gen.facts, Cert.OutputIdeal.Gen.facts, Cert.OutputReferenceIdeal.Gen.facts,
  Cert.GatedProject.Gen.facts, Cert.GatedProjectIdeal.Gen.facts, Cert.GatedProjectReferenceIdeal.Gen.facts,
  Cert.StateProject.Gen.facts, Cert.StateProjectIdeal.Gen.facts, Cert.StateProjectReferenceIdeal.Gen.facts,
  Cert.NarrowOutput.Gen.facts, Cert.NarrowOutputIdeal.Gen.facts, Cert.NarrowOutputReferenceIdeal.Gen.facts,
  Cert.Modulation.Gen.facts, Cert.ModulationIdeal.Gen.facts, Cert.ModulationReferenceIdeal.Gen.facts,
  Cert.Ret.preFacts,
  fun m g _ => Cert.Kernel.Ret.framed m g, fun m g _ => Cert.KernelIdeal.Ret.framed m g, fun m g _ => Cert.KernelIdeal.Ret.framed m g,
  frame_reference, fun m g _ => frame_reference m g trivial,
  fun m ρ _ => Cert.Ffn.Gen.frame m ρ, fun m ρ _ => Cert.FfnIdeal.Gen.frame m ρ, frame_ffnReference,
  fun m ρ _ => Cert.Project.Gen.frame m ρ, fun m ρ _ => Cert.ProjectIdeal.Gen.frame m ρ, frame_projectReference,
  fun m ρ _ => Cert.Output.Gen.frame m ρ, fun m ρ _ => Cert.OutputIdeal.Gen.frame m ρ, frame_outputReference,
  fun m ρ _ => Cert.GatedProject.Gen.frame m ρ, fun m ρ _ => Cert.GatedProjectIdeal.Gen.frame m ρ, frame_gatedProjectReference,
  fun m ρ _ => Cert.StateProject.Gen.frame m ρ, fun m ρ _ => Cert.StateProjectIdeal.Gen.frame m ρ, frame_stateProjectReference,
  fun m ρ _ => Cert.NarrowOutput.Gen.frame m ρ, fun m ρ _ => Cert.NarrowOutputIdeal.Gen.frame m ρ, frame_narrowOutputReference,
  fun m ρ _ => Cert.Modulation.Gen.frame m ρ, fun m ρ _ => Cert.ModulationIdeal.Gen.frame m ρ, frame_modulationReference,
  trivial, equal, trivial, equal_ffn, trivial, equal_project, trivial, equal_output, trivial, equal_gatedProject, trivial, equal_stateProject, trivial, equal_narrowOutput, trivial, equal_modulation⟩

end Cert.Proof

end
